-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_FfnEnd (m : (ℓ : Loc Cert.FfnEnd.nD Cert.FfnEnd.τ Cert.FfnEnd.sig) → Buf (Elt Bits) ℓ) : Prop :=
  True

def Pre_FfnEndIdeal (m : (ℓ : Loc Cert.FfnEndIdeal.nD Cert.FfnEndIdeal.τ Cert.FfnEndIdeal.sig) → Buf (Elt Ideal) ℓ) : Prop :=
  True

def Pre_FfnEndRefIdeal (m : (ℓ : Loc Cert.FfnEndRefIdeal.nD Cert.FfnEndRefIdeal.τ Cert.FfnEndRefIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_FfnEnd [hFfnEnd : Cert.FfnEnd.Facts] : Prop :=
  ∀ (m : (ℓ : Loc Cert.FfnEnd.nD Cert.FfnEnd.τ Cert.FfnEnd.sig) → Buf (Elt Bits) ℓ) (g : Dev Cert.FfnEnd.nD → PrngReg), Pre_FfnEnd m →
    θ_run (Cert.FfnEnd.defs (F := Bits)) (onTc (τ := Cert.FfnEnd.τ) (Cert.FfnEnd.main (F := Bits))) ⟨m, fun _ => 0, g⟩ (fun r => (∀ c : Dev Cert.FfnEnd.nD,
      r.2.mem ((c.tc : Thread Cert.FfnEnd.nD Cert.FfnEnd.τ).loc Cert.FfnEnd.main_arg0) = m ((c.tc : Thread Cert.FfnEnd.nD Cert.FfnEnd.τ).loc Cert.FfnEnd.main_arg0)
      ∧ r.2.mem ((c.tc : Thread Cert.FfnEnd.nD Cert.FfnEnd.τ).loc Cert.FfnEnd.main_arg1) = m ((c.tc : Thread Cert.FfnEnd.nD Cert.FfnEnd.τ).loc Cert.FfnEnd.main_arg1)
      ∧ r.2.mem ((c.tc : Thread Cert.FfnEnd.nD Cert.FfnEnd.τ).loc Cert.FfnEnd.main_arg2) = m ((c.tc : Thread Cert.FfnEnd.nD Cert.FfnEnd.τ).loc Cert.FfnEnd.main_arg2)
      ∧ r.2.mem ((c.tc : Thread Cert.FfnEnd.nD Cert.FfnEnd.τ).loc Cert.FfnEnd.main_arg3) = m ((c.tc : Thread Cert.FfnEnd.nD Cert.FfnEnd.τ).loc Cert.FfnEnd.main_arg3)
      ∧ r.2.mem ((c.tc : Thread Cert.FfnEnd.nD Cert.FfnEnd.τ).loc Cert.FfnEnd.main_arg4) = m ((c.tc : Thread Cert.FfnEnd.nD Cert.FfnEnd.τ).loc Cert.FfnEnd.main_arg4)
      ∧ r.2.mem ((c.tc : Thread Cert.FfnEnd.nD Cert.FfnEnd.τ).loc Cert.FfnEnd.main_arg5) = m ((c.tc : Thread Cert.FfnEnd.nD Cert.FfnEnd.τ).loc Cert.FfnEnd.main_arg5))
      ∧ r.2.sem = fun _ => 0)

def quiescent_FfnEndIdeal [hFfnEndIdeal : Cert.FfnEndIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg), Pre_FfnEndIdeal m →
    θ_run (Cert.FfnEndIdeal.defs (F := Ideal)) (onTc (τ := Cert.FfnEndIdeal.τ) (Cert.FfnEndIdeal.main (F := Ideal))) ⟨m, fun _ => 0, g⟩ (fun r => (∀ c : Dev Cert.FfnEndIdeal.nD,
      r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
      ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
      ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
      ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
      ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
      ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5))
      ∧ r.2.sem = fun _ => 0)

def quiescent_FfnEndRefIdeal [hFfnEndRefIdeal : Cert.FfnEndRefIdeal.Facts] : Prop :=
  ∀ (m : (ℓ : Loc Cert.FfnEndRefIdeal.nD Cert.FfnEndRefIdeal.τ Cert.FfnEndRefIdeal.sig) → Buf (Elt Ideal) ℓ) (g : Dev Cert.FfnEndRefIdeal.nD → PrngReg), Pre_FfnEndRefIdeal m →
    θ_run (Cert.FfnEndRefIdeal.defs (F := Ideal)) (onTc (τ := Cert.FfnEndRefIdeal.τ) (Cert.FfnEndRefIdeal.main (F := Ideal))) ⟨m, fun _ => 0, g⟩ (fun r => (∀ c : Dev Cert.FfnEndRefIdeal.nD,
      r.2.mem ((c.tc : Thread Cert.FfnEndRefIdeal.nD Cert.FfnEndRefIdeal.τ).loc Cert.FfnEndRefIdeal.main_arg0) = m ((c.tc : Thread Cert.FfnEndRefIdeal.nD Cert.FfnEndRefIdeal.τ).loc Cert.FfnEndRefIdeal.main_arg0)
      ∧ r.2.mem ((c.tc : Thread Cert.FfnEndRefIdeal.nD Cert.FfnEndRefIdeal.τ).loc Cert.FfnEndRefIdeal.main_arg1) = m ((c.tc : Thread Cert.FfnEndRefIdeal.nD Cert.FfnEndRefIdeal.τ).loc Cert.FfnEndRefIdeal.main_arg1)
      ∧ r.2.mem ((c.tc : Thread Cert.FfnEndRefIdeal.nD Cert.FfnEndRefIdeal.τ).loc Cert.FfnEndRefIdeal.main_arg2) = m ((c.tc : Thread Cert.FfnEndRefIdeal.nD Cert.FfnEndRefIdeal.τ).loc Cert.FfnEndRefIdeal.main_arg2)
      ∧ r.2.mem ((c.tc : Thread Cert.FfnEndRefIdeal.nD Cert.FfnEndRefIdeal.τ).loc Cert.FfnEndRefIdeal.main_arg3) = m ((c.tc : Thread Cert.FfnEndRefIdeal.nD Cert.FfnEndRefIdeal.τ).loc Cert.FfnEndRefIdeal.main_arg3)
      ∧ r.2.mem ((c.tc : Thread Cert.FfnEndRefIdeal.nD Cert.FfnEndRefIdeal.τ).loc Cert.FfnEndRefIdeal.main_arg4) = m ((c.tc : Thread Cert.FfnEndRefIdeal.nD Cert.FfnEndRefIdeal.τ).loc Cert.FfnEndRefIdeal.main_arg4)
      ∧ r.2.mem ((c.tc : Thread Cert.FfnEndRefIdeal.nD Cert.FfnEndRefIdeal.τ).loc Cert.FfnEndRefIdeal.main_arg5) = m ((c.tc : Thread Cert.FfnEndRefIdeal.nD Cert.FfnEndRefIdeal.τ).loc Cert.FfnEndRefIdeal.main_arg5))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6))
      ∧ r.2.sem = fun _ => 0)

def preserves_Hgrn_HgrnIdeal : Prop :=
  IdealRules.named_const.Statement Cert.HgrnIdeal.κ "log2_e" .f32 0x3FB8AA3B#32 (((Real.log 2)⁻¹ : ℝ) : EReal)

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v1_0)) (v1 : (c : Dev Cert.HgrnIdeal.nD) → Buf (Elt Ideal) ((c.tc : Thread Cert.HgrnIdeal.nD Cert.HgrnIdeal.τ).loc Cert.HgrnIdeal.main_v1_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1_0) = v0 c
          ∧ r.2.mem ((c.tc : Thread Cert.HgrnIdeal.nD Cert.HgrnIdeal.τ).loc Cert.HgrnIdeal.main_v1_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v99) = v0 c
          ∧ r.2.mem ((c.tc : Thread Cert.HgrnRefIdeal.nD Cert.HgrnRefIdeal.τ).loc Cert.HgrnRefIdeal.main_v81) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_v34) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)) (v3 : (c : Dev Cert.InProjIdeal.nD) → Buf (Elt Ideal) ((c.tc : Thread Cert.InProjIdeal.nD Cert.InProjIdeal.τ).loc Cert.InProjIdeal.main_v6_3)) (v4 : (c : Dev Cert.InProjIdeal.nD) → Buf (Elt Ideal) ((c.tc : Thread Cert.InProjIdeal.nD Cert.InProjIdeal.τ).loc Cert.InProjIdeal.main_v6_4)) (v5 : (c : Dev Cert.InProjIdeal.nD) → Buf (Elt Ideal) ((c.tc : Thread Cert.InProjIdeal.nD Cert.InProjIdeal.τ).loc Cert.InProjIdeal.main_v6_5)) (v6 : (c : Dev Cert.InProjIdeal.nD) → Buf (Elt Ideal) ((c.tc : Thread Cert.InProjIdeal.nD Cert.InProjIdeal.τ).loc Cert.InProjIdeal.main_v6_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_v6_4) = v4 c
          ∧ r.2.mem ((c.tc : Thread Cert.InProjIdeal.nD Cert.InProjIdeal.τ).loc Cert.InProjIdeal.main_v6_5) = v5 c
          ∧ r.2.mem ((c.tc : Thread Cert.InProjIdeal.nD Cert.InProjIdeal.τ).loc Cert.InProjIdeal.main_v6_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v6) = v2 c
          ∧ r.2.mem ((c.tc : Thread Cert.InProjRefIdeal.nD Cert.InProjRefIdeal.τ).loc Cert.InProjRefIdeal.main_v4) = v3 c
          ∧ r.2.mem ((c.tc : Thread Cert.InProjRefIdeal.nD Cert.InProjRefIdeal.τ).loc Cert.InProjRefIdeal.main_v8) = v4 c
          ∧ r.2.mem ((c.tc : Thread Cert.InProjRefIdeal.nD Cert.InProjRefIdeal.τ).loc Cert.InProjRefIdeal.main_v10) = v5 c
          ∧ r.2.mem ((c.tc : Thread Cert.InProjRefIdeal.nD Cert.InProjRefIdeal.τ).loc Cert.InProjRefIdeal.main_v12) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v5)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v5) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v19) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def preserves_FfnEnd_FfnEndIdeal : Prop :=
  True

def algebraic_FfnEndIdeal_FfnEndRefIdeal [hFfnEndIdeal : Cert.FfnEndIdeal.Facts] [hFfnEndRefIdeal : Cert.FfnEndRefIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg)
    (m' : (ℓ : Loc Cert.FfnEndRefIdeal.nD Cert.FfnEndRefIdeal.τ Cert.FfnEndRefIdeal.sig) → Buf (Elt Ideal) ℓ) (g' : Dev Cert.FfnEndRefIdeal.nD → PrngReg), Pre_FfnEndIdeal m →
    (∀ c : Dev Cert.FfnEndIdeal.nD,
      m' ((c.tc : Thread Cert.FfnEndRefIdeal.nD Cert.FfnEndRefIdeal.τ).loc Cert.FfnEndRefIdeal.main_arg0) = m ((c.tc : Thread Cert.FfnEndIdeal.nD Cert.FfnEndIdeal.τ).loc Cert.FfnEndIdeal.main_arg0)
      ∧ m' ((c.tc : Thread Cert.FfnEndRefIdeal.nD Cert.FfnEndRefIdeal.τ).loc Cert.FfnEndRefIdeal.main_arg1) = m ((c.tc : Thread Cert.FfnEndIdeal.nD Cert.FfnEndIdeal.τ).loc Cert.FfnEndIdeal.main_arg1)
      ∧ m' ((c.tc : Thread Cert.FfnEndRefIdeal.nD Cert.FfnEndRefIdeal.τ).loc Cert.FfnEndRefIdeal.main_arg2) = m ((c.tc : Thread Cert.FfnEndIdeal.nD Cert.FfnEndIdeal.τ).loc Cert.FfnEndIdeal.main_arg2)
      ∧ m' ((c.tc : Thread Cert.FfnEndRefIdeal.nD Cert.FfnEndRefIdeal.τ).loc Cert.FfnEndRefIdeal.main_arg3) = m ((c.tc : Thread Cert.FfnEndIdeal.nD Cert.FfnEndIdeal.τ).loc Cert.FfnEndIdeal.main_arg3)
      ∧ m' ((c.tc : Thread Cert.FfnEndRefIdeal.nD Cert.FfnEndRefIdeal.τ).loc Cert.FfnEndRefIdeal.main_arg4) = m ((c.tc : Thread Cert.FfnEndIdeal.nD Cert.FfnEndIdeal.τ).loc Cert.FfnEndIdeal.main_arg4)
      ∧ m' ((c.tc : Thread Cert.FfnEndRefIdeal.nD Cert.FfnEndRefIdeal.τ).loc Cert.FfnEndRefIdeal.main_arg5) = m ((c.tc : Thread Cert.FfnEndIdeal.nD Cert.FfnEndIdeal.τ).loc Cert.FfnEndIdeal.main_arg5)) →
    ∃ (v0 : (c : Dev Cert.FfnEndIdeal.nD) → Buf (Elt Ideal) ((c.tc : Thread Cert.FfnEndIdeal.nD Cert.FfnEndIdeal.τ).loc Cert.FfnEndIdeal.main_v8)),
      θ_run (Cert.FfnEndIdeal.defs (F := Ideal)) (onTc (τ := Cert.FfnEndIdeal.τ) (Cert.FfnEndIdeal.main (F := Ideal))) ⟨m, fun _ => 0, g⟩ (fun r => ∀ c : Dev Cert.FfnEndIdeal.nD,
          r.2.mem ((c.tc : Thread Cert.FfnEndIdeal.nD Cert.FfnEndIdeal.τ).loc Cert.FfnEndIdeal.main_v8) = v0 c
          ∧ r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
          ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
          ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
          ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
          ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
          ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5))
      ∧ θ_run (Cert.FfnEndRefIdeal.defs (F := Ideal)) (onTc (τ := Cert.FfnEndRefIdeal.τ) (Cert.FfnEndRefIdeal.main (F := Ideal))) ⟨m', fun _ => 0, g'⟩ (fun r => ∀ c : Dev Cert.FfnEndRefIdeal.nD,
          r.2.mem ((c.tc : Thread Cert.FfnEndRefIdeal.nD Cert.FfnEndRefIdeal.τ).loc Cert.FfnEndRefIdeal.main_v33) = v0 c
          ∧ r.2.mem ((c.tc : Thread Cert.FfnEndRefIdeal.nD Cert.FfnEndRefIdeal.τ).loc Cert.FfnEndRefIdeal.main_arg0) = m' ((c.tc : Thread Cert.FfnEndRefIdeal.nD Cert.FfnEndRefIdeal.τ).loc Cert.FfnEndRefIdeal.main_arg0)
          ∧ r.2.mem ((c.tc : Thread Cert.FfnEndRefIdeal.nD Cert.FfnEndRefIdeal.τ).loc Cert.FfnEndRefIdeal.main_arg1) = m' ((c.tc : Thread Cert.FfnEndRefIdeal.nD Cert.FfnEndRefIdeal.τ).loc Cert.FfnEndRefIdeal.main_arg1)
          ∧ r.2.mem ((c.tc : Thread Cert.FfnEndRefIdeal.nD Cert.FfnEndRefIdeal.τ).loc Cert.FfnEndRefIdeal.main_arg2) = m' ((c.tc : Thread Cert.FfnEndRefIdeal.nD Cert.FfnEndRefIdeal.τ).loc Cert.FfnEndRefIdeal.main_arg2)
          ∧ r.2.mem ((c.tc : Thread Cert.FfnEndRefIdeal.nD Cert.FfnEndRefIdeal.τ).loc Cert.FfnEndRefIdeal.main_arg3) = m' ((c.tc : Thread Cert.FfnEndRefIdeal.nD Cert.FfnEndRefIdeal.τ).loc Cert.FfnEndRefIdeal.main_arg3)
          ∧ r.2.mem ((c.tc : Thread Cert.FfnEndRefIdeal.nD Cert.FfnEndRefIdeal.τ).loc Cert.FfnEndRefIdeal.main_arg4) = m' ((c.tc : Thread Cert.FfnEndRefIdeal.nD Cert.FfnEndRefIdeal.τ).loc Cert.FfnEndRefIdeal.main_arg4)
          ∧ r.2.mem ((c.tc : Thread Cert.FfnEndRefIdeal.nD Cert.FfnEndRefIdeal.τ).loc Cert.FfnEndRefIdeal.main_arg5) = m' ((c.tc : Thread Cert.FfnEndRefIdeal.nD Cert.FfnEndRefIdeal.τ).loc Cert.FfnEndRefIdeal.main_arg5))

def preserves_Nsa_NsaIdeal : Prop :=
  True

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)
      ∧ m' ((c.tc : Thread Cert.BiasRefIdeal.nD Cert.BiasRefIdeal.τ).loc Cert.BiasRefIdeal.main_arg2) = m ((c.tc : Thread Cert.BiasIdeal.nD Cert.BiasIdeal.τ).loc Cert.BiasIdeal.main_arg2)) →
    ∃ (v0 : (c : Dev Cert.BiasIdeal.nD) → Buf (Elt Ideal) ((c.tc : Thread Cert.BiasIdeal.nD Cert.BiasIdeal.τ).loc Cert.BiasIdeal.main_v4)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v4) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v2) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v8_0)) (v1 : (c : Dev Cert.FrontIdeal.nD) → Buf (Elt Ideal) ((c.tc : Thread Cert.FrontIdeal.nD Cert.FrontIdeal.τ).loc Cert.FrontIdeal.main_v15_0)) (v2 : (c : Dev Cert.FrontIdeal.nD) → Buf (Elt Ideal) ((c.tc : Thread Cert.FrontIdeal.nD Cert.FrontIdeal.τ).loc Cert.FrontIdeal.main_v15_1)) (v3 : (c : Dev Cert.FrontIdeal.nD) → Buf (Elt Ideal) ((c.tc : Thread Cert.FrontIdeal.nD Cert.FrontIdeal.τ).loc Cert.FrontIdeal.main_v15_2)) (v4 : (c : Dev Cert.FrontIdeal.nD) → Buf (Elt Ideal) ((c.tc : Thread Cert.FrontIdeal.nD Cert.FrontIdeal.τ).loc Cert.FrontIdeal.main_v15_3)) (v5 : (c : Dev Cert.FrontIdeal.nD) → Buf (Elt Ideal) ((c.tc : Thread Cert.FrontIdeal.nD Cert.FrontIdeal.τ).loc Cert.FrontIdeal.main_v16)) (v6 : (c : Dev Cert.FrontIdeal.nD) → Buf (Elt Ideal) ((c.tc : Thread Cert.FrontIdeal.nD Cert.FrontIdeal.τ).loc Cert.FrontIdeal.main_v17)) (v7 : (c : Dev Cert.FrontIdeal.nD) → Buf (Elt Ideal) ((c.tc : Thread Cert.FrontIdeal.nD Cert.FrontIdeal.τ).loc Cert.FrontIdeal.main_v19)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v8_0) = v0 c
          ∧ r.2.mem ((c.tc : Thread Cert.FrontIdeal.nD Cert.FrontIdeal.τ).loc Cert.FrontIdeal.main_v15_0) = v1 c
          ∧ r.2.mem ((c.tc : Thread Cert.FrontIdeal.nD Cert.FrontIdeal.τ).loc Cert.FrontIdeal.main_v15_1) = v2 c
          ∧ r.2.mem ((c.tc : Thread Cert.FrontIdeal.nD Cert.FrontIdeal.τ).loc Cert.FrontIdeal.main_v15_2) = v3 c
          ∧ r.2.mem ((c.tc : Thread Cert.FrontIdeal.nD Cert.FrontIdeal.τ).loc Cert.FrontIdeal.main_v15_3) = v4 c
          ∧ r.2.mem ((c.tc : Thread Cert.FrontIdeal.nD Cert.FrontIdeal.τ).loc Cert.FrontIdeal.main_v16) = v5 c
          ∧ r.2.mem ((c.tc : Thread Cert.FrontIdeal.nD Cert.FrontIdeal.τ).loc Cert.FrontIdeal.main_v17) = v6 c
          ∧ r.2.mem ((c.tc : Thread Cert.FrontIdeal.nD Cert.FrontIdeal.τ).loc Cert.FrontIdeal.main_v19) = v7 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v20) = v0 c
          ∧ r.2.mem ((c.tc : Thread Cert.FrontRefIdeal.nD Cert.FrontRefIdeal.τ).loc Cert.FrontRefIdeal.main_v37) = v1 c
          ∧ r.2.mem ((c.tc : Thread Cert.FrontRefIdeal.nD Cert.FrontRefIdeal.τ).loc Cert.FrontRefIdeal.main_v40) = v2 c
          ∧ r.2.mem ((c.tc : Thread Cert.FrontRefIdeal.nD Cert.FrontRefIdeal.τ).loc Cert.FrontRefIdeal.main_v41) = v3 c
          ∧ r.2.mem ((c.tc : Thread Cert.FrontRefIdeal.nD Cert.FrontRefIdeal.τ).loc Cert.FrontRefIdeal.main_v39) = v4 c
          ∧ r.2.mem ((c.tc : Thread Cert.FrontRefIdeal.nD Cert.FrontRefIdeal.τ).loc Cert.FrontRefIdeal.main_v48) = v5 c
          ∧ r.2.mem ((c.tc : Thread Cert.FrontRefIdeal.nD Cert.FrontRefIdeal.τ).loc Cert.FrontRefIdeal.main_v49) = v6 c
          ∧ r.2.mem ((c.tc : Thread Cert.FrontRefIdeal.nD Cert.FrontRefIdeal.τ).loc Cert.FrontRefIdeal.main_v51) = v7 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6))

def Claim : Prop :=
  ∃ (hHgrn : Cert.Hgrn.Facts) (hHgrnIdeal : Cert.HgrnIdeal.Facts) (hHgrnRefIdeal : Cert.HgrnRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hCmp : Cert.Cmp.Facts) (hCmpIdeal : Cert.CmpIdeal.Facts) (hCmpRefIdeal : Cert.CmpRefIdeal.Facts) (hFfnEnd : Cert.FfnEnd.Facts) (hFfnEndIdeal : Cert.FfnEndIdeal.Facts) (hFfnEndRefIdeal : Cert.FfnEndRefIdeal.Facts) (hNsa : Cert.Nsa.Facts) (hNsaIdeal : Cert.NsaIdeal.Facts) (hBias : Cert.Bias.Facts) (hBiasIdeal : Cert.BiasIdeal.Facts) (hBiasRefIdeal : Cert.BiasRefIdeal.Facts) (hFront : Cert.Front.Facts) (hFrontIdeal : Cert.FrontIdeal.Facts) (hFrontRefIdeal : Cert.FrontRefIdeal.Facts),
    quiescent_Hgrn (hHgrn := hHgrn)
    ∧ quiescent_HgrnIdeal (hHgrnIdeal := hHgrnIdeal)
    ∧ quiescent_HgrnRefIdeal (hHgrnRefIdeal := hHgrnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Cmp (hCmp := hCmp)
    ∧ quiescent_CmpIdeal (hCmpIdeal := hCmpIdeal)
    ∧ quiescent_CmpRefIdeal (hCmpRefIdeal := hCmpRefIdeal)
    ∧ quiescent_FfnEnd (hFfnEnd := hFfnEnd)
    ∧ quiescent_FfnEndIdeal (hFfnEndIdeal := hFfnEndIdeal)
    ∧ quiescent_FfnEndRefIdeal (hFfnEndRefIdeal := hFfnEndRefIdeal)
    ∧ quiescent_Nsa (hNsa := hNsa)
    ∧ quiescent_NsaIdeal (hNsaIdeal := hNsaIdeal)
    ∧ quiescent_Bias (hBias := hBias)
    ∧ quiescent_BiasIdeal (hBiasIdeal := hBiasIdeal)
    ∧ quiescent_BiasRefIdeal (hBiasRefIdeal := hBiasRefIdeal)
    ∧ quiescent_Front (hFront := hFront)
    ∧ quiescent_FrontIdeal (hFrontIdeal := hFrontIdeal)
    ∧ quiescent_FrontRefIdeal (hFrontRefIdeal := hFrontRefIdeal)
    ∧ preserves_Hgrn_HgrnIdeal
    ∧ algebraic_HgrnIdeal_HgrnRefIdeal (hHgrnIdeal := hHgrnIdeal) (hHgrnRefIdeal := hHgrnRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Cmp_CmpIdeal
    ∧ algebraic_CmpIdeal_CmpRefIdeal (hCmpIdeal := hCmpIdeal) (hCmpRefIdeal := hCmpRefIdeal)
    ∧ preserves_FfnEnd_FfnEndIdeal
    ∧ algebraic_FfnEndIdeal_FfnEndRefIdeal (hFfnEndIdeal := hFfnEndIdeal) (hFfnEndRefIdeal := hFfnEndRefIdeal)
    ∧ preserves_Nsa_NsaIdeal
    ∧ preserves_Bias_BiasIdeal
    ∧ algebraic_BiasIdeal_BiasRefIdeal (hBiasIdeal := hBiasIdeal) (hBiasRefIdeal := hBiasRefIdeal)
    ∧ preserves_Front_FrontIdeal
    ∧ algebraic_FrontIdeal_FrontRefIdeal (hFrontIdeal := hFrontIdeal) (hFrontRefIdeal := hFrontRefIdeal)
-- ==== Hgrn.lean ====
abbrev S256x4096 : Shape := ⟨2, ![256, 4096]⟩
abbrev S2x1024 : Shape := ⟨2, ![2, 1024]⟩
abbrev S8x128 : Shape := ⟨2, ![8, 128]⟩
abbrev S32x8x128x128 : Shape := ⟨4, ![32, 8, 128, 128]⟩
abbrev S1x1024 : Shape := ⟨2, ![1, 1024]⟩
abbrev S256x1024 : Shape := ⟨2, ![256, 1024]⟩
abbrev S8x512 : Shape := ⟨2, ![8, 512]⟩
abbrev S2x512 : Shape := ⟨2, ![2, 512]⟩
abbrev S1x512 : Shape := ⟨2, ![1, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S512 : Shape := ⟨1, ![512]⟩
abbrev S1x128 : Shape := ⟨2, ![1, 128]⟩
abbrev S8x1 : Shape := ⟨2, ![8, 1]⟩
abbrev S8 : Shape := ⟨1, ![8]⟩

abbrev nBuf : Space → Nat
  | .hbm => 7
  | .vmem => 19
  | .smem => 0
  | _ => 0

abbrev bufTy : (tb : Table) → Fin (tcTables nBuf tb) → BufTy
  | .hbm, ⟨0, _⟩ => ⟨S256x4096, .f32⟩
  | .hbm, ⟨1, _⟩ => ⟨S2x1024, .f32⟩
  | .hbm, ⟨2, _⟩ => ⟨S8x128, .f32⟩
  | .hbm, ⟨3, _⟩ => ⟨S32x8x128x128, .f32⟩
  | .hbm, ⟨4, _⟩ => ⟨S1x1024, .f32⟩
  | .hbm, ⟨5, _⟩ => ⟨S256x1024, .f32⟩
  | .hbm, ⟨6, _⟩ => ⟨S32x8x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S2x512, .f32⟩
  | .local _ .vmem, ⟨9, _⟩ => ⟨S2x512, .f32⟩
  | .local _ .vmem, ⟨10, _⟩ => ⟨S1x512, .f32⟩
  | .local _ .vmem, ⟨11, _⟩ => ⟨S1x512, .f32⟩
  | .local _ .vmem, ⟨12, _⟩ => ⟨S1x4x128x128, .f32⟩
  | .local _ .vmem, ⟨13, _⟩ => ⟨S1x4x128x128, .f32⟩
  | .local _ .vmem, ⟨14, _⟩ => ⟨S8x512, .f32⟩
  | .local _ .vmem, ⟨15, _⟩ => ⟨S8x512, .f32⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![32, 2, 1], ![false, false, false]⟩

def k0_mult1 : BitVec 32 :=
  let c0_i32_6 : BitVec 32 := 0#32
  let c8_i32 : BitVec 32 := 8#32
  let v17 : BitVec 32 := Scalar.muli c0_i32_6 c8_i32
  v17
def k0_off1 : Fin 2 → Nat :=
  let c0_i32_6 : BitVec 32 := 0#32
  let c8_i32 : BitVec 32 := 8#32
  let v17 : BitVec 32 := Scalar.muli c0_i32_6 c8_i32
  let v18 : BitVec 32 := v17
  let v19 : Index := Scalar.indexCast v18
  let c0_7 : Index := 0#32
  ![v19.toNat, 0]
def k0_off2 : Fin 2 → Nat :=
  let c0_i32_6 : BitVec 32 := 0#32
  let c8_i32 : BitVec 32 := 8#32
  let v17 : BitVec 32 := Scalar.muli c0_i32_6 c8_i32
  let v18 : BitVec 32 := v17
  let v31 : Index := Scalar.indexCast v18
  let c128 : Index := 128#32
  ![v31.toNat, 128]
def k0_off3 : Fin 2 → Nat :=
  let c0_i32_6 : BitVec 32 := 0#32
  let c8_i32 : BitVec 32 := 8#32
  let v17 : BitVec 32 := Scalar.muli c0_i32_6 c8_i32
  let v18 : BitVec 32 := v17
  let v43 : Index := Scalar.indexCast v18
  let c256 : Index := 256#32
  ![v43.toNat, 256]
def k0_off4 : Fin 2 → Nat :=
  let c0_i32_6 : BitVec 32 := 0#32
  let c8_i32 : BitVec 32 := 8#32
  let v17 : BitVec 32 := Scalar.muli c0_i32_6 c8_i32
  let v18 : BitVec 32 := v17
  let v55 : Index := Scalar.indexCast v18
  let c384 : Index := 384#32
  ![v55.toNat, 384]
def k0_cond2 (i : grid0.Coords) : BitVec 1 :=
  let arg2 : BitVec 32 := BitVec.ofNat 32 (i 2).val
  let c0_i32_211 : BitVec 32 := 0#32
  let v1060 : BitVec 1 := Scalar.cmpi .eq arg2 c0_i32_211
  let v1061 : BitVec 32 := Scalar.extui v1060
  let c0_i32_212 : BitVec 32 := 0#32
  let v1062 : BitVec 1 := Scalar.cmpi .ne v1061 c0_i32_212
  v1062

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnIdeal.lean ====
variable {F : FTy → Type} [FloatOps F] [Named F]
def κ : String → Option EReal := fun
  | "log2_e" => some (((Real.log 2)⁻¹ : ℝ) : EReal)
  | _ => none
-- ==== HgrnRefIdeal.lean ====
abbrev S256x4096 : Shape := ⟨2, ![256, 4096]⟩
abbrev S2x1024 : Shape := ⟨2, ![2, 1024]⟩
abbrev S8x128 : Shape := ⟨2, ![8, 128]⟩
abbrev S32x8x128x128 : Shape := ⟨4, ![32, 8, 128, 128]⟩
abbrev S_ : Shape := ⟨0, ![]⟩
abbrev S1024 : Shape := ⟨1, ![1024]⟩
abbrev S1x1024 : Shape := ⟨2, ![1, 1024]⟩
abbrev S32x8x4096 : Shape := ⟨3, ![32, 8, 4096]⟩
abbrev S32x8x1024 : Shape := ⟨3, ![32, 8, 1024]⟩
abbrev S1x1x1024 : Shape := ⟨3, ![1, 1, 1024]⟩
abbrev S32x8x8x128 : Shape := ⟨4, ![32, 8, 8, 128]⟩
abbrev S8x8 : Shape := ⟨2, ![8, 8]⟩
abbrev S8x8x1 : Shape := ⟨3, ![8, 8, 1]⟩
abbrev S32x8x8x1x128 : Shape := ⟨5, ![32, 8, 8, 1, 128]⟩
abbrev S32x8x1x8x128 : Shape := ⟨5, ![32, 8, 1, 8, 128]⟩
abbrev S32x8x8x8x128 : Shape := ⟨5, ![32, 8, 8, 8, 128]⟩
abbrev S32x8x8x8 : Shape := ⟨4, ![32, 8, 8, 8]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S32x8x8 : Shape := ⟨3, ![32, 8, 8]⟩
abbrev S32x8x8x1 : Shape := ⟨4, ![32, 8, 8, 1]⟩
abbrev S1x1x8x128 : Shape := ⟨4, ![1, 1, 8, 128]⟩
abbrev S256x1024 : Shape := ⟨2, ![256, 1024]⟩

abbrev nBuf : Space → Nat
  | .hbm => 149
  | .vmem => 0
  | .smem => 0
  | _ => 0

abbrev hbmTy0_0 (i : Nat) : BufTy := match i % 128 with
  | 0 => ⟨S256x4096, .f32⟩
  | 1 => ⟨S2x1024, .f32⟩
  | 2 => ⟨S8x128, .f32⟩
  | 3 => ⟨S32x8x128x128, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S32x8x4096, .f32⟩
  | 24 => ⟨S32x8x1024, .f32⟩
  | 25 => ⟨S32x8x1024, .f32⟩
  | 26 => ⟨S32x8x1024, .f32⟩
  | 27 => ⟨S32x8x1024, .f32⟩
  | 28 => ⟨S_, .f32⟩
  | 29 => ⟨S1024, .f32⟩
  | 30 => ⟨S1024, .f32⟩
  | 31 => ⟨S32x8x1024, .f32⟩
  | 32 => ⟨S32x8x1024, .f32⟩
  | 33 => ⟨S_, .f32⟩
  | 34 => ⟨S32x8x1024, .f32⟩
  | 35 => ⟨S32x8x1024, .f32⟩
  | 36 => ⟨S_, .f32⟩
  | 37 => ⟨S32x8x1024, .f32⟩
  | 38 => ⟨S32x8x1024, .f32⟩
  | 39 => ⟨S1x1x1024, .f32⟩
  | 40 => ⟨S32x8x1024, .f32⟩
  | 41 => ⟨S32x8x1024, .f32⟩
  | 42 => ⟨S1x1x1024, .f32⟩
  | 43 => ⟨S32x8x1024, .f32⟩
  | 44 => ⟨S32x8x1024, .f32⟩
  | 45 => ⟨S32x8x1024, .f32⟩
  | 46 => ⟨S32x8x1024, .f32⟩
  | 47 => ⟨S_, .f32⟩
  | 48 => ⟨S32x8x1024, .f32⟩
  | 49 => ⟨S32x8x1024, .f32⟩
  | 50 => ⟨S_, .f32⟩
  | 51 => ⟨S32x8x1024, .f32⟩
  | 52 => ⟨S32x8x1024, .f32⟩
  | 53 => ⟨S32x8x1024, .f32⟩
  | 54 => ⟨S_, .f32⟩
  | 55 => ⟨S32x8x1024, .f32⟩
  | 56 => ⟨S32x8x1024, .f32⟩
  | 57 => ⟨S32x8x8x128, .f32⟩
  | 58 => ⟨S32x8x8x128, .f32⟩
  | 59 => ⟨S_, .f32⟩
  | 60 => ⟨S32x8x1024, .f32⟩
  | 61 => ⟨S32x8x1024, .f32⟩
  | 62 => ⟨S32x8x8x128, .f32⟩
  | 63 => ⟨S32x8x8x128, .f32⟩
  | 64 => ⟨S32x8x8x128, .f32⟩
  | 65 => ⟨S32x8x8x128, .f32⟩
  | 66 => ⟨S32x8x1024, .f32⟩
  | 67 => ⟨S32x8x8x128, .f32⟩
  | 68 => ⟨S32x8x8x128, .f32⟩
  | 69 => ⟨S_, .i1⟩
  | 70 => ⟨S8x8, .i1⟩
  | 71 => ⟨S8x8, .i32⟩
  | 72 => ⟨S_, .i32⟩
  | 73 => ⟨S8x8, .i32⟩
  | 74 => ⟨S8x8, .i32⟩
  | 75 => ⟨S8x8, .i32⟩
  | 76 => ⟨S8x8, .i1⟩
  | 77 => ⟨S_, .i1⟩
  | 78 => ⟨S8x8, .i1⟩
  | 79 => ⟨S8x8, .i1⟩
  | 80 => ⟨S8x8x1, .i1⟩
  | 81 => ⟨S_, .f32⟩
  | 82 => ⟨S_, .f32⟩
  | 83 => ⟨S32x8x8x128, .f32⟩
  | 84 => ⟨S32x8x8x128, .f32⟩
  | 85 => ⟨S32x8x8x128, .f32⟩
  | 86 => ⟨S32x8x8x128, .f32⟩
  | 87 => ⟨S32x8x8x1x128, .f32⟩
  | 88 => ⟨S32x8x1x8x128, .f32⟩
  | 89 => ⟨S32x8x8x8x128, .f32⟩
  | 90 => ⟨S32x8x8x8x128, .f32⟩
  | 91 => ⟨S32x8x8x8x128, .f32⟩
  | 92 => ⟨S_, .f32⟩
  | 93 => ⟨S_, .f32⟩
  | 94 => ⟨S32x8x8x8x128, .i1⟩
  | 95 => ⟨S32x8x8x8x128, .f32⟩
  | 96 => ⟨S32x8x8x8x128, .f32⟩
  | 97 => ⟨S32x8x8x8x128, .f32⟩
  | 98 => ⟨S32x8x8x1x128, .f32⟩
  | 99 => ⟨S32x8x1x8x128, .f32⟩
  | 100 => ⟨S32x8x8x8x128, .f32⟩
  | 101 => ⟨S32x8x8x8x128, .f32⟩
  | 102 => ⟨S32x8x8x8x128, .f32⟩
  | 103 => ⟨S32x8x8x8x128, .f32⟩
  | 104 => ⟨S_, .f32⟩
  | 105 => ⟨S32x8x8x8, .f32⟩
  | 106 => ⟨S32x8x8x128, .f32⟩
  | 107 => ⟨S32x8x8x128, .f32⟩
  | 108 => ⟨S32x8x1x128, .f32⟩
  | 109 => ⟨S32x8x128, .f32⟩
  | 110 => ⟨S32x8x128x1, .f32⟩
  | 111 => ⟨S32x8x128x1, .f32⟩
  | 112 => ⟨S32x8x128x128, .f32⟩
  | 113 => ⟨S32x8x128x128, .f32⟩
  | 114 => ⟨S32x8x8x128, .f32⟩
  | 115 => ⟨S32x8x8x128, .f32⟩
  | 116 => ⟨S32x8x8x128, .f32⟩
  | 117 => ⟨S32x8x8x128, .f32⟩
  | 118 => ⟨S32x8x128x128, .f32⟩
  | 119 => ⟨S32x8x128x128, .f32⟩
  | 120 => ⟨S32x8x8x128, .f32⟩
  | 121 => ⟨S32x8x8x128, .f32⟩
  | 122 => ⟨S_, .f32⟩
  | 123 => ⟨S32x8x8, .f32⟩
  | 124 => ⟨S32x8x8x1, .f32⟩
  | 125 => ⟨S_, .f32⟩
  | 126 => ⟨S32x8x8x1, .f32⟩
  | 127 => ⟨S32x8x8x1, .f32⟩
  | _ => ⟨S256x4096, .f32⟩

abbrev hbmTy0_1 (i : Nat) : BufTy := match i % 128 with
  | 0 => ⟨S_, .f32⟩
  | 1 => ⟨S32x8x8x1, .f32⟩
  | 2 => ⟨S32x8x8x1, .f32⟩
  | 3 => ⟨S32x8x8x1, .f32⟩
  | 4 => ⟨S32x8x8x128, .f32⟩
  | 5 => ⟨S32x8x8x128, .f32⟩
  | 6 => ⟨S1x1x8x128, .f32⟩
  | 7 => ⟨S32x8x8x128, .f32⟩
  | 8 => ⟨S32x8x8x128, .f32⟩
  | 9 => ⟨S32x8x1024, .f32⟩
  | 10 => ⟨S32x8x1024, .f32⟩
  | 11 => ⟨S32x8x1024, .f32⟩
  | 12 => ⟨S_, .f32⟩
  | 13 => ⟨S32x8x1024, .f32⟩
  | 14 => ⟨S32x8x1024, .f32⟩
  | 15 => ⟨S_, .f32⟩
  | 16 => ⟨S32x8x1024, .f32⟩
  | 17 => ⟨S32x8x1024, .f32⟩
  | 18 => ⟨S32x8x1024, .f32⟩
  | 19 => ⟨S32x8x1024, .f32⟩
  | 20 => ⟨S256x1024, .f32⟩
  | _ => ⟨S256x4096, .f32⟩

abbrev hbmTy (i : Nat) : BufTy := match i / 128 with
  | 0 => hbmTy0_0 i
  | 1 => hbmTy0_1 i
  | _ => ⟨S256x4096, .f32⟩

abbrev bufTy : (tb : Table) → Fin (tcTables nBuf tb) → BufTy
  | .hbm, ⟨i, _⟩ => hbmTy i
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c : Ref sig .tc := ⟨.hbm, 69, rfl⟩
abbrev main_v47 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_0 : Ref sig .tc := ⟨.hbm, 77, rfl⟩
abbrev main_call2_v5 : Ref sig .tc := ⟨.hbm, 78, rfl⟩
abbrev main_v48 : Ref sig .tc := ⟨.hbm, 79, rfl⟩
abbrev main_v49 : Ref sig .tc := ⟨.hbm, 80, rfl⟩
abbrev main_call3_call0_cst : Ref sig .tc := ⟨.hbm, 81, rfl⟩
abbrev main_call3_call0_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_8 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_9 : Ref sig .tc := ⟨.hbm, 122, rfl⟩
abbrev main_v84 : Ref sig .tc := ⟨.hbm, 123, rfl⟩
abbrev main_v85 : Ref sig .tc := ⟨.hbm, 124, rfl⟩
abbrev main_cst_10 : Ref sig .tc := ⟨.hbm, 125, rfl⟩
abbrev main_v86 : Ref sig .tc := ⟨.hbm, 126, rfl⟩
abbrev main_v87 : Ref sig .tc := ⟨.hbm, 127, rfl⟩
abbrev main_cst_11 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_call5_v5 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x5504, .bf16⟩
  | .hbm, ⟨11, _⟩ => ⟨S_, .i32⟩
  | .hbm, ⟨12, _⟩ => ⟨S_, .bf16⟩
  | .hbm, ⟨13, _⟩ => ⟨S2048x5632, .bf16⟩
  | .hbm, ⟨14, _⟩ => ⟨S5504x2048, .bf16⟩
  | .hbm, ⟨15, _⟩ => ⟨S_, .i32⟩
  | .hbm, ⟨16, _⟩ => ⟨S_, .bf16⟩
  | .hbm, ⟨17, _⟩ => ⟨S5632x2048, .bf16⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InProj.lean ====
abbrev S16384x2048 : Shape := ⟨2, ![16384, 2048]⟩
abbrev S2048x6680 : Shape := ⟨2, ![2048, 6680]⟩
abbrev S2048x24 : Shape := ⟨2, ![2048, 24]⟩
abbrev S2048x2560 : Shape := ⟨2, ![2048, 2560]⟩
abbrev S2048x4096 : Shape := ⟨2, ![2048, 4096]⟩
abbrev S_ : Shape := ⟨0, ![]⟩
abbrev S2048x512 : Shape := ⟨2, ![2048, 512]⟩
abbrev S2048x7168 : Shape := ⟨2, ![2048, 7168]⟩
abbrev S16384x2560 : Shape := ⟨2, ![16384, 2560]⟩
abbrev S16384x4096 : Shape := ⟨2, ![16384, 4096]⟩
abbrev S16384x128 : Shape := ⟨2, ![16384, 128]⟩
abbrev S65536x128 : Shape := ⟨2, ![65536, 128]⟩
abbrev S1024x2048 : Shape := ⟨2, ![1024, 2048]⟩
abbrev S1024x512 : Shape := ⟨2, ![1024, 512]⟩
abbrev S1024x128 : Shape := ⟨2, ![1024, 128]⟩
abbrev S4096x128 : Shape := ⟨2, ![4096, 128]⟩

abbrev nBuf : Space → Nat
  | .hbm => 17
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S2048x6680, .f32⟩
  | .hbm, ⟨2, _⟩ => ⟨S2048x24, .f32⟩
  | .hbm, ⟨3, _⟩ => ⟨S2048x2560, .f32⟩
  | .hbm, ⟨4, _⟩ => ⟨S2048x4096, .f32⟩
  | .hbm, ⟨5, _⟩ => ⟨S_, .i32⟩
  | .hbm, ⟨6, _⟩ => ⟨S_, .f32⟩
  | .hbm, ⟨7, _⟩ => ⟨S2048x512, .f32⟩
  | .hbm, ⟨8, _⟩ => ⟨S2048x7168, .f32⟩
  | .hbm, ⟨9, _⟩ => ⟨S2048x7168, .bf16⟩
  | .hbm, ⟨10, _⟩ => ⟨S16384x2560, .f32⟩
  | .hbm, ⟨11, _⟩ => ⟨S16384x2560, .bf16⟩
  | .hbm, ⟨12, _⟩ => ⟨S16384x4096, .f32⟩
  | .hbm, ⟨13, _⟩ => ⟨S16384x128, .f32⟩
  | .hbm, ⟨14, _⟩ => ⟨S65536x128, .f32⟩
  | .hbm, ⟨15, _⟩ => ⟨S65536x128, .f32⟩
  | .hbm, ⟨16, _⟩ => ⟨S65536x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev main_v6_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .eq arg1 c2_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c5_i32 : BitVec 32 := 5#32
  let v12 : BitVec 1 := Scalar.cmpi .sge arg1 c5_i32
  let c13_i32 : BitVec 32 := 13#32
  let v13 : BitVec 1 := Scalar.cmpi .slt arg1 c13_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond6 (i : grid0.Coords) : BitVec 1 :=
  let arg1 : BitVec 32 := BitVec.ofNat 32 (i 1).val
  let c13_i32_5 : BitVec 32 := 13#32
  let v17 : BitVec 1 := Scalar.cmpi .eq arg1 c13_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InProjRefIdeal.lean ====
abbrev S16384x2048 : Shape := ⟨2, ![16384, 2048]⟩
abbrev S2048x6680 : Shape := ⟨2, ![2048, 6680]⟩
abbrev S16384x6680 : Shape := ⟨2, ![16384, 6680]⟩
abbrev S16384x2560 : Shape := ⟨2, ![16384, 2560]⟩
abbrev S16384x24 : Shape := ⟨2, ![16384, 24]⟩
abbrev S_ : Shape := ⟨0, ![]⟩
abbrev S16384x128 : Shape := ⟨2, ![16384, 128]⟩
abbrev S16384x4096 : Shape := ⟨2, ![16384, 4096]⟩
abbrev S16384x512 : Shape := ⟨2, ![16384, 512]⟩
abbrev S65536x128 : Shape := ⟨2, ![65536, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6680, .f32⟩
  | .hbm, ⟨2, _⟩ => ⟨S16384x2048, .f32⟩
  | .hbm, ⟨3, _⟩ => ⟨S16384x6680, .f32⟩
  | .hbm, ⟨4, _⟩ => ⟨S16384x2560, .f32⟩
  | .hbm, ⟨5, _⟩ => ⟨S16384x24, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S16384x2560, .bf16⟩
  | .hbm, ⟨10, _⟩ => ⟨S16384x4096, .f32⟩
  | .hbm, ⟨11, _⟩ => ⟨S16384x512, .f32⟩
  | .hbm, ⟨12, _⟩ => ⟨S65536x128, .f32⟩
  | .hbm, ⟨13, _⟩ => ⟨S16384x512, .f32⟩
  | .hbm, ⟨14, _⟩ => ⟨S65536x128, .f32⟩
  | .hbm, ⟨15, _⟩ => ⟨S16384x512, .f32⟩
  | .hbm, ⟨16, _⟩ => ⟨S65536x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Cmp.lean ====
abbrev S16384x2560 : Shape := ⟨2, ![16384, 2560]⟩
abbrev S2x32x128x128 : Shape := ⟨4, ![2, 32, 128, 128]⟩
abbrev S2x1x128 : Shape := ⟨3, ![2, 1, 128]⟩
abbrev S2x128x128 : Shape := ⟨3, ![2, 128, 128]⟩
abbrev S2x2x16x128x128 : Shape := ⟨5, ![2, 2, 16, 128, 128]⟩
abbrev S2x16x128x2x128 : Shape := ⟨5, ![2, 16, 128, 2, 128]⟩
abbrev S2x16x128x256 : Shape := ⟨4, ![2, 16, 128, 256]⟩
abbrev S2x4x512x128 : Shape := ⟨4, ![2, 4, 512, 128]⟩
abbrev S2048x128 : Shape := ⟨2, ![2048, 128]⟩
abbrev S1x4x512x128 : Shape := ⟨4, ![1, 4, 512, 128]⟩
abbrev S4x512x256 : Shape := ⟨3, ![4, 512, 256]⟩
abbrev S128x128 : Shape := ⟨2, ![128, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x128x256 : Shape := ⟨3, ![1, 128, 256]⟩
abbrev S512x1 : Shape := ⟨2, ![512, 1]⟩
abbrev S1x512x128 : Shape := ⟨3, ![1, 512, 128]⟩
abbrev S512x128 : Shape := ⟨2, ![512, 128]⟩
abbrev S1x1x128 : Shape := ⟨3, ![1, 1, 128]⟩
abbrev S1x128 : Shape := ⟨2, ![1, 128]⟩
abbrev S1x128x128 : Shape := ⟨3, ![1, 128, 128]⟩
abbrev S1x1x512x128 : Shape := ⟨4, ![1, 1, 512, 128]⟩

abbrev nBuf : Space → Nat
  | .hbm => 10
  | .vmem => 14
  | .smem => 0
  | _ => 0

abbrev bufTy : (tb : Table) → Fin (tcTables nBuf tb) → BufTy
  | .hbm, ⟨0, _⟩ => ⟨S16384x2560, .f32⟩
  | .hbm, ⟨1, _⟩ => ⟨S2x32x128x128, .f32⟩
  | .hbm, ⟨2, _⟩ => ⟨S2x1x128, .f32⟩
  | .hbm, ⟨3, _⟩ => ⟨S2x128x128, .f32⟩
  | .hbm, ⟨4, _⟩ => ⟨S2x2x16x128x128, .f32⟩
  | .hbm, ⟨5, _⟩ => ⟨S2x16x128x2x128, .f32⟩
  | .hbm, ⟨6, _⟩ => ⟨S2x16x128x256, .f32⟩
  | .hbm, ⟨7, _⟩ => ⟨S2x16x128x256, .bf16⟩
  | .hbm, ⟨8, _⟩ => ⟨S2x128x128, .bf16⟩
  | .hbm, ⟨9, _⟩ => ⟨S2x4x512x128, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x16x128x256, .bf16⟩
  | .local _ .vmem, ⟨9, _⟩ => ⟨S2x1x128, .f32⟩
  | .local _ .vmem, ⟨10, _⟩ => ⟨S2x128x128, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S4x512x256, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_127 : Index := 0#32
  let arg1 : BitVec 32 := BitVec.ofNat 32 (i 1).val
  let c128_i32 : BitVec 32 := 128#32
  let v0 : BitVec 32 := Scalar.muli arg1 c128_i32
  let v1 : BitVec 32 := v0
  let v130 : Index := Scalar.indexCast v1
  let c0_128 : Index := 0#32
  ![0, v130.toNat, 0]
def k0_off2 (i : grid0.Coords) : Fin 3 → Nat :=
  let c1_129 : Index := 1#32
  let arg1 : BitVec 32 := BitVec.ofNat 32 (i 1).val
  let c128_i32 : BitVec 32 := 128#32
  let v0 : BitVec 32 := Scalar.muli arg1 c128_i32
  let v1 : BitVec 32 := v0
  let v135 : Index := Scalar.indexCast v1
  let c0_130 : Index := 0#32
  ![1, v135.toNat, 0]
def k0_off3 (i : grid0.Coords) : Fin 3 → Nat :=
  let c2_275 : Index := 2#32
  let arg1 : BitVec 32 := BitVec.ofNat 32 (i 1).val
  let c128_i32 : BitVec 32 := 128#32
  let v0 : BitVec 32 := Scalar.muli arg1 c128_i32
  let v1 : BitVec 32 := v0
  let v267 : Index := Scalar.indexCast v1
  let c0_276 : Index := 0#32
  ![2, v267.toNat, 0]
def k0_off4 (i : grid0.Coords) : Fin 3 → Nat :=
  let c3_277 : Index := 3#32
  let arg1 : BitVec 32 := BitVec.ofNat 32 (i 1).val
  let c128_i32 : BitVec 32 := 128#32
  let v0 : BitVec 32 := Scalar.muli arg1 c128_i32
  let v1 : BitVec 32 := v0
  let v272 : Index := Scalar.indexCast v1
  let c0_278 : Index := 0#32
  ![3, v272.toNat, 0]
def k0_cond1 (i : grid0.Coords) : BitVec 1 :=
  let arg1 : BitVec 32 := BitVec.ofNat 32 (i 1).val
  let c3_i32 : BitVec 32 := 3#32
  let v276 : BitVec 1 := Scalar.cmpi .eq arg1 c3_i32
  let v277 : BitVec 32 := Scalar.extui v276
  let c0_i32 : BitVec 32 := 0#32
  let v278 : BitVec 1 := Scalar.cmpi .ne v277 c0_i32
  v278

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c11_i32 : BitVec 32 := 11#32
  let c0_i32 : BitVec 32 := 0#32
  ![v1.toNat, c11_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x16x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== CmpRefIdeal.lean ====
abbrev S16384x2560 : Shape := ⟨2, ![16384, 2560]⟩
abbrev S2x32x128x128 : Shape := ⟨4, ![2, 32, 128, 128]⟩
abbrev S2x1x128 : Shape := ⟨3, ![2, 1, 128]⟩
abbrev S2x128x128 : Shape := ⟨3, ![2, 128, 128]⟩
abbrev S16384x512 : Shape := ⟨2, ![16384, 512]⟩
abbrev S2x512x16x2x2x128 : Shape := ⟨6, ![2, 512, 16, 2, 2, 128]⟩
abbrev S2x2x16x128x128 : Shape := ⟨5, ![2, 2, 16, 128, 128]⟩
abbrev S2x2x128x2x512x2 : Shape := ⟨6, ![2, 2, 128, 2, 512, 2]⟩
abbrev S2x512x2x2x2x128 : Shape := ⟨6, ![2, 512, 2, 2, 2, 128]⟩
abbrev S2x511x1x2x2x128 : Shape := ⟨6, ![2, 511, 1, 2, 2, 128]⟩
abbrev S2x511x2x2x128 : Shape := ⟨5, ![2, 511, 2, 2, 128]⟩
abbrev S1x1x2x1x128 : Shape := ⟨5, ![1, 1, 2, 1, 128]⟩
abbrev S_ : Shape := ⟨0, ![]⟩
abbrev S2x128x2x511x2 : Shape := ⟨5, ![2, 128, 2, 511, 2]⟩
abbrev S2x2x2x128x511 : Shape := ⟨5, ![2, 2, 2, 128, 511]⟩
abbrev S2x2x2x511x128 : Shape := ⟨5, ![2, 2, 2, 511, 128]⟩
abbrev S2x4x511x128 : Shape := ⟨4, ![2, 4, 511, 128]⟩
abbrev S2x4x512x128 : Shape := ⟨4, ![2, 4, 512, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S2x32x128x128, .f32⟩
  | .hbm, ⟨2, _⟩ => ⟨S2x1x128, .f32⟩
  | .hbm, ⟨3, _⟩ => ⟨S2x128x128, .f32⟩
  | .hbm, ⟨4, _⟩ => ⟨S16384x512, .f32⟩
  | .hbm, ⟨5, _⟩ => ⟨S2x512x16x2x2x128, .f32⟩
  | .hbm, ⟨6, _⟩ => ⟨S2x2x16x128x128, .f32⟩
  | .hbm, ⟨7, _⟩ => ⟨S2x2x128x2x512x2, .f32⟩
  | .hbm, ⟨8, _⟩ => ⟨S2x512x2x2x2x128, .f32⟩
  | .hbm, ⟨9, _⟩ => ⟨S2x511x1x2x2x128, .f32⟩
  | .hbm, ⟨10, _⟩ => ⟨S2x511x2x2x128, .f32⟩
  | .hbm, ⟨11, _⟩ => ⟨S2x511x1x2x2x128, .f32⟩
  | .hbm, ⟨12, _⟩ => ⟨S2x511x2x2x128, .f32⟩
  | .hbm, ⟨13, _⟩ => ⟨S2x511x2x2x128, .f32⟩
  | .hbm, ⟨14, _⟩ => ⟨S1x1x2x1x128, .f32⟩
  | .hbm, ⟨15, _⟩ => ⟨S2x511x2x2x128, .f32⟩
  | .hbm, ⟨16, _⟩ => ⟨S2x511x2x2x128, .f32⟩
  | .hbm, ⟨17, _⟩ => ⟨S2x511x2x2x128, .f32⟩
  | .hbm, ⟨18, _⟩ => ⟨S2x511x2x2x128, .f32⟩
  | .hbm, ⟨19, _⟩ => ⟨S_, .f32⟩
  | .hbm, ⟨20, _⟩ => ⟨S2x511x2x2x128, .f32⟩
  | .hbm, ⟨21, _⟩ => ⟨S2x511x2x2x128, .f32⟩
  | .hbm, ⟨22, _⟩ => ⟨S_, .f32⟩
  | .hbm, ⟨23, _⟩ => ⟨S2x511x2x2x128, .f32⟩
  | .hbm, ⟨24, _⟩ => ⟨S2x511x2x2x128, .f32⟩
  | .hbm, ⟨25, _⟩ => ⟨S2x511x2x2x128, .f32⟩
  | .hbm, ⟨26, _⟩ => ⟨S2x128x2x511x2, .f32⟩
  | .hbm, ⟨27, _⟩ => ⟨S2x2x2x128x511, .f32⟩
  | .hbm, ⟨28, _⟩ => ⟨S2x2x2x511x128, .f32⟩
  | .hbm, ⟨29, _⟩ => ⟨S2x4x511x128, .f32⟩
  | .hbm, ⟨30, _⟩ => ⟨S_, .i32⟩
  | .hbm, ⟨31, _⟩ => ⟨S_, .f32⟩
  | .hbm, ⟨32, _⟩ => ⟨S2x4x512x128, .f32⟩
  | .hbm, ⟨33, _⟩ => ⟨S2x4x512x128, .bf16⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== FfnEnd.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x5504, .bf16⟩
  | .hbm, ⟨11, _⟩ => ⟨S_, .i32⟩
  | .hbm, ⟨12, _⟩ => ⟨S_, .bf16⟩
  | .hbm, ⟨13, _⟩ => ⟨S2048x5632, .bf16⟩
  | .hbm, ⟨14, _⟩ => ⟨S5504x2048, .bf16⟩
  | .hbm, ⟨15, _⟩ => ⟨S_, .i32⟩
  | .hbm, ⟨16, _⟩ => ⟨S_, .bf16⟩
  | .hbm, ⟨17, _⟩ => ⟨S5632x2048, .bf16⟩
  | .hbm, ⟨18, _⟩ => ⟨S1x2048, .f32⟩
  | .hbm, ⟨19, _⟩ => ⟨S1x2048, .f32⟩
  | .hbm, ⟨20, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnEndRefIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Nsa.lean ====
abbrev S16384x2560 : Shape := ⟨2, ![16384, 2560]⟩
abbrev S2x4x512x128 : Shape := ⟨4, ![2, 4, 512, 128]⟩
abbrev S16384x128 : Shape := ⟨2, ![16384, 128]⟩
abbrev S8x128 : Shape := ⟨2, ![8, 128]⟩
abbrev S128 : Shape := ⟨1, ![128]⟩
abbrev S128x1 : Shape := ⟨2, ![128, 1]⟩
abbrev S512 : Shape := ⟨1, ![512]⟩
abbrev S1x512 : Shape := ⟨2, ![1, 512]⟩
abbrev S_ : Shape := ⟨0, ![]⟩
abbrev S128x512 : Shape := ⟨2, ![128, 512]⟩
abbrev S8x128x1 : Shape := ⟨3, ![8, 128, 1]⟩
abbrev S8x128x256 : Shape := ⟨3, ![8, 128, 256]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x1024 : Shape := ⟨2, ![16384, 1024]⟩
abbrev S256x512 : Shape := ⟨2, ![256, 512]⟩
abbrev S1x1x512x128 : Shape := ⟨4, ![1, 1, 512, 128]⟩
abbrev S256x128 : Shape := ⟨2, ![256, 128]⟩
abbrev S32x256 : Shape := ⟨2, ![32, 256]⟩
abbrev S2x512x512 : Shape := ⟨3, ![2, 512, 512]⟩
abbrev S2x1x512 : Shape := ⟨3, ![2, 1, 512]⟩
abbrev S2x128x512 : Shape := ⟨3, ![2, 128, 512]⟩
abbrev S1024x128 : Shape := ⟨2, ![1024, 128]⟩
abbrev S1x256 : Shape := ⟨2, ![1, 256]⟩
abbrev S1x1024 : Shape := ⟨2, ![1, 1024]⟩
abbrev S512x128 : Shape := ⟨2, ![512, 128]⟩
abbrev S512x1024 : Shape := ⟨2, ![512, 1024]⟩
abbrev S768x128 : Shape := ⟨2, ![768, 128]⟩
abbrev S768x1024 : Shape := ⟨2, ![768, 1024]⟩
abbrev S512x1 : Shape := ⟨2, ![512, 1]⟩
abbrev S1024 : Shape := ⟨1, ![1024]⟩
abbrev S512x256 : Shape := ⟨2, ![512, 256]⟩
abbrev S128x256 : Shape := ⟨2, ![128, 256]⟩
abbrev S128x1024 : Shape := ⟨2, ![128, 1024]⟩
abbrev S768x1 : Shape := ⟨2, ![768, 1]⟩
abbrev S256 : Shape := ⟨1, ![256]⟩
abbrev S1024x256 : Shape := ⟨2, ![1024, 256]⟩
abbrev S8x512 : Shape := ⟨2, ![8, 512]⟩
abbrev S512x512 : Shape := ⟨2, ![512, 512]⟩
abbrev S1x512x512 : Shape := ⟨3, ![1, 512, 512]⟩
abbrev S1x1x512 : Shape := ⟨3, ![1, 1, 512]⟩
abbrev S1x128x512 : Shape := ⟨3, ![1, 128, 512]⟩
abbrev S1x128x256 : Shape := ⟨3, ![1, 128, 256]⟩

abbrev nBuf : Space → Nat
  | .hbm => 102
  | .vmem => 26
  | .smem => 0
  | _ => 0

abbrev bufTy : (tb : Table) → Fin (tcTables nBuf tb) → BufTy
  | .hbm, ⟨0, _⟩ => ⟨S16384x2560, .bf16⟩
  | .hbm, ⟨1, _⟩ => ⟨S2x4x512x128, .bf16⟩
  | .hbm, ⟨2, _⟩ => ⟨S16384x128, .f32⟩
  | .hbm, ⟨3, _⟩ => ⟨S8x128, .f32⟩
  | .hbm, ⟨4, _⟩ => ⟨S128, .i32⟩
  | .hbm, ⟨5, _⟩ => ⟨S128x1, .i32⟩
  | .hbm, ⟨6, _⟩ => ⟨S512, .i32⟩
  | .hbm, ⟨7, _⟩ => ⟨S1x512, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x512, .i32⟩
  | .hbm, ⟨15, _⟩ => ⟨S128x512, .i32⟩
  | .hbm, ⟨16, _⟩ => ⟨S128x512, .i32⟩
  | .hbm, ⟨17, _⟩ => ⟨S_, .f32⟩
  | .hbm, ⟨18, _⟩ => ⟨S128x512, .f32⟩
  | .hbm, ⟨19, _⟩ => ⟨S_, .i32⟩
  | .hbm, ⟨20, _⟩ => ⟨S128x512, .i32⟩
  | .hbm, ⟨21, _⟩ => ⟨S128x512, .i1⟩
  | .hbm, ⟨22, _⟩ => ⟨S_, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S_, .i32⟩
  | .hbm, ⟨27, _⟩ => ⟨S128x512, .i32⟩
  | .hbm, ⟨28, _⟩ => ⟨S128x512, .i1⟩
  | .hbm, ⟨29, _⟩ => ⟨S_, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S_, .i32⟩
  | .hbm, ⟨34, _⟩ => ⟨S128x512, .i32⟩
  | .hbm, ⟨35, _⟩ => ⟨S128x512, .i1⟩
  | .hbm, ⟨36, _⟩ => ⟨S_, .f32⟩
  | .hbm, ⟨37, _⟩ => ⟨S_, .f32⟩
  | .hbm, ⟨38, _⟩ => ⟨S128x512, .f32⟩
  | .hbm, ⟨39, _⟩ => ⟨S128x512, .f32⟩
  | .hbm, ⟨40, _⟩ => ⟨S_, .i32⟩
  | .hbm, ⟨41, _⟩ => ⟨S128x512, .i32⟩
  | .hbm, ⟨42, _⟩ => ⟨S128x512, .i1⟩
  | .hbm, ⟨43, _⟩ => ⟨S_, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S_, .i32⟩
  | .hbm, ⟨48, _⟩ => ⟨S128x512, .i32⟩
  | .hbm, ⟨49, _⟩ => ⟨S128x512, .i1⟩
  | .hbm, ⟨50, _⟩ => ⟨S_, .f32⟩
  | .hbm, ⟨51, _⟩ => ⟨S_, .f32⟩
  | .hbm, ⟨52, _⟩ => ⟨S128x512, .f32⟩
  | .hbm, ⟨53, _⟩ => ⟨S128x512, .f32⟩
  | .hbm, ⟨54, _⟩ => ⟨S_, .i32⟩
  | .hbm, ⟨55, _⟩ => ⟨S128x1, .i32⟩
  | .hbm, ⟨56, _⟩ => ⟨S128x1, .i1⟩
  | .hbm, ⟨57, _⟩ => ⟨S_, .i32⟩
  | .hbm, ⟨58, _⟩ => ⟨S1x512, .i32⟩
  | .hbm, ⟨59, _⟩ => ⟨S1x512, .i1⟩
  | .hbm, ⟨60, _⟩ => ⟨S128x512, .i1⟩
  | .hbm, ⟨61, _⟩ => ⟨S128x512, .i1⟩
  | .hbm, ⟨62, _⟩ => ⟨S128x512, .i1⟩
  | .hbm, ⟨63, _⟩ => ⟨S_, .f32⟩
  | .hbm, ⟨64, _⟩ => ⟨S_, .f32⟩
  | .hbm, ⟨65, _⟩ => ⟨S128x512, .f32⟩
  | .hbm, ⟨66, _⟩ => ⟨S128x512, .f32⟩
  | .hbm, ⟨67, _⟩ => ⟨S128x512, .bf16⟩
  | .hbm, ⟨68, _⟩ => ⟨S8x128x1, .f32⟩
  | .hbm, ⟨69, _⟩ => ⟨S8x128x256, .f32⟩
  | .hbm, ⟨70, _⟩ => ⟨S8192, .i32⟩
  | .hbm, ⟨71, _⟩ => ⟨S8192x1, .i32⟩
  | .hbm, ⟨72, _⟩ => ⟨S_, .i32⟩
  | .hbm, ⟨73, _⟩ => ⟨S_, .i32⟩
  | .hbm, ⟨74, _⟩ => ⟨S8192x1, .i32⟩
  | .hbm, ⟨75, _⟩ => ⟨S8192x1, .i32⟩
  | .hbm, ⟨76, _⟩ => ⟨S8192x1, .i32⟩
  | .hbm, ⟨77, _⟩ => ⟨S_, .i32⟩
  | .hbm, ⟨78, _⟩ => ⟨S8192x1, .i32⟩
  | .hbm, ⟨79, _⟩ => ⟨S8192x1, .i1⟩
  | .hbm, ⟨80, _⟩ => ⟨S8192x1, .i32⟩
  | .hbm, ⟨81, _⟩ => ⟨S8192x1, .i32⟩
  | .hbm, ⟨82, _⟩ => ⟨S_, .i32⟩
  | .hbm, ⟨83, _⟩ => ⟨S8192x1, .i32⟩
  | .hbm, ⟨84, _⟩ => ⟨S8192x1, .i1⟩
  | .hbm, ⟨85, _⟩ => ⟨S8192x1, .i1⟩
  | .hbm, ⟨86, _⟩ => ⟨S_, .i32⟩
  | .hbm, ⟨87, _⟩ => ⟨S8192x1, .i32⟩
  | .hbm, ⟨88, _⟩ => ⟨S8192x1, .i32⟩
  | .hbm, ⟨89, _⟩ => ⟨S8192x1, .i32⟩
  | .hbm, ⟨90, _⟩ => ⟨S128, .i32⟩
  | .hbm, ⟨91, _⟩ => ⟨S1x128, .i32⟩
  | .hbm, ⟨92, _⟩ => ⟨S8192x128, .i32⟩
  | .hbm, ⟨93, _⟩ => ⟨S8192x128, .i32⟩
  | .hbm, ⟨94, _⟩ => ⟨S8192x128, .i1⟩
  | .hbm, ⟨95, _⟩ => ⟨S_, .f32⟩
  | .hbm, ⟨96, _⟩ => ⟨S_, .f32⟩
  | .hbm, ⟨97, _⟩ => ⟨S8192x128, .f32⟩
  | .hbm, ⟨98, _⟩ => ⟨S8192x128, .f32⟩
  | .hbm, ⟨99, _⟩ => ⟨S8192x128, .f32⟩
  | .hbm, ⟨100, _⟩ => ⟨S8192x128, .bf16⟩
  | .hbm, ⟨101, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S1x1x512x128, .bf16⟩
  | .local _ .vmem, ⟨12, _⟩ => ⟨S1x1x512x128, .bf16⟩
  | .local _ .vmem, ⟨13, _⟩ => ⟨S1x1x512x128, .bf16⟩
  | .local _ .vmem, ⟨14, _⟩ => ⟨S1x1x512x128, .bf16⟩
  | .local _ .vmem, ⟨15, _⟩ => ⟨S256x128, .f32⟩
  | .local _ .vmem, ⟨16, _⟩ => ⟨S256x128, .f32⟩
  | .local _ .vmem, ⟨17, _⟩ => ⟨S128x512, .bf16⟩
  | .local _ .vmem, ⟨18, _⟩ => ⟨S8x128x256, .f32⟩
  | .local _ .vmem, ⟨19, _⟩ => ⟨S256x512, .bf16⟩
  | .local _ .vmem, ⟨20, _⟩ => ⟨S256x512, .bf16⟩
  | .local _ .vmem, ⟨21, _⟩ => ⟨S32x256, .f32⟩
  | .local _ .vmem, ⟨22, _⟩ => ⟨S2x512x512, .f32⟩
  | .local _ .vmem, ⟨23, _⟩ => ⟨S2x1x512, .f32⟩
  | .local _ .vmem, ⟨24, _⟩ => ⟨S2x1x512, .f32⟩
  | .local _ .vmem, ⟨25, _⟩ => ⟨S2x128x512, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v23 : Ref sig .tc := ⟨.hbm, 46, rfl⟩
abbrev main_c_9 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_call4_v0 : Ref sig .tc := ⟨.hbm, 51, rfl⟩
abbrev main_call4_v1 : Ref sig .tc := ⟨.hbm, 52, rfl⟩
abbrev main_v26 : Ref sig .tc := ⟨.hbm, 53, rfl⟩
abbrev main_c_11 : Ref sig .tc := ⟨.hbm, 54, rfl⟩
abbrev main_v27 : Ref sig .tc := ⟨.hbm, 55, rfl⟩
abbrev main_v28 : Ref sig .tc := ⟨.hbm, 56, rfl⟩
abbrev main_c_12 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_13 : Ref sig .tc := ⟨.hbm, 63, rfl⟩
abbrev main_call5_v0 : Ref sig .tc := ⟨.hbm, 64, rfl⟩
abbrev main_call5_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_14 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_v6 : Ref sig .tc := ⟨.hbm, 79, rfl⟩
abbrev main_call6_v7 : Ref sig .tc := ⟨.hbm, 80, rfl⟩
abbrev main_call6_v8 : Ref sig .tc := ⟨.hbm, 81, rfl⟩
abbrev main_call6_c : Ref sig .tc := ⟨.hbm, 82, rfl⟩
abbrev main_call6_v9 : Ref sig .tc := ⟨.hbm, 83, rfl⟩
abbrev main_call6_v10 : Ref sig .tc := ⟨.hbm, 84, rfl⟩
abbrev main_call6_v11 : Ref sig .tc := ⟨.hbm, 85, rfl⟩
abbrev main_call6_c_0 : Ref sig .tc := ⟨.hbm, 86, rfl⟩
abbrev main_call6_v12 : Ref sig .tc := ⟨.hbm, 87, rfl⟩
abbrev main_call6_v13 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_15 : Ref sig .tc := ⟨.hbm, 95, rfl⟩
abbrev main_cst_16 : Ref sig .tc := ⟨.hbm, 96, rfl⟩
abbrev main_call7_v0 : Ref sig .tc := ⟨.hbm, 97, rfl⟩
abbrev main_call7_v1 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v11 : BitVec 32 := Scalar.subi v0 c512_i32
  let c0_i32 : BitVec 32 := 0#32
  let v12 : BitVec 32 := Scalar.maxsi v11 c0_i32
  v12
def k0_off1 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v11 : BitVec 32 := Scalar.subi v0 c512_i32
  let c0_i32 : BitVec 32 := 0#32
  let v12 : BitVec 32 := Scalar.maxsi v11 c0_i32
  let v13 : BitVec 32 := v12
  let v17 : Index := Scalar.indexCast v13
  let c0_5 : Index := 0#32
  ![v17.toNat, 0]
def k0_mult2 : BitVec 32 :=
  let c0_i32_111 : BitVec 32 := 0#32
  c0_i32_111
@[reducible] def k0_t1_loop (i : grid0.Coords) : Scf.Loop 32 :=
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_154 : BitVec 32 := 1#32
  ⟨c0_i32_152, v404, c1_i32_154⟩
def k0_mult3 (i : grid0.Coords) (k0_t1 : Fin (k0_t1_loop i).trips) : BitVec 32 :=
  let c4_i32_326 : BitVec 32 := 4#32
  let c0_i32_152 : BitVec 32 := 0#32
  let c1_i32_154 : BitVec 32 := 1#32
  let arg20 : BitVec 32 := Scf.iv c0_i32_152 c1_i32_154 k0_t1
  let v690 : BitVec 32 := Scalar.muli c4_i32_326 arg20
  let c0_i32_327 : BitVec 32 := 0#32
  let v691 : BitVec 32 := Scalar.addi v690 c0_i32_327
  let c512_i32_328 : BitVec 32 := 512#32
  let v692 : BitVec 32 := Scalar.muli v691 c512_i32_328
  v692
def k0_off2 (i : grid0.Coords) (k0_t1 : Fin (k0_t1_loop i).trips) (c0_i32_327 : BitVec 32) : Fin 2 → Nat :=
  let c4_i32_326 : BitVec 32 := 4#32
  let c0_i32_152 : BitVec 32 := 0#32
  let c1_i32_154 : BitVec 32 := 1#32
  let arg20 : BitVec 32 := Scf.iv c0_i32_152 c1_i32_154 k0_t1
  let v690 : BitVec 32 := Scalar.muli c4_i32_326 arg20
  let v691 : BitVec 32 := Scalar.addi v690 c0_i32_327
  let c512_i32_328 : BitVec 32 := 512#32
  let v692 : BitVec 32 := Scalar.muli v691 c512_i32_328
  let v693 : BitVec 32 := v692
  let v694 : Index := Scalar.indexCast v693
  let c0_329 : Index := 0#32
  ![v694.toNat, 0]
def k0_mult4 (i : grid0.Coords) (k0_t1 : Fin (k0_t1_loop i).trips) : BitVec 32 :=
  let c4_i32_326 : BitVec 32 := 4#32
  let c0_i32_152 : BitVec 32 := 0#32
  let c1_i32_154 : BitVec 32 := 1#32
  let arg20 : BitVec 32 := Scf.iv c0_i32_152 c1_i32_154 k0_t1
  let v690 : BitVec 32 := Scalar.muli c4_i32_326 arg20
  let c0_i32_327 : BitVec 32 := 0#32
  let v691 : BitVec 32 := Scalar.addi v690 c0_i32_327
  let c1_i32_330 : BitVec 32 := 1#32
  let v696 : BitVec 32 := Scalar.addi v691 c1_i32_330
  let c512_i32_331 : BitVec 32 := 512#32
  let v697 : BitVec 32 := Scalar.muli v696 c512_i32_331
  v697
def k0_off3 (i : grid0.Coords) (k0_t1 : Fin (k0_t1_loop i).trips) (c0_i32_327 : BitVec 32) : Fin 2 → Nat :=
  let c4_i32_326 : BitVec 32 := 4#32
  let c0_i32_152 : BitVec 32 := 0#32
  let c1_i32_154 : BitVec 32 := 1#32
  let arg20 : BitVec 32 := Scf.iv c0_i32_152 c1_i32_154 k0_t1
  let v690 : BitVec 32 := Scalar.muli c4_i32_326 arg20
  let v691 : BitVec 32 := Scalar.addi v690 c0_i32_327
  let c1_i32_330 : BitVec 32 := 1#32
  let v696 : BitVec 32 := Scalar.addi v691 c1_i32_330
  let c512_i32_331 : BitVec 32 := 512#32
  let v697 : BitVec 32 := Scalar.muli v696 c512_i32_331
  let v698 : BitVec 32 := v697
  let v699 : Index := Scalar.indexCast v698
  let c0_332 : Index := 0#32
  ![v699.toNat, 0]
def k0_mult5 (i : grid0.Coords) (k0_t1 : Fin (k0_t1_loop i).trips) : BitVec 32 :=
  let c4_i32_400 : BitVec 32 := 4#32
  let c0_i32_152 : BitVec 32 := 0#32
  let c1_i32_154 : BitVec 32 := 1#32
  let arg20 : BitVec 32 := Scf.iv c0_i32_152 c1_i32_154 k0_t1
  let v795 : BitVec 32 := Scalar.muli c4_i32_400 arg20
  let c1_i32_401 : BitVec 32 := 1#32
  let v796 : BitVec 32 := Scalar.addi v795 c1_i32_401
  let c512_i32_402 : BitVec 32 := 512#32
  let v797 : BitVec 32 := Scalar.muli v796 c512_i32_402
  v797
def k0_mult6 (i : grid0.Coords) (k0_t1 : Fin (k0_t1_loop i).trips) : BitVec 32 :=
  let c4_i32_400 : BitVec 32 := 4#32
  let c0_i32_152 : BitVec 32 := 0#32
  let c1_i32_154 : BitVec 32 := 1#32
  let arg20 : BitVec 32 := Scf.iv c0_i32_152 c1_i32_154 k0_t1
  let v795 : BitVec 32 := Scalar.muli c4_i32_400 arg20
  let c1_i32_401 : BitVec 32 := 1#32
  let v796 : BitVec 32 := Scalar.addi v795 c1_i32_401
  let c1_i32_404 : BitVec 32 := 1#32
  let v801 : BitVec 32 := Scalar.addi v796 c1_i32_404
  let c512_i32_405 : BitVec 32 := 512#32
  let v802 : BitVec 32 := Scalar.muli v801 c512_i32_405
  v802
def k0_mult7 (i : grid0.Coords) (k0_t1 : Fin (k0_t1_loop i).trips) : BitVec 32 :=
  let c4_i32_474 : BitVec 32 := 4#32
  let c0_i32_152 : BitVec 32 := 0#32
  let c1_i32_154 : BitVec 32 := 1#32
  let arg20 : BitVec 32 := Scf.iv c0_i32_152 c1_i32_154 k0_t1
  let v900 : BitVec 32 := Scalar.muli c4_i32_474 arg20
  let c2_i32_475 : BitVec 32 := 2#32
  let v901 : BitVec 32 := Scalar.addi v900 c2_i32_475
  let c512_i32_476 : BitVec 32 := 512#32
  let v902 : BitVec 32 := Scalar.muli v901 c512_i32_476
  v902
def k0_mult8 (i : grid0.Coords) (k0_t1 : Fin (k0_t1_loop i).trips) : BitVec 32 :=
  let c4_i32_474 : BitVec 32 := 4#32
  let c0_i32_152 : BitVec 32 := 0#32
  let c1_i32_154 : BitVec 32 := 1#32
  let arg20 : BitVec 32 := Scf.iv c0_i32_152 c1_i32_154 k0_t1
  let v900 : BitVec 32 := Scalar.muli c4_i32_474 arg20
  let c2_i32_475 : BitVec 32 := 2#32
  let v901 : BitVec 32 := Scalar.addi v900 c2_i32_475
  let c1_i32_478 : BitVec 32 := 1#32
  let v906 : BitVec 32 := Scalar.addi v901 c1_i32_478
  let c512_i32_479 : BitVec 32 := 512#32
  let v907 : BitVec 32 := Scalar.muli v906 c512_i32_479
  v907
def k0_mult9 (i : grid0.Coords) (k0_t1 : Fin (k0_t1_loop i).trips) : BitVec 32 :=
  let c4_i32_548 : BitVec 32 := 4#32
  let c0_i32_152 : BitVec 32 := 0#32
  let c1_i32_154 : BitVec 32 := 1#32
  let arg20 : BitVec 32 := Scf.iv c0_i32_152 c1_i32_154 k0_t1
  let v1005 : BitVec 32 := Scalar.muli c4_i32_548 arg20
  let c3_i32_549 : BitVec 32 := 3#32
  let v1006 : BitVec 32 := Scalar.addi v1005 c3_i32_549
  let c512_i32_550 : BitVec 32 := 512#32
  let v1007 : BitVec 32 := Scalar.muli v1006 c512_i32_550
  v1007
def k0_mult10 (i : grid0.Coords) (k0_t1 : Fin (k0_t1_loop i).trips) : BitVec 32 :=
  let c4_i32_548 : BitVec 32 := 4#32
  let c0_i32_152 : BitVec 32 := 0#32
  let c1_i32_154 : BitVec 32 := 1#32
  let arg20 : BitVec 32 := Scf.iv c0_i32_152 c1_i32_154 k0_t1
  let v1005 : BitVec 32 := Scalar.muli c4_i32_548 arg20
  let c3_i32_549 : BitVec 32 := 3#32
  let v1006 : BitVec 32 := Scalar.addi v1005 c3_i32_549
  let c1_i32_552 : BitVec 32 := 1#32
  let v1011 : BitVec 32 := Scalar.addi v1006 c1_i32_552
  let c512_i32_553 : BitVec 32 := 512#32
  let v1012 : BitVec 32 := Scalar.muli v1011 c512_i32_553
  v1012
@[reducible] def k0_t2_loop (i : grid0.Coords) : Scf.Loop 32 :=
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let v401 : BitVec 32 := Scalar.addi c0_i32_152 v400
  let c1_i32_155 : BitVec 32 := 1#32
  ⟨v404, v401, c1_i32_155⟩
def k0_mult11 (i : grid0.Coords) (k0_t2 : Fin (k0_t2_loop i).trips) : BitVec 32 :=
  let c4_i32_326 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v690 : BitVec 32 := Scalar.muli c4_i32_326 arg20
  let c0_i32_327 : BitVec 32 := 0#32
  let v691 : BitVec 32 := Scalar.addi v690 c0_i32_327
  let c512_i32_328 : BitVec 32 := 512#32
  let v692 : BitVec 32 := Scalar.muli v691 c512_i32_328
  v692
def k0_off4 (i : grid0.Coords) (k0_t2 : Fin (k0_t2_loop i).trips) (c0_i32_327 : BitVec 32) : Fin 2 → Nat :=
  let c4_i32_326 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v690 : BitVec 32 := Scalar.muli c4_i32_326 arg20
  let v691 : BitVec 32 := Scalar.addi v690 c0_i32_327
  let c512_i32_328 : BitVec 32 := 512#32
  let v692 : BitVec 32 := Scalar.muli v691 c512_i32_328
  let v693 : BitVec 32 := v692
  let v694 : Index := Scalar.indexCast v693
  let c0_329 : Index := 0#32
  ![v694.toNat, 0]
def k0_mult12 (i : grid0.Coords) (k0_t2 : Fin (k0_t2_loop i).trips) : BitVec 32 :=
  let c4_i32_326 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v690 : BitVec 32 := Scalar.muli c4_i32_326 arg20
  let c0_i32_327 : BitVec 32 := 0#32
  let v691 : BitVec 32 := Scalar.addi v690 c0_i32_327
  let c1_i32_330 : BitVec 32 := 1#32
  let v696 : BitVec 32 := Scalar.addi v691 c1_i32_330
  let c512_i32_331 : BitVec 32 := 512#32
  let v697 : BitVec 32 := Scalar.muli v696 c512_i32_331
  v697
def k0_off5 (i : grid0.Coords) (k0_t2 : Fin (k0_t2_loop i).trips) (c0_i32_327 : BitVec 32) : Fin 2 → Nat :=
  let c4_i32_326 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v690 : BitVec 32 := Scalar.muli c4_i32_326 arg20
  let v691 : BitVec 32 := Scalar.addi v690 c0_i32_327
  let c1_i32_330 : BitVec 32 := 1#32
  let v696 : BitVec 32 := Scalar.addi v691 c1_i32_330
  let c512_i32_331 : BitVec 32 := 512#32
  let v697 : BitVec 32 := Scalar.muli v696 c512_i32_331
  let v698 : BitVec 32 := v697
  let v699 : Index := Scalar.indexCast v698
  let c0_332 : Index := 0#32
  ![v699.toNat, 0]
def k0_mult13 (i : grid0.Coords) (k0_t2 : Fin (k0_t2_loop i).trips) : BitVec 32 :=
  let c4_i32_400 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v795 : BitVec 32 := Scalar.muli c4_i32_400 arg20
  let c1_i32_401 : BitVec 32 := 1#32
  let v796 : BitVec 32 := Scalar.addi v795 c1_i32_401
  let c512_i32_402 : BitVec 32 := 512#32
  let v797 : BitVec 32 := Scalar.muli v796 c512_i32_402
  v797
def k0_mult14 (i : grid0.Coords) (k0_t2 : Fin (k0_t2_loop i).trips) : BitVec 32 :=
  let c4_i32_400 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v795 : BitVec 32 := Scalar.muli c4_i32_400 arg20
  let c1_i32_401 : BitVec 32 := 1#32
  let v796 : BitVec 32 := Scalar.addi v795 c1_i32_401
  let c1_i32_404 : BitVec 32 := 1#32
  let v801 : BitVec 32 := Scalar.addi v796 c1_i32_404
  let c512_i32_405 : BitVec 32 := 512#32
  let v802 : BitVec 32 := Scalar.muli v801 c512_i32_405
  v802
def k0_mult15 (i : grid0.Coords) (k0_t2 : Fin (k0_t2_loop i).trips) : BitVec 32 :=
  let c4_i32_474 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v900 : BitVec 32 := Scalar.muli c4_i32_474 arg20
  let c2_i32_475 : BitVec 32 := 2#32
  let v901 : BitVec 32 := Scalar.addi v900 c2_i32_475
  let c512_i32_476 : BitVec 32 := 512#32
  let v902 : BitVec 32 := Scalar.muli v901 c512_i32_476
  v902
def k0_mult16 (i : grid0.Coords) (k0_t2 : Fin (k0_t2_loop i).trips) : BitVec 32 :=
  let c4_i32_474 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v900 : BitVec 32 := Scalar.muli c4_i32_474 arg20
  let c2_i32_475 : BitVec 32 := 2#32
  let v901 : BitVec 32 := Scalar.addi v900 c2_i32_475
  let c1_i32_478 : BitVec 32 := 1#32
  let v906 : BitVec 32 := Scalar.addi v901 c1_i32_478
  let c512_i32_479 : BitVec 32 := 512#32
  let v907 : BitVec 32 := Scalar.muli v906 c512_i32_479
  v907
def k0_mult17 (i : grid0.Coords) (k0_t2 : Fin (k0_t2_loop i).trips) : BitVec 32 :=
  let c4_i32_548 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v1005 : BitVec 32 := Scalar.muli c4_i32_548 arg20
  let c3_i32_549 : BitVec 32 := 3#32
  let v1006 : BitVec 32 := Scalar.addi v1005 c3_i32_549
  let c512_i32_550 : BitVec 32 := 512#32
  let v1007 : BitVec 32 := Scalar.muli v1006 c512_i32_550
  v1007
def k0_mult18 (i : grid0.Coords) (k0_t2 : Fin (k0_t2_loop i).trips) : BitVec 32 :=
  let c4_i32_548 : BitVec 32 := 4#32
  let c0_i32_152 : BitVec 32 := 0#32
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_145 : BitVec 32 := 0#32
  let v384 : BitVec 1 := Scalar.cmpi .sgt v341 c0_i32_145
  let v385 : BitVec 32 := Scalar.extui v384
  let c0_i32_146 : BitVec 32 := 0#32
  let v386 : BitVec 1 := Scalar.cmpi .slt v341 c0_i32_146
  let v387 : BitVec 32 := Scalar.extui v386
  let v388 : BitVec 32 := Scalar.subi v385 v387
  let c4_i32 : BitVec 32 := 4#32
  let c0_i32_147 : BitVec 32 := 0#32
  let v389 : BitVec 1 := Scalar.cmpi .sgt c4_i32 c0_i32_147
  let v390 : BitVec 32 := Scalar.extui v389
  let c0_i32_148 : BitVec 32 := 0#32
  let v391 : BitVec 1 := Scalar.cmpi .slt c4_i32 c0_i32_148
  let v392 : BitVec 32 := Scalar.extui v391
  let v393 : BitVec 32 := Scalar.subi v390 v392
  let v394 : BitVec 1 := Scalar.cmpi .ne v388 v393
  let v395 : BitVec 32 := Scalar.remsi v341 c4_i32
  let c0_i32_149 : BitVec 32 := 0#32
  let v396 : BitVec 1 := Scalar.cmpi .ne v395 c0_i32_149
  let v397 : BitVec 1 := Scalar.andi v394 v396
  let v383 : BitVec 32 := Scalar.divsi v341 c4_i32
  let c1_i32_150 : BitVec 32 := 1#32
  let v398 : BitVec 32 := Scalar.subi v383 c1_i32_150
  let v399 : BitVec 32 := Scalar.select v397 v398 v383
  let v400 : BitVec 32 := Scalar.subi v399 c0_i32_152
  let c1_i32_153 : BitVec 32 := 1#32
  let v402 : BitVec 32 := Scalar.divsi v400 c1_i32_153
  let v403 : BitVec 32 := Scalar.muli v402 c1_i32_153
  let v404 : BitVec 32 := Scalar.addi c0_i32_152 v403
  let c1_i32_155 : BitVec 32 := 1#32
  let arg20 : BitVec 32 := Scf.iv v404 c1_i32_155 k0_t2
  let v1005 : BitVec 32 := Scalar.muli c4_i32_548 arg20
  let c3_i32_549 : BitVec 32 := 3#32
  let v1006 : BitVec 32 := Scalar.addi v1005 c3_i32_549
  let c1_i32_552 : BitVec 32 := 1#32
  let v1011 : BitVec 32 := Scalar.addi v1006 c1_i32_552
  let c512_i32_553 : BitVec 32 := 512#32
  let v1012 : BitVec 32 := Scalar.muli v1011 c512_i32_553
  v1012
def k0_cond1 (i : grid0.Coords) : BitVec 1 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c2_i32 : BitVec 32 := 2#32
  let v423 : BitVec 32 := Scalar.andi v341 c2_i32
  let c0_i32_164 : BitVec 32 := 0#32
  let v424 : BitVec 1 := Scalar.cmpi .ne v423 c0_i32_164
  let v425 : BitVec 32 := Scalar.extui v424
  let c0_i32_165 : BitVec 32 := 0#32
  let v426 : BitVec 1 := Scalar.cmpi .ne v425 c0_i32_165
  v426

def k0_mult19 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c0_i32_326 : BitVec 32 := 0#32
  let v690 : BitVec 32 := Scalar.addi v422 c0_i32_326
  let c512_i32_327 : BitVec 32 := 512#32
  let v691 : BitVec 32 := Scalar.muli v690 c512_i32_327
  v691
def k0_off6 (i : grid0.Coords) (c0_i32_326 : BitVec 32) : Fin 2 → Nat :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let v690 : BitVec 32 := Scalar.addi v422 c0_i32_326
  let c512_i32_327 : BitVec 32 := 512#32
  let v691 : BitVec 32 := Scalar.muli v690 c512_i32_327
  let v692 : BitVec 32 := v691
  let v693 : Index := Scalar.indexCast v692
  let c0_328 : Index := 0#32
  ![v693.toNat, 0]
def k0_mult20 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c0_i32_326 : BitVec 32 := 0#32
  let v690 : BitVec 32 := Scalar.addi v422 c0_i32_326
  let c1_i32_329 : BitVec 32 := 1#32
  let v695 : BitVec 32 := Scalar.addi v690 c1_i32_329
  let c512_i32_330 : BitVec 32 := 512#32
  let v696 : BitVec 32 := Scalar.muli v695 c512_i32_330
  v696
def k0_off7 (i : grid0.Coords) (c0_i32_326 : BitVec 32) : Fin 2 → Nat :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let v690 : BitVec 32 := Scalar.addi v422 c0_i32_326
  let c1_i32_329 : BitVec 32 := 1#32
  let v695 : BitVec 32 := Scalar.addi v690 c1_i32_329
  let c512_i32_330 : BitVec 32 := 512#32
  let v696 : BitVec 32 := Scalar.muli v695 c512_i32_330
  let v697 : BitVec 32 := v696
  let v698 : Index := Scalar.indexCast v697
  let c0_331 : Index := 0#32
  ![v698.toNat, 0]
def k0_mult21 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c1_i32_399 : BitVec 32 := 1#32
  let v794 : BitVec 32 := Scalar.addi v422 c1_i32_399
  let c512_i32_400 : BitVec 32 := 512#32
  let v795 : BitVec 32 := Scalar.muli v794 c512_i32_400
  v795
def k0_mult22 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c1_i32_399 : BitVec 32 := 1#32
  let v794 : BitVec 32 := Scalar.addi v422 c1_i32_399
  let c1_i32_402 : BitVec 32 := 1#32
  let v799 : BitVec 32 := Scalar.addi v794 c1_i32_402
  let c512_i32_403 : BitVec 32 := 512#32
  let v800 : BitVec 32 := Scalar.muli v799 c512_i32_403
  v800
def k0_cond2 (i : grid0.Coords) : BitVec 1 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c1_i32_167 : BitVec 32 := 1#32
  let v429 : BitVec 32 := Scalar.andi v341 c1_i32_167
  let c0_i32_168 : BitVec 32 := 0#32
  let v430 : BitVec 1 := Scalar.cmpi .ne v429 c0_i32_168
  let v431 : BitVec 32 := Scalar.extui v430
  let c0_i32_169 : BitVec 32 := 0#32
  let v432 : BitVec 1 := Scalar.cmpi .ne v431 c0_i32_169
  v432

def k0_mult23 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c2_i32_166 : BitVec 32 := 2#32
  let v427 : BitVec 32 := Scalar.andi v341 c2_i32_166
  let v428 : BitVec 32 := Scalar.addi v422 v427
  let c0_i32_326 : BitVec 32 := 0#32
  let v690 : BitVec 32 := Scalar.addi v428 c0_i32_326
  let c512_i32_327 : BitVec 32 := 512#32
  let v691 : BitVec 32 := Scalar.muli v690 c512_i32_327
  v691
def k0_off8 (i : grid0.Coords) : Fin 2 → Nat :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c2_i32_166 : BitVec 32 := 2#32
  let v427 : BitVec 32 := Scalar.andi v341 c2_i32_166
  let v428 : BitVec 32 := Scalar.addi v422 v427
  let c0_i32_326 : BitVec 32 := 0#32
  let v690 : BitVec 32 := Scalar.addi v428 c0_i32_326
  let c512_i32_327 : BitVec 32 := 512#32
  let v691 : BitVec 32 := Scalar.muli v690 c512_i32_327
  let v692 : BitVec 32 := v691
  let v693 : Index := Scalar.indexCast v692
  let c0_328 : Index := 0#32
  ![v693.toNat, 0]
def k0_mult24 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c2_i32_166 : BitVec 32 := 2#32
  let v427 : BitVec 32 := Scalar.andi v341 c2_i32_166
  let v428 : BitVec 32 := Scalar.addi v422 v427
  let c0_i32_326 : BitVec 32 := 0#32
  let v690 : BitVec 32 := Scalar.addi v428 c0_i32_326
  let c1_i32_329 : BitVec 32 := 1#32
  let v695 : BitVec 32 := Scalar.addi v690 c1_i32_329
  let c512_i32_330 : BitVec 32 := 512#32
  let v696 : BitVec 32 := Scalar.muli v695 c512_i32_330
  v696
def k0_off9 (i : grid0.Coords) : Fin 2 → Nat :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c0_i32_157 : BitVec 32 := 0#32
  let v406 : BitVec 1 := Scalar.cmpi .sgt v341 c0_i32_157
  let v407 : BitVec 32 := Scalar.extui v406
  let c0_i32_158 : BitVec 32 := 0#32
  let v408 : BitVec 1 := Scalar.cmpi .slt v341 c0_i32_158
  let v409 : BitVec 32 := Scalar.extui v408
  let v410 : BitVec 32 := Scalar.subi v407 v409
  let c4_i32_156 : BitVec 32 := 4#32
  let c0_i32_159 : BitVec 32 := 0#32
  let v411 : BitVec 1 := Scalar.cmpi .sgt c4_i32_156 c0_i32_159
  let v412 : BitVec 32 := Scalar.extui v411
  let c0_i32_160 : BitVec 32 := 0#32
  let v413 : BitVec 1 := Scalar.cmpi .slt c4_i32_156 c0_i32_160
  let v414 : BitVec 32 := Scalar.extui v413
  let v415 : BitVec 32 := Scalar.subi v412 v414
  let v416 : BitVec 1 := Scalar.cmpi .ne v410 v415
  let v417 : BitVec 32 := Scalar.remsi v341 c4_i32_156
  let c0_i32_161 : BitVec 32 := 0#32
  let v418 : BitVec 1 := Scalar.cmpi .ne v417 c0_i32_161
  let v419 : BitVec 1 := Scalar.andi v416 v418
  let v405 : BitVec 32 := Scalar.divsi v341 c4_i32_156
  let c1_i32_162 : BitVec 32 := 1#32
  let v420 : BitVec 32 := Scalar.subi v405 c1_i32_162
  let v421 : BitVec 32 := Scalar.select v419 v420 v405
  let c4_i32_163 : BitVec 32 := 4#32
  let v422 : BitVec 32 := Scalar.muli v421 c4_i32_163
  let c2_i32_166 : BitVec 32 := 2#32
  let v427 : BitVec 32 := Scalar.andi v341 c2_i32_166
  let v428 : BitVec 32 := Scalar.addi v422 v427
  let c0_i32_326 : BitVec 32 := 0#32
  let v690 : BitVec 32 := Scalar.addi v428 c0_i32_326
  let c1_i32_329 : BitVec 32 := 1#32
  let v695 : BitVec 32 := Scalar.addi v690 c1_i32_329
  let c512_i32_330 : BitVec 32 := 512#32
  let v696 : BitVec 32 := Scalar.muli v695 c512_i32_330
  let v697 : BitVec 32 := v696
  let v698 : Index := Scalar.indexCast v697
  let c0_331 : Index := 0#32
  ![v698.toNat, 0]
def k0_mult25 (i : grid0.Coords) : BitVec 32 :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c512_i32_170 : BitVec 32 := 512#32
  let v433 : BitVec 32 := Scalar.muli v341 c512_i32_170
  v433
def k0_off10 (i : grid0.Coords) : Fin 2 → Nat :=
  let arg2 : BitVec 32 := BitVec.ofNat 32 (i 2).val
  let c256_i32 : BitVec 32 := 256#32
  let v0 : BitVec 32 := Scalar.muli arg2 c256_i32
  let c0_i32_105 : BitVec 32 := 0#32
  let v326 : BitVec 1 := Scalar.cmpi .sgt v0 c0_i32_105
  let v327 : BitVec 32 := Scalar.extui v326
  let c0_i32_106 : BitVec 32 := 0#32
  let v328 : BitVec 1 := Scalar.cmpi .slt v0 c0_i32_106
  let v329 : BitVec 32 := Scalar.extui v328
  let v330 : BitVec 32 := Scalar.subi v327 v329
  let c512_i32_104 : BitVec 32 := 512#32
  let c0_i32_107 : BitVec 32 := 0#32
  let v331 : BitVec 1 := Scalar.cmpi .sgt c512_i32_104 c0_i32_107
  let v332 : BitVec 32 := Scalar.extui v331
  let c0_i32_108 : BitVec 32 := 0#32
  let v333 : BitVec 1 := Scalar.cmpi .slt c512_i32_104 c0_i32_108
  let v334 : BitVec 32 := Scalar.extui v333
  let v335 : BitVec 32 := Scalar.subi v332 v334
  let v336 : BitVec 1 := Scalar.cmpi .ne v330 v335
  let v337 : BitVec 32 := Scalar.remsi v0 c512_i32_104
  let c0_i32_109 : BitVec 32 := 0#32
  let v338 : BitVec 1 := Scalar.cmpi .ne v337 c0_i32_109
  let v339 : BitVec 1 := Scalar.andi v336 v338
  let v325 : BitVec 32 := Scalar.divsi v0 c512_i32_104
  let c1_i32_110 : BitVec 32 := 1#32
  let v340 : BitVec 32 := Scalar.subi v325 c1_i32_110
  let v341 : BitVec 32 := Scalar.select v339 v340 v325
  let c512_i32_170 : BitVec 32 := 512#32
  let v433 : BitVec 32 := Scalar.muli v341 c512_i32_170
  let v434 : BitVec 32 := v433
  let v435 : Index := Scalar.indexCast v434
  let c0_171 : Index := 0#32
  ![v435.toNat, 0]
def k0_off11 (i : grid0.Coords) (c0_i32_257 : BitVec 32) (c0_i32_258 : BitVec 32) : Fin 2 → Nat :=
  let arg1 : BitVec 32 := BitVec.ofNat 32 (i 1).val
  let c4_i32_256 : BitVec 32 := 4#32
  let v569 : BitVec 32 := Scalar.muli arg1 c4_i32_256
  let v570 : BitVec 32 := Scalar.addi c0_i32_257 v569
  let v571 : BitVec 32 := Scalar.addi v570 c0_i32_258
  let v572 : Index := Scalar.indexCast v571
  let c0_259 : Index := 0#32
  ![v572.toNat, 0]
def k0_off12 (i : grid0.Coords) (c0_i32_306 : BitVec 32) : Fin 3 → Nat :=
  let arg1 : BitVec 32 := BitVec.ofNat 32 (i 1).val
  let c4_i32_305 : BitVec 32 := 4#32
  let v651 : BitVec 32 := Scalar.muli arg1 c4_i32_305
  let v652 : BitVec 32 := Scalar.addi v651 c0_i32_306
  let v653 : Index := Scalar.indexCast v652
  let c0_307 : Index := 0#32
  let c0_308 : Index := 0#32
  ![v653.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S8x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Bias.lean ====
abbrev S2x32x128 : Shape := ⟨3, ![2, 32, 128]⟩
abbrev S2x32x128x128 : Shape := ⟨4, ![2, 32, 128, 128]⟩
abbrev S2x128 : Shape := ⟨2, ![2, 128]⟩
abbrev S2x1x4096 : Shape := ⟨3, ![2, 1, 4096]⟩
abbrev S2x4096x128 : Shape := ⟨3, ![2, 4096, 128]⟩
abbrev S2x1x128 : Shape := ⟨3, ![2, 1, 128]⟩
abbrev S1x1x4096 : Shape := ⟨3, ![1, 1, 4096]⟩
abbrev S1x4096 : Shape := ⟨2, ![1, 4096]⟩
abbrev S8x4096 : Shape := ⟨2, ![8, 4096]⟩
abbrev S1x4096x128 : Shape := ⟨3, ![1, 4096, 128]⟩
abbrev S4096x128 : Shape := ⟨2, ![4096, 128]⟩
abbrev S8x128 : Shape := ⟨2, ![8, 128]⟩
abbrev S1x128 : Shape := ⟨2, ![1, 128]⟩
abbrev S1x1x128 : Shape := ⟨3, ![1, 1, 128]⟩

abbrev nBuf : Space → Nat
  | .hbm => 8
  | .vmem => 4
  | .smem => 0
  | _ => 0

abbrev bufTy : (tb : Table) → Fin (tcTables nBuf tb) → BufTy
  | .hbm, ⟨0, _⟩ => ⟨S2x32x128, .f32⟩
  | .hbm, ⟨1, _⟩ => ⟨S2x32x128x128, .f32⟩
  | .hbm, ⟨2, _⟩ => ⟨S2x128, .f32⟩
  | .hbm, ⟨3, _⟩ => ⟨S2x1x4096, .f32⟩
  | .hbm, ⟨4, _⟩ => ⟨S2x4096x128, .f32⟩
  | .hbm, ⟨5, _⟩ => ⟨S2x4096x128, .bf16⟩
  | .hbm, ⟨6, _⟩ => ⟨S2x1x128, .f32⟩
  | .hbm, ⟨7, _⟩ => ⟨S2x1x128, .f32⟩
  | .local _ .vmem, ⟨0, _⟩ => ⟨S2x1x4096, .f32⟩
  | .local _ .vmem, ⟨1, _⟩ => ⟨S2x4096x128, .bf16⟩
  | .local _ .vmem, ⟨2, _⟩ => ⟨S2x1x128, .f32⟩
  | .local _ .vmem, ⟨3, _⟩ => ⟨S2x1x128, .f32⟩
  | _, _ => ⟨S2x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BiasRefIdeal.lean ====
abbrev S2x32x128 : Shape := ⟨3, ![2, 32, 128]⟩
abbrev S2x32x128x128 : Shape := ⟨4, ![2, 32, 128, 128]⟩
abbrev S2x128 : Shape := ⟨2, ![2, 128]⟩
abbrev S2x1x128 : Shape := ⟨3, ![2, 1, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x32x128, .f32⟩
  | .hbm, ⟨1, _⟩ => ⟨S2x32x128x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x1x128, .f32⟩
  | _, _ => ⟨S2x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Front.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S2048x6680 : Shape := ⟨2, ![2048, 6680]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S2048x24 : Shape := ⟨2, ![2048, 24]⟩
abbrev S2048x2560 : Shape := ⟨2, ![2048, 2560]⟩
abbrev S2048x4096 : Shape := ⟨2, ![2048, 4096]⟩
abbrev S2048x7168 : Shape := ⟨2, ![2048, 7168]⟩
abbrev S16384x2560 : Shape := ⟨2, ![16384, 2560]⟩
abbrev S16384x4096 : Shape := ⟨2, ![16384, 4096]⟩
abbrev S16384x128 : Shape := ⟨2, ![16384, 128]⟩
abbrev S65536x128 : Shape := ⟨2, ![65536, 128]⟩
abbrev S1024x2048 : Shape := ⟨2, ![1024, 2048]⟩
abbrev S1024x512 : Shape := ⟨2, ![1024, 512]⟩
abbrev S1024x128 : Shape := ⟨2, ![1024, 128]⟩
abbrev S4096x128 : Shape := ⟨2, ![4096, 128]⟩
abbrev S1x2x8192x2x2x128 : Shape := ⟨6, ![1, 2, 8192, 2, 2, 128]⟩
abbrev S1x2x512x2x2x128 : Shape := ⟨6, ![1, 2, 512, 2, 2, 128]⟩

abbrev nBuf : Space → Nat
  | .hbm => 42
  | .vmem => 34
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x6680, .f32⟩
  | .hbm, ⟨7, _⟩ => ⟨S2048x5504, .bf16⟩
  | .hbm, ⟨8, _⟩ => ⟨S_, .i32⟩
  | .hbm, ⟨9, _⟩ => ⟨S_, .bf16⟩
  | .hbm, ⟨10, _⟩ => ⟨S2048x5632, .bf16⟩
  | .hbm, ⟨11, _⟩ => ⟨S2048x5504, .bf16⟩
  | .hbm, ⟨12, _⟩ => ⟨S_, .i32⟩
  | .hbm, ⟨13, _⟩ => ⟨S_, .bf16⟩
  | .hbm, ⟨14, _⟩ => ⟨S2048x5632, .bf16⟩
  | .hbm, ⟨15, _⟩ => ⟨S5504x2048, .bf16⟩
  | .hbm, ⟨16, _⟩ => ⟨S_, .i32⟩
  | .hbm, ⟨17, _⟩ => ⟨S_, .bf16⟩
  | .hbm, ⟨18, _⟩ => ⟨S5632x2048, .bf16⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .bf16⟩
  | .hbm, ⟨23, _⟩ => ⟨S2048x24, .f32⟩
  | .hbm, ⟨24, _⟩ => ⟨S2048x2560, .f32⟩
  | .hbm, ⟨25, _⟩ => ⟨S2048x4096, .f32⟩
  | .hbm, ⟨26, _⟩ => ⟨S_, .i32⟩
  | .hbm, ⟨27, _⟩ => ⟨S_, .f32⟩
  | .hbm, ⟨28, _⟩ => ⟨S2048x512, .f32⟩
  | .hbm, ⟨29, _⟩ => ⟨S2048x7168, .f32⟩
  | .hbm, ⟨30, _⟩ => ⟨S2048x7168, .bf16⟩
  | .hbm, ⟨31, _⟩ => ⟨S16384x2560, .f32⟩
  | .hbm, ⟨32, _⟩ => ⟨S16384x2560, .bf16⟩
  | .hbm, ⟨33, _⟩ => ⟨S16384x4096, .f32⟩
  | .hbm, ⟨34, _⟩ => ⟨S16384x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S1x2x8192x2x2x128, .f32⟩
  | .hbm, ⟨39, _⟩ => ⟨S1x2x8192x2x2x128, .f32⟩
  | .hbm, ⟨40, _⟩ => ⟨S1x2x8192x2x2x128, .f32⟩
  | .hbm, ⟨41, _⟩ => ⟨S1x2x512x2x2x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x512, .bf16⟩
  | .local _ .vmem, ⟨19, _⟩ => ⟨S2048x512, .bf16⟩
  | .local _ .vmem, ⟨20, _⟩ => ⟨S1024x512, .f32⟩
  | .local _ .vmem, ⟨21, _⟩ => ⟨S1024x512, .f32⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | .local _ .vmem, ⟨26, _⟩ => ⟨S1024x128, .f32⟩
  | .local _ .vmem, ⟨27, _⟩ => ⟨S1024x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v15_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 14], ![false, false]⟩

def k1_cond1 (i : grid1.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k1_cond2 (i : grid1.Coords) : BitVec 1 :=
  let arg1 : BitVec 32 := BitVec.ofNat 32 (i 1).val
  let c2_i32_0 : BitVec 32 := 2#32
  let v3 : BitVec 1 := Scalar.cmpi .eq arg1 c2_i32_0
  let v4 : BitVec 32 := Scalar.extui v3
  let c0_i32_1 : BitVec 32 := 0#32
  let v5 : BitVec 1 := Scalar.cmpi .ne v4 c0_i32_1
  v5

def k1_cond3 (i : grid1.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_2 : BitVec 32 := 0#32
  let v8 : BitVec 1 := Scalar.cmpi .ne v7 c0_i32_2
  v8

def k1_cond4 (i : grid1.Coords) : BitVec 1 :=
  let arg1 : BitVec 32 := BitVec.ofNat 32 (i 1).val
  let c4_i32 : BitVec 32 := 4#32
  let v9 : BitVec 1 := Scalar.cmpi .eq arg1 c4_i32
  let v10 : BitVec 32 := Scalar.extui v9
  let c0_i32_3 : BitVec 32 := 0#32
  let v11 : BitVec 1 := Scalar.cmpi .ne v10 c0_i32_3
  v11

def k1_cond5 (i : grid1.Coords) : BitVec 1 :=
  let arg1 : BitVec 32 := BitVec.ofNat 32 (i 1).val
  let c5_i32 : BitVec 32 := 5#32
  let v12 : BitVec 1 := Scalar.cmpi .sge arg1 c5_i32
  let c13_i32 : BitVec 32 := 13#32
  let v13 : BitVec 1 := Scalar.cmpi .slt arg1 c13_i32
  let v14 : BitVec 1 := Scalar.andi v12 v13
  let v15 : BitVec 32 := Scalar.extui v14
  let c0_i32_4 : BitVec 32 := 0#32
  let v16 : BitVec 1 := Scalar.cmpi .ne v15 c0_i32_4
  v16

def k1_cond6 (i : grid1.Coords) : BitVec 1 :=
  let arg1 : BitVec 32 := BitVec.ofNat 32 (i 1).val
  let c13_i32_5 : BitVec 32 := 13#32
  let v17 : BitVec 1 := Scalar.cmpi .eq arg1 c13_i32_5
  let v18 : BitVec 32 := Scalar.extui v17
  let c0_i32_6 : BitVec 32 := 0#32
  let v19 : BitVec 1 := Scalar.cmpi .ne v18 c0_i32_6
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== FrontRefIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S2048x6680 : Shape := ⟨2, ![2048, 6680]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩
abbrev S16384x6680 : Shape := ⟨2, ![16384, 6680]⟩
abbrev S16384x2560 : Shape := ⟨2, ![16384, 2560]⟩
abbrev S16384x24 : Shape := ⟨2, ![16384, 24]⟩
abbrev S16384x128 : Shape := ⟨2, ![16384, 128]⟩
abbrev S16384x4096 : Shape := ⟨2, ![16384, 4096]⟩
abbrev S16384x512 : Shape := ⟨2, ![16384, 512]⟩
abbrev S65536x128 : Shape := ⟨2, ![65536, 128]⟩
abbrev S1x2x8192x2x2x128 : Shape := ⟨6, ![1, 2, 8192, 2, 2, 128]⟩
abbrev S1x2x512x2x2x128 : Shape := ⟨6, ![1, 2, 512, 2, 2, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x6680, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x5504, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x5504, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | .hbm, ⟨56, _⟩ => ⟨S16384x2048, .bf16⟩
  | .hbm, ⟨57, _⟩ => ⟨S16384x2048, .f32⟩
  | .hbm, ⟨58, _⟩ => ⟨S16384x6680, .f32⟩
  | .hbm, ⟨59, _⟩ => ⟨S16384x2560, .f32⟩
  | .hbm, ⟨60, _⟩ => ⟨S16384x24, .f32⟩
  | .hbm, ⟨61, _⟩ => ⟨S_, .i32⟩
  | .hbm, ⟨62, _⟩ => ⟨S_, .f32⟩
  | .hbm, ⟨63, _⟩ => ⟨S16384x128, .f32⟩
  | .hbm, ⟨64, _⟩ => ⟨S16384x2560, .bf16⟩
  | .hbm, ⟨65, _⟩ => ⟨S16384x4096, .f32⟩
  | .hbm, ⟨66, _⟩ => ⟨S16384x512, .f32⟩
  | .hbm, ⟨67, _⟩ => ⟨S65536x128, .f32⟩
  | .hbm, ⟨68, _⟩ => ⟨S16384x512, .f32⟩
  | .hbm, ⟨69, _⟩ => ⟨S65536x128, .f32⟩
  | .hbm, ⟨70, _⟩ => ⟨S16384x512, .f32⟩
  | .hbm, ⟨71, _⟩ => ⟨S65536x128, .f32⟩
  | .hbm, ⟨72, _⟩ => ⟨S1x2x8192x2x2x128, .f32⟩
  | .hbm, ⟨73, _⟩ => ⟨S1x2x8192x2x2x128, .f32⟩
  | .hbm, ⟨74, _⟩ => ⟨S1x2x8192x2x2x128, .f32⟩
  | .hbm, ⟨75, _⟩ => ⟨S1x2x512x2x2x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Ffn.Pay.lean ====
/- The half step's stored values, and the reference's results, read at one entry over the ideal extended reals. -/
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIdeal.Val

open Cert.FfnIdeal Cert.FfnIdeal.Gen
open Cert.FfnRefIdeal.Read

/-- One row scaled by the reciprocal root of its mean square plus epsilon, then by the gain. -/
def rms (x g : Fin 2048 → EReal) (d : Fin 2048) : EReal :=
  x d * Ideal.rsqrt (Ideal.div (∑ k : Fin 2048, x k * x k) (Ideal.ofBits FTy.f32 0x45000000#32) +
    Ideal.ofBits FTy.f32 0x358637BD#32) * g d

/-- One hidden unit: the gate's projection times its logistic, times the other projection. -/
def gate (h wg wu : Fin 2048 → EReal) : EReal :=
  (∑ k : Fin 2048, h k * wg k) * Ideal.logistic (∑ k : Fin 2048, h k * wg k) * ∑ k : Fin 2048, h k * wu k

/-- The first store normalises each row of the block. -/
theorem pay1_at (x : Vec Ideal S512x2048 .f32) (g : Vec Ideal S1x2048 .f32) (j : S512x2048.Idx) :
    k0_pay1 (F := Ideal) x g j = rms (fun k => x (ValueIdx.ix2 (j 0) k)) (fun k => g (ValueIdx.ix2 0 k)) (j 1) := by
  idx_vars j
  pointwise [k0_pay1, rms]
  rfl

/-- The second store is zero everywhere. -/
theorem pay2_at (j : S512x2048.Idx) : k0_pay2 (F := Ideal) j = 0 := by
  pointwise [k0_pay2]

/-- The accumulating store: what was held plus this step's share of the second product. -/
theorem pay3_at (h : Vec Ideal S512x2048 .bf16) (wg wu : Vec Ideal S2048x512 .bf16) (acc : Vec Ideal S512x2048 .f32)
    (wd : Vec Ideal S512x2048 .bf16) (j : S512x2048.Idx) :
    k0_pay3 (F := Ideal) h wg wu acc wd j = acc j +
      ∑ s : Fin 512, gate (fun k => h (ValueIdx.ix2 (j 0) k)) (fun k => wg (ValueIdx.ix2 k s))
        (fun k => wu (ValueIdx.ix2 k s)) * wd (ValueIdx.ix2 s (j 1)) := by
  idx_vars j
  pointwise [k0_pay3, gate]
  rfl

/-- The first output: the block plus half the accumulated product. -/
theorem pay4_at (x acc : Vec Ideal S512x2048 .f32) (j : S512x2048.Idx) :
    k0_pay4 (F := Ideal) x acc j = x j + Ideal.ofBits FTy.f32 0x3F000000#32 * acc j := by
  pointwise [k0_pay4]

/-- The second output normalises each row of the first. -/
theorem pay5_at (x acc : Vec Ideal S512x2048 .f32) (g : Vec Ideal S1x2048 .f32) (j : S512x2048.Idx) :
    k0_pay5 (F := Ideal) x acc g j =
      rms (fun k => k0_pay4 (F := Ideal) x acc (ValueIdx.ix2 (j 0) k)) (fun k => g (ValueIdx.ix2 0 k)) (j 1) := by
  idx_vars j
  pointwise [k0_pay5, rms]
  rfl

/-- The reference's normalised input. -/
theorem ref12_at (x : Vec Ideal S16384x2048 .f32) (g : Vec Ideal S2048 .f32) (a : Fin 16384) (d : Fin 2048) :
    val_main_v12 (F := Ideal) x g (ValueIdx.ix2 a d) =
      rms (fun k => x (ValueIdx.ix2 a k)) (fun k => g (ValueIdx.ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rms]
  rfl

/-- The reference's second product is the sum over the hidden units. -/
theorem ref17_at (x : Vec Ideal S16384x2048 .f32) (g : Vec Ideal S2048 .f32)
    (wg wu : Vec Ideal Cert.FfnRefIdeal.S2048x5504 .f32) (wd : Vec Ideal Cert.FfnRefIdeal.S5504x2048 .f32) (a : Fin 16384) (e : Fin 2048) :
    val_main_v17 (F := Ideal) x g wg wu wd (ValueIdx.ix2 a e) =
      ∑ f : Fin 5504, gate (fun k => val_main_v12 (F := Ideal) x g (ValueIdx.ix2 a k)) (fun k => wg (ValueIdx.ix2 k f))
        (fun k => wu (ValueIdx.ix2 k f)) * wd (ValueIdx.ix2 f e) := by
  pointwise [val_main_v17, val_main_v16, val_main_v15, val_main_v14, val_main_v13, val_main_call0_v0, val_main_call0_v1,
    val_main_call0_v2, val_main_call0_v3, val_main_call0_v4, val_main_call0_v5, val_main_call0_cst, val_main_call0_cst_0, gate]
  rfl

/-- The reference's first result. -/
theorem ref20_at (x : Vec Ideal S16384x2048 .f32) (g : Vec Ideal S2048 .f32)
    (wg wu : Vec Ideal Cert.FfnRefIdeal.S2048x5504 .f32) (wd : Vec Ideal Cert.FfnRefIdeal.S5504x2048 .f32) (a : Fin 16384) (e : Fin 2048) :
    val_main_v20 (F := Ideal) x g wg wu wd (ValueIdx.ix2 a e) =
      x (ValueIdx.ix2 a e) + Ideal.ofBits FTy.f32 0x3F000000#32 * val_main_v17 (F := Ideal) x g wg wu wd (ValueIdx.ix2 a e) := by
  pointwise [val_main_v20, val_main_v19, val_main_v18, val_main_cst_2]

/-- The reference's second result normalises each row of the first. -/
theorem ref34_at (x : Vec Ideal S16384x2048 .f32) (g : Vec Ideal S2048 .f32)
    (wg wu : Vec Ideal Cert.FfnRefIdeal.S2048x5504 .f32) (wd : Vec Ideal Cert.FfnRefIdeal.S5504x2048 .f32) (g' : Vec Ideal S2048 .f32)
    (a : Fin 16384) (e : Fin 2048) :
    val_main_v34 (F := Ideal) x g wg wu wd g' (ValueIdx.ix2 a e) =
      rms (fun k => val_main_v20 (F := Ideal) x g wg wu wd (ValueIdx.ix2 a k)) (fun k => g' (ValueIdx.ix1 k)) e := by
  pointwise [val_main_v34, val_main_v33, val_main_v32, val_main_v31, val_main_v30, val_main_v29, val_main_v28, val_main_v27,
    val_main_v26, val_main_v25, val_main_v24, val_main_v23, val_main_v22, val_main_v21, val_main_cst_3, val_main_cst_4,
    val_main_cst_5, rms]
  rfl

end Cert.FfnIdeal.Val

end
-- ==== Proof.Ffn.Rows.lean ====
/- The half step over one block of rows: what the walk over the hidden units' blocks leaves, from what the blocks hold. -/
module

public import proofs.«01_k».proof.Proof.Ffn.Pay

@[expose] public section

set_option maxRecDepth 16384

noncomputable section

open Idealize.ShloMosaic Idealize.ShloMosaic.TcCoe Idealize.SL.Sem

namespace Cert.FfnIdeal.Val

open Cert.FfnIdeal Cert.FfnIdeal.Gen
open Cert.FfnRefIdeal.Read

/-- The padding value is zero. -/
theorem sitofp_zero : (FloatOps.sitofp (F := Ideal) FTy.bf16 0#32) = (0 : EReal) := by
  simp [FloatOps.sitofp]

/-- The gate's and the other weight's columns past the last are the padding, zero. -/
theorem padCols_at (W : Vec Ideal S2048x5504 .bf16) (j : S2048x5632.Idx) (k : Fin 2048) (h : (j 0).val = k.val) :
    pad S2048x5632 ![0, 0] ![0, 128] ![0, 0] W (sitofp (F := Ideal) .bf16 (constantI S_ 32 0#32))
      pads_S2048x5504_S2048x5632_000_01280 h_S_ j =
    if h : (j 1).val < 5504 then W (ValueIdx.ix2 k ⟨(j 1).val, h⟩) else 0 := by
  obtain rfl : j 0 = k := Fin.ext h
  pointwise
  rw [sitofp_zero]
  rfl

/-- The last weight's rows past the last are the padding, zero. -/
theorem padRows_at (W : Vec Ideal S5504x2048 .bf16) (j : S5632x2048.Idx) (k : Fin 2048) (h : (j 1).val = k.val) :
    pad S5632x2048 ![0, 0] ![128, 0] ![0, 0] W (sitofp (F := Ideal) .bf16 (constantI S_ 32 0#32))
      pads_S5504x2048_S5632x2048_01280_000 h_S_ j =
    if h : (j 0).val < 5504 then W (ValueIdx.ix2 ⟨(j 0).val, h⟩ k) else 0 := by
  obtain rfl : j 1 = k := Fin.ext h
  pointwise
  rw [sitofp_zero]
  rfl

/-- The weight's column of a hidden unit, zero past the last. -/
def col (W : Vec Ideal S2048x5504 .f32) (f : Fin 5632) (k : Fin 2048) : EReal :=
  if h : f.val < 5504 then W (ValueIdx.ix2 k ⟨f.val, h⟩) else 0

/-- The last weight's row of a hidden unit, zero past the last. -/
def rowD (W : Vec Ideal S5504x2048 .f32) (f : Fin 5632) (e : Fin 2048) : EReal :=
  if h : f.val < 5504 then W (ValueIdx.ix2 ⟨f.val, h⟩ e) else 0

/-- A row of a grid point's block of rows, as a row of the array. -/
def rowOf (n : ℕ) (h : n < 352) (a : Fin 512) : Fin 16384 := ⟨n / 11 * 512 + a.val, by omega⟩

/-- The hidden unit a grid point's lane stands for. -/
def unitOf (n : ℕ) (s : Fin 512) : Fin 5632 := ⟨n % 11 * 512 + s.val, by omega⟩

/-- An index of a block of rows is the pair of its coordinates. -/
theorem eta (j : S512x2048.Idx) : ValueIdx.ix2 (j 0) (j 1) = j :=
  funext fun a => match a with
    | ⟨0, _⟩ => rfl
    | ⟨1, _⟩ => rfl

variable (x : Vec Ideal S16384x2048 .f32) (g : Vec Ideal S2048 .f32) (wg wu : Vec Ideal S2048x5504 .f32)
  (wd : Vec Ideal S5504x2048 .f32) (pg : Vec Ideal S2048 .f32)

/-- The normalised rows of a block. -/
def hid (r : Fin 512 → Fin 16384) : Vec Ideal S512x2048 .bf16 := fun j =>
  val_main_v12 (F := Ideal) x g (ValueIdx.ix2 (r (j 0)) (j 1))

/-- One hidden unit's share of an output entry, zero past the last unit. -/
def share (r : Fin 512 → Fin 16384) (j : S512x2048.Idx) (f : Fin 5632) : EReal :=
  gate (fun k => hid x g r (ValueIdx.ix2 (j 0) k)) (col wg f) (col wu f) * rowD wd f (j 1)

/-- The shares over all the hidden units sum to the reference's second product. -/
theorem shares_sum (r : Fin 512 → Fin 16384) (j : S512x2048.Idx) :
    ∑ f : Fin 5632, share x g wg wu wd r j f =
      val_main_v17 (F := Ideal) x g wg wu wd (ValueIdx.ix2 (r (j 0)) (j 1)) := by
  rw [Fin.sum_univ_two_halves 5504 128 rfl (share x g wg wu wd r j)]
  refine Eq.trans ?_ (ref17_at x g wg wu wd (r (j 0)) (j 1)).symm
  refine Eq.trans (congrArg (_ + ·) (Finset.sum_eq_zero fun k _ => ?_)) ((add_zero _).trans ?_)
  · unfold share rowD
    rw [dif_neg (by show ¬ 5504 + k.val < 5504; omega), mul_zero]
  · refine Finset.sum_congr rfl fun f _ => ?_
    have hf : f.val < 5504 := f.isLt
    unfold share rowD col
    simp only [dif_pos hf]
    rfl

variable {N : ℕ} (lt : ∀ t : Fin N, t.val < 352)

/-- What the six staged blocks hold at every grid point, read off the arguments. -/
structure Staged (b0 : Fin N → Vec Ideal S512x2048 .f32) (b1 : Fin N → Vec Ideal S1x2048 .f32)
    (b2 b3 : Fin N → Vec Ideal S2048x512 .bf16) (b4 : Fin N → Vec Ideal S512x2048 .bf16)
    (b5 : Fin N → Vec Ideal S1x2048 .f32) : Prop where
  rows : ∀ t a k, b0 t (ValueIdx.ix2 a k) = x (ValueIdx.ix2 (rowOf t.val (lt t) a) k)
  gain : ∀ t k, b1 t (ValueIdx.ix2 0 k) = g (ValueIdx.ix1 k)
  gates : ∀ t k s, b2 t (ValueIdx.ix2 k s) = col wg (unitOf t.val s) k
  ups : ∀ t k s, b3 t (ValueIdx.ix2 k s) = col wu (unitOf t.val s) k
  downs : ∀ t s k, b4 t (ValueIdx.ix2 s k) = rowD wd (unitOf t.val s) k
  post : ∀ t k, b5 t (ValueIdx.ix2 0 k) = pg (ValueIdx.ix1 k)

variable {b0 : Fin N → Vec Ideal S512x2048 .f32} {b1 : Fin N → Vec Ideal S1x2048 .f32}
  {b2 b3 : Fin N → Vec Ideal S2048x512 .bf16} {b4 : Fin N → Vec Ideal S512x2048 .bf16}
  {b5 : Fin N → Vec Ideal S1x2048 .f32}

/-- The grid point before. -/
abbrev prev (t : Fin N) : t.val - 1 < N := Nat.lt_of_le_of_lt (Nat.sub_le _ _) t.isLt

/-- What the two scratches hold after each grid point: reset where a walk over the hidden units begins, the first kept
and the second added to elsewhere. -/
structure Walk (b0 : Fin N → Vec Ideal S512x2048 .f32) (b1 : Fin N → Vec Ideal S1x2048 .f32)
    (b2 b3 : Fin N → Vec Ideal S2048x512 .bf16) (b4 : Fin N → Vec Ideal S512x2048 .bf16)
    (h : (n : ℕ) → n < N → Vec Ideal S512x2048 .bf16) (acc : (n : ℕ) → n < N → Vec Ideal S512x2048 .f32) : Prop where
  norm : ∀ t : Fin N, t.val % 11 = 0 → h t.val t.isLt = k0_pay1 (F := Ideal) (b0 t) (b1 t)
  start : ∀ t : Fin N, t.val % 11 = 0 →
    acc t.val t.isLt = k0_pay3 (F := Ideal) (k0_pay1 (F := Ideal) (b0 t) (b1 t)) (b2 t) (b3 t) (k0_pay2 (F := Ideal)) (b4 t)
  keep : ∀ t : Fin N, ¬ t.val % 11 = 0 → h t.val t.isLt = h (t.val - 1) (prev t)
  add : ∀ t : Fin N, ¬ t.val % 11 = 0 →
    acc t.val t.isLt = k0_pay3 (F := Ideal) (h (t.val - 1) (prev t)) (b2 t) (b3 t) (acc (t.val - 1) (prev t)) (b4 t)

variable {h : (n : ℕ) → n < N → Vec Ideal S512x2048 .bf16} {acc : (n : ℕ) → n < N → Vec Ideal S512x2048 .f32}
variable {x g wg wu wd pg lt} (hs : Staged x g wg wu wd pg lt b0 b1 b2 b3 b4 b5) (hw : Walk b0 b1 b2 b3 b4 h acc)

/-- The rows depend on the outer coordinate only. -/
theorem rowOf_congr {n k : ℕ} (hn : n < 352) (hk : k < 352) (e : n / 11 = k / 11) : rowOf n hn = rowOf k hk := by
  funext a
  exact Fin.ext (congrArg (· * 512 + a.val) e)

include hs in
/-- What the first point of a walk stores first is its normalised rows. -/
theorem pay1_rows (t : Fin N) : k0_pay1 (F := Ideal) (b0 t) (b1 t) = hid x g (rowOf t.val (lt t)) := by
  funext j
  rw [pay1_at]
  refine Eq.trans ?_ (ref12_at x g (rowOf t.val (lt t) (j 0)) (j 1)).symm
  exact congrArg₂ (fun x g => rms x g (j 1)) (funext fun k => hs.rows t (j 0) k) (funext fun k => hs.gain t k)

include hs in
/-- The accumulating store over a grid point's blocks. -/
theorem pay3_rows (t : Fin N) (a : Vec Ideal S512x2048 .f32) (j : S512x2048.Idx) :
    k0_pay3 (F := Ideal) (hid x g (rowOf t.val (lt t))) (b2 t) (b3 t) a (b4 t) j =
      a j + ∑ s : Fin 512, share x g wg wu wd (rowOf t.val (lt t)) j (unitOf t.val s) := by
  rw [pay3_at]
  refine congrArg (a j + ·) (Finset.sum_congr rfl fun s _ => ?_)
  simp only [hs.gates, hs.ups]
  exact congrArg (_ * ·) (hs.downs t s (j 1))

include hs hw in
/-- The first scratch holds the normalised rows at every point. -/
theorem held (t : Fin N) : h t.val t.isLt = hid x g (rowOf t.val (lt t)) := by
  rw [Pipeline.eq_of_write_hold h 11 (fun t => hid x g (rowOf t.val (lt t)))
    (fun t e => (hw.norm t e).trans (pay1_rows hs t)) (fun t e => hw.keep t e) t]
  exact congrArg (hid x g) (rowOf_congr _ _ (by show (11 * (t.val / 11)) / 11 = _; omega))

include hs hw in
/-- The second scratch ends a walk at the reference's second product. -/
theorem acc_flush (t : Fin N) (ht : t.val % 11 = 10) (j : S512x2048.Idx) :
    acc t.val t.isLt j = val_main_v17 (F := Ideal) x g wg wu wd (ValueIdx.ix2 (rowOf t.val (lt t) (j 0)) (j 1)) := by
  rw [Pipeline.eq_sum_fin_of_reset_step_apply_of_flush acc 11 (fun _ => (0 : EReal))
    (fun t j => ∑ s : Fin 512, share x g wg wu wd (rowOf t.val (lt t)) j (unitOf t.val s))
    (fun t e j => by rw [hw.start t e, pay1_rows hs, pay3_rows hs, pay2_at])
    (fun t e j => by
      have e1 := held hs hw ⟨t.val - 1, prev t⟩
      rw [rowOf_congr _ (lt t) (by show (t.val - 1) / 11 = t.val / 11; omega)] at e1
      rw [hw.add t e, e1, pay3_rows hs]) t ht j, zero_add, ← shares_sum,
    Fin.sum_univ_tiles 11 512 rfl (share x g wg wu wd (rowOf t.val (lt t)) j)]
  refine Finset.sum_congr rfl fun p _ => Finset.sum_congr rfl fun s _ => ?_
  refine congrArg₂ (fun r f => share x g wg wu wd r j f)
    (rowOf_congr _ _ (by show (11 * (t.val / 11) + p.val) / 11 = _; omega)) (Fin.ext ?_)
  show (11 * (t.val / 11) + p.val) % 11 * 512 + s.val = p.val * 512 + s.val
  omega

include hs hw in
/-- The block plus half of what a walk leaves is the reference's sum. -/
theorem out_rows (t : Fin N) (ht : t.val % 11 = 10) (j : S512x2048.Idx) :
    k0_pay4 (F := Ideal) (b0 t) (acc t.val t.isLt) j =
      val_main_v20 (F := Ideal) x g wg wu wd (ValueIdx.ix2 (rowOf t.val (lt t) (j 0)) (j 1)) := by
  refine Eq.trans ?_ (ref20_at x g wg wu wd (rowOf t.val (lt t) (j 0)) (j 1)).symm
  rw [pay4_at, acc_flush hs hw t ht j]
  exact congrArg (· + _) ((congrArg (b0 t) (eta j).symm).trans (hs.rows t (j 0) (j 1)))

include hs hw in
/-- Its normalised rows are the reference's. -/
theorem norm_rows (t : Fin N) (ht : t.val % 11 = 10) (j : S512x2048.Idx) :
    k0_pay5 (F := Ideal) (b0 t) (acc t.val t.isLt) (b5 t) j =
      val_main_v34 (F := Ideal) x g wg wu wd pg (ValueIdx.ix2 (rowOf t.val (lt t) (j 0)) (j 1)) := by
  refine Eq.trans ?_ (ref34_at x g wg wu wd pg (rowOf t.val (lt t) (j 0)) (j 1)).symm
  rw [pay5_at]
  exact congrArg₂ (fun x g => rms x g (j 1)) (funext fun k => out_rows hs hw t ht (ValueIdx.ix2 (j 0) k))
    (funext fun k => hs.post t k)

end Cert.FfnIdeal.Val

end
-- ==== Proof.Ffn.Value.lean ====
/- The half step's two outputs equal the reference's. -/
module

public import proofs.«01_k».proof.Proof.Ffn.Blocks

@[expose] public section

set_option maxRecDepth 16384

noncomputable section

open Idealize.ShloMosaic Idealize.ShloMosaic.TcCoe Idealize.SL.Sem

namespace Cert.FfnIdeal.Val

open Cert.FfnIdeal Cert.FfnIdeal.Gen
open Cert.FfnRefIdeal.Read
open Idealize.ShloMosaic.Pipeline (Dat)

variable (m : (ℓ : Loc nD τ sig) → Buf (Elt Ideal) ℓ) (c : Dev nD)

/-- The half step's scratches walk over the hidden units' blocks. -/
theorem walk : Walk (fun t => iblk m c 0 t) (fun t => iblk m c 1 t) (fun t => iblk m c 2 t) (fun t => iblk m c 3 t)
    (fun t => iblk m c 4 t) (fun n h => (outsAt0 m c n h).2.2.1) (fun n h => (outsAt0 m c n h).2.2.2) where
  norm t h := by
    have h1 : ¬ t.val % 11 = 10 := by omega
    show (outsAt0 m c t.val t.isLt).2.2.1 = _
    rw [outsAt0_A m c t h h1]
    frame_out
  start t h := by
    have h1 : ¬ t.val % 11 = 10 := by omega
    show (outsAt0 m c t.val t.isLt).2.2.2 = _
    rw [outsAt0_A m c t h h1]
    frame_out
  keep t h := by
    show (outsAt0 m c t.val t.isLt).2.2.1 = _
    by_cases h1 : t.val % 11 = 10
    · rw [outsAt0_C m c t h h1]; rfl
    · rw [outsAt0_B m c t h h1]; rfl
  add t h := by
    show (outsAt0 m c t.val t.isLt).2.2.2 = _
    by_cases h1 : t.val % 11 = 10
    · rw [outsAt0_C m c t h h1]; frame_out
      simp only [read_unread_whole]
    · rw [outsAt0_B m c t h h1]; frame_out
      simp only [read_unread_whole]

/-- The first output array is the reference's first result. -/
theorem arr6 : (dats m 0 c).arrAt 6 cfg0.N =
    val_main_v20 (F := Ideal) (X m c) (Gn m c) (Wg m c) (Wu m c) (Wd m c) := by
  refine (dats m 0 c).arrAt_eq_of_covers 6 _ (by decide +kernel) fun t hf y => ?_
  have ht : t.val % 11 = 10 := (flush0_6 t).mp hf
  have h0 : ¬ t.val % 11 = 0 := by omega
  blk_simp
  rw [after0_6]
  have e : (outsAt0 m c t.val t.isLt).1 = k0_pay4 (F := Ideal) (iblk m c 0 t) (outsAt0 m c t.val t.isLt).2.2.2 := by
    rw [outsAt0_C m c t h0 ht]
    frame_out
  rw [e]
  refine (out_rows (staged m c) (walk m c) t ht y).trans (congrArg _ (Eq.symm ?_))
  blk_ext [idx t, rowOf]

/-- The second output array is the reference's second result. -/
theorem arr7 : (dats m 0 c).arrAt 7 cfg0.N =
    val_main_v34 (F := Ideal) (X m c) (Gn m c) (Wg m c) (Wu m c) (Wd m c) (Pg m c) := by
  refine (dats m 0 c).arrAt_eq_of_covers 7 _ (by decide +kernel) fun t hf y => ?_
  have ht : t.val % 11 = 10 := (flush0_7 t).mp hf
  have h0 : ¬ t.val % 11 = 0 := by omega
  blk_simp
  rw [after0_7]
  have e : (outsAt0 m c t.val t.isLt).2.1 =
      k0_pay5 (F := Ideal) (iblk m c 0 t) (outsAt0 m c t.val t.isLt).2.2.2 (iblk m c 5 t) := by
    rw [outsAt0_C m c t h0 ht]
    frame_out
  rw [e]
  refine (norm_rows (staged m c) (walk m c) t ht y).trans (congrArg _ (Eq.symm ?_))
  blk_ext [idx t, rowOf]

end Cert.FfnIdeal.Val

end
-- ==== Proof.Ffn.Claim.lean ====
/- The half step's claims. -/
module

public import proofs.«01_k».proof.Defs
public import proofs.«01_k».proof.Proof.Ffn.Value
public import proofs.«01_k».proof.Proof.Gen.Ffn.Frame

@[expose] public section

noncomputable section

open Idealize.ShloMosaic Idealize.SL.Sem

namespace Cert.Proof

/-- The half step's kernel runs to the end, leaves its arguments alone and its counters at zero. -/
theorem ffn_frame : Cert.quiescent_Ffn (hFfn := Cert.Ffn.Gen.facts) :=
  fun m ρ _ => Cert.Ffn.Gen.frame m ρ

/-- So does its idealization. -/
theorem ffnIdeal_frame : Cert.quiescent_FfnIdeal (hFfnIdeal := Cert.FfnIdeal.Gen.facts) :=
  fun m ρ _ => Cert.FfnIdeal.Gen.frame m ρ

/-- So does the reference. -/
theorem ffnRef_frame : Cert.quiescent_FfnRefIdeal (hFfnRefIdeal := Cert.FfnRefIdeal.Gen.facts) :=
  fun m ρ _ => (θ_run Cert.FfnRefIdeal.defs _ _).mono
    (fun r h => ⟨fun c => (h c).2.2, Idealize.ShloMosaic.sem_eq_zero_of_no_sems (by decide) r.2⟩)
    (Cert.FfnRefIdeal.Value.run (F := Ideal) m ρ)

/-- Over the extended reals the half step's kernel and the reference end with the same two results. -/
theorem ffn_algebraic : Cert.algebraic_FfnIdeal_FfnRefIdeal (hFfnIdeal := Cert.FfnIdeal.Gen.facts)
    (hFfnRefIdeal := Cert.FfnRefIdeal.Gen.facts) := by
  intro m ρ m' ρ' _ hagree
  refine ⟨fun c => (Cert.FfnIdeal.Gen.dats m 0 c).arrAt 6 Cert.FfnIdeal.cfg0.N,
    fun c => (Cert.FfnIdeal.Gen.dats m 0 c).arrAt 7 Cert.FfnIdeal.cfg0.N, Cert.FfnIdeal.Value.run_blocks m ρ,
    (θ_run Cert.FfnRefIdeal.defs _ _).mono (fun r h c => ⟨(h c).1.trans ?_, (h c).2.1.trans ?_, (h c).2.2⟩)
      (Cert.FfnRefIdeal.Value.run (F := Ideal) m' ρ')⟩
  · refine (Cert.FfnRefIdeal.Read.val_main_v20_eq (F := Ideal) _ _ _ _ _).trans (Eq.trans ?_ (Cert.FfnIdeal.Val.arr6 m c).symm)
    obtain ⟨h0, h1, h2, h3, h4, h5⟩ := hagree c
    rw [h0, h1, h2, h3, h4]
  · refine (Cert.FfnRefIdeal.Read.val_main_v34_eq (F := Ideal) m' c).trans (Eq.trans ?_ (Cert.FfnIdeal.Val.arr7 m c).symm)
    obtain ⟨h0, h1, h2, h3, h4, h5⟩ := hagree c
    rw [h0, h1, h2, h3, h4, h5]

end Cert.Proof

end
-- ==== Proof.Hgrn.Spec.lean ====
/- One head of the recurrence over eight positions, as plain functions of the extended reals. -/
module

public import Idealize.ShloMosaic.PureOps.Ideal

@[expose] public section

noncomputable section

open Idealize.ShloMosaic

namespace Cert.HgrnSpec

/-- The literal one. -/
abbrev one : EReal := Ideal.ofBits FTy.f32 0x3F800000#32

/-- The forget gate: the lower bound plus the rest times the logit's logistic. -/
def forget (lb : Fin 128 → EReal) (f : Fin 8 → Fin 128 → EReal) (r : Fin 8) (d : Fin 128) : EReal :=
  lb d + (one - lb d) * Ideal.logistic (f r d)

/-- The running sum over positions. -/
def running (g : Fin 8 → Fin 128 → EReal) (r : Fin 8) (d : Fin 128) : EReal :=
  ∑ s : Fin 8, if s ≤ r then g s d else 0

/-- The running sum of the forget gates' logarithms. -/
def decay (lb : Fin 128 → EReal) (f : Fin 8 → Fin 128 → EReal) : Fin 8 → Fin 128 → EReal :=
  running fun r d => Ideal.log (forget lb f r d)

/-- The scaled query: the logit times its logistic, times the reciprocal root of the head's width. -/
def query (q : Fin 8 → Fin 128 → EReal) (r : Fin 8) (d : Fin 128) : EReal :=
  q r d * Ideal.logistic (q r d) * Ideal.ofBits FTy.f32 0x3DB504F3#32

/-- The key: one minus the forget gate. -/
def key (lb : Fin 128 → EReal) (f : Fin 8 → Fin 128 → EReal) (r : Fin 8) (d : Fin 128) : EReal :=
  one - forget lb f r d

/-- The weight of position `s` for position `r`: the decayed product of query and key, zero for a later position. -/
def weight (q k b : Fin 8 → Fin 128 → EReal) (r s : Fin 8) : EReal :=
  ∑ d : Fin 128, q r d * k s d * Ideal.exp (if s ≤ r then b r d - b s d else ⊥)

/-- The mixed value: what the incoming state gives, plus the weighted values of this chunk. -/
def mixed (q k b v : Fin 8 → Fin 128 → EReal) (st : Fin 128 → Fin 128 → EReal) (r : Fin 8) (j : Fin 128) : EReal :=
  (∑ d : Fin 128, q r d * Ideal.exp (b r d) * st d j) + ∑ s : Fin 8, weight q k b r s * v s j

/-- A row scaled by the reciprocal root of its mean square plus epsilon, then by the gain. -/
def rms (x g : Fin 128 → EReal) (j : Fin 128) : EReal :=
  x j * Ideal.rsqrt (Ideal.div (∑ k : Fin 128, x k * x k) (Ideal.ofBits FTy.f32 0x43000000#32) +
    Ideal.ofBits FTy.f32 0x358637BD#32) * g j

/-- The head's output: the normalised mixed value times the output gate's logit times its logistic. -/
def output (lb gain : Fin 128 → EReal) (q f v g : Fin 8 → Fin 128 → EReal) (st : Fin 128 → Fin 128 → EReal)
    (r : Fin 8) (j : Fin 128) : EReal :=
  rms (mixed (query q) (key lb f) (decay lb f) v st r) gain j * (g r j * Ideal.logistic (g r j))

/-- The head's state after the eight positions. -/
def state (lb : Fin 128 → EReal) (f v : Fin 8 → Fin 128 → EReal) (st : Fin 128 → Fin 128 → EReal)
    (d j : Fin 128) : EReal :=
  Ideal.exp (decay lb f 7 d) * st d j +
    ∑ s : Fin 8, key lb f s d * Ideal.exp (decay lb f 7 d - decay lb f s d) * v s j

/-- The lower bound of layer zero: the first entry of the softmax over the two layers. -/
def lower (l : Fin 2 → EReal) : EReal :=
  Ideal.div (Ideal.exp (l 0 - Finset.fold max ⊥ l Finset.univ))
    (∑ x : Fin 2, Ideal.exp (l x - Finset.fold max ⊥ l Finset.univ))

/-- The reciprocal of the logarithm of two, which turns a natural logarithm into a binary one. -/
abbrev log2e : EReal := (((Real.log 2)⁻¹ : ℝ) : EReal)

theorem log2e_pos : (0 : ℝ) < (Real.log 2)⁻¹ := inv_pos.mpr (Real.log_pos (by norm_num))

/-- Two to a binary logarithm is the exponential of the natural one. -/
theorem exp2_mul (x : EReal) : Ideal.exp2 (x * log2e) = Ideal.exp x := by
  have hp := log2e_pos
  induction x using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    have h2 : Real.log 2 ≠ 0 := (Real.log_pos (by norm_num)).ne'
    rw [Real.rpow_def_of_pos (by norm_num)]
    congr 1
    field_simp

/-- The factor distributes over a sum of two. -/
theorem add_mul_log2e (x y : EReal) : (x + y) * log2e = x * log2e + y * log2e :=
  EReal.right_distrib_of_nonneg_of_ne_top (EReal.coe_nonneg.mpr log2e_pos.le) (EReal.coe_ne_top _) x y

/-- The factor distributes over a difference. -/
theorem sub_mul_log2e (x y : EReal) : (x - y) * log2e = x * log2e - y * log2e := by
  rw [sub_eq_add_neg, sub_eq_add_neg, add_mul_log2e, EReal.neg_mul]

/-- The factor distributes over a finite sum. -/
theorem sum_mul_log2e {ι : Type} (S : Finset ι) (g : ι → EReal) : (∑ s ∈ S, g s * log2e) = (∑ s ∈ S, g s) * log2e := by
  classical
  induction S using Finset.induction_on with
  | empty => simp
  | insert a S ha ih => rw [Finset.sum_insert ha, Finset.sum_insert ha, ih, add_mul_log2e]

/-- A running sum of scaled terms is the scaled running sum. -/
theorem running_mul (g : Fin 8 → Fin 128 → EReal) (r : Fin 8) (d : Fin 128) :
    running (fun r d => g r d * log2e) r d = running g r d * log2e := by
  unfold running
  rw [← sum_mul_log2e]
  exact Finset.sum_congr rfl fun s _ => by split <;> simp

end Cert.HgrnSpec
-- ==== Proof.Hgrn.Head.lean ====
/- One head's vector operations in the recurrence's kernel, named once for the four heads of a grid point, and read at one entry. -/
module

public import proofs.«01_k».proof.Proof.Hgrn.Spec
public import proofs.«01_k».proof.Proof.Gen.HgrnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.HgrnIdeal.Val

open Cert.HgrnIdeal Cert.HgrnIdeal.Gen Cert.HgrnSpec

/-- The mask of the rows from row `w` on. -/
def rowMask (w : BitVec 32) : IVec S8x128 1 :=
  broadcastTo S8x128 (shapeCast S8x1 (cmpi .sge (iota .tc S8x1 32 [0] iota_S8x1_d0_w32) (broadcast S8x1 w))
    shapeCasts_S8x1_S8x1) broadcasts_S8x1_S8x128

/-- One step of the running sum: each row from row `w` on adds the row `w` before it. -/
def shiftAdd (w : BitVec 32) (x : FVec Ideal S8x128 .f32) : FVec Ideal S8x128 .f32 :=
  addf x (select (rowMask w) (dynamicRotate 0 w none x rotates_S8x128_d0)
    (broadcast S8x128 (Scalar.ofBits (F := Ideal) .f32 0x00000000#32)))

/-- The running sum over the eight rows, in three steps. -/
def runSum (x : FVec Ideal S8x128 .f32) : FVec Ideal S8x128 .f32 := shiftAdd 4#32 (shiftAdd 2#32 (shiftAdd 1#32 x))

/-- One position's share of the mixed values: its weight for each row, times its value. -/
def mixStep (w : BitVec 32) (s : ℕ) (h : S8x128.Slices ![s, 0] S1x128) (q k v b acc : FVec Ideal S8x128 .f32) :
    FVec Ideal S8x128 .f32 :=
  addf acc (mulf (broadcastTo S8x128 (shapeCast S8x1 (multiReduction .add [1] S8
      (mulf (mulf q (broadcastTo S8x128 (extractStridedSlice S1x128 ![s, 0] k h) broadcasts_S1x128_S8x128))
        (exp2 (select (rowMask w)
          (subf b (broadcastTo S8x128 (extractStridedSlice S1x128 ![s, 0] b h) broadcasts_S1x128_S8x128))
          (broadcast S8x128 (Scalar.ofBits (F := Ideal) .f32 0xFF800000#32)))))
      0x00000000#32 reduces_S8x128_S8 (.inl rfl) rfl) shapeCasts_S8_S8x1) broadcasts_S8x1_S8x128)
    (broadcastTo S8x128 (extractStridedSlice S1x128 ![s, 0] v h) broadcasts_S1x128_S8x128))

/-- The eight positions' shares, added up in order from zero. -/
def mixAll (q k v b : FVec Ideal S8x128 .f32) : FVec Ideal S8x128 .f32 :=
  mixStep 7#32 7 slices_S8x128_o7_0_S1x128 q k v b <| mixStep 6#32 6 slices_S8x128_o6_0_S1x128 q k v b <|
  mixStep 5#32 5 slices_S8x128_o5_0_S1x128 q k v b <| mixStep 4#32 4 slices_S8x128_o4_0_S1x128 q k v b <|
  mixStep 3#32 3 slices_S8x128_o3_0_S1x128 q k v b <| mixStep 2#32 2 slices_S8x128_o2_0_S1x128 q k v b <|
  mixStep 1#32 1 slices_S8x128_o1_0_S1x128 q k v b <| mixStep 0#32 0 slices_S8x128_o0_0_S1x128 q k v b <|
  broadcast S8x128 (Scalar.ofBits (F := Ideal) .f32 0x00000000#32)

/-- The forget gate's logarithm to base two. -/
def logGate (f : FVec Ideal S8x128 .f32) (lb : FVec Ideal S1x128 .f32) : FVec Ideal S8x128 .f32 :=
  mulf (log (k0_pay23 (F := Ideal) f lb)) (broadcast S8x128 (Named.named κ "log2_e" 0x3FB8AA3B#32))

/-- The kernel's key. -/
def keyV (f : FVec Ideal S8x128 .f32) (lb : FVec Ideal S1x128 .f32) : FVec Ideal S8x128 .f32 :=
  k0_pay24 (F := Ideal) (k0_pay23 (F := Ideal) f lb) (Scalar.ofBits (F := Ideal) .f32 0x3F800000#32)

/-- One head's output in the kernel. -/
def headOut (q f v g : FVec Ideal S8x128 .f32) (lb gain : FVec Ideal S1x128 .f32) (st : FVec Ideal S128x128 .f32) :
    FVec Ideal S8x128 .f32 :=
  k0_pay110 (F := Ideal) g gain (addf (k0_pay50 (F := Ideal) st (runSum (logGate f lb)) (k0_pay26 (F := Ideal) q))
    (mixAll (k0_pay26 (F := Ideal) q) (keyV f lb) v (runSum (logGate f lb))))

/-- One head's state after the chunk in the kernel, which holds it transposed. -/
def headState (f v : FVec Ideal S8x128 .f32) (lb : FVec Ideal S1x128 .f32) (st : FVec Ideal S128x128 .f32) :
    FVec Ideal S128x128 .f32 :=
  k0_pay109 (F := Ideal) (k0_pay27 (F := Ideal) v) (k0_pay107 (F := Ideal) st (runSum (logGate f lb)))
    (k0_pay108 (F := Ideal) (keyV f lb) (runSum (logGate f lb)))

/-- A row is in the mask when it is not before row `s`. -/
theorem mask_sge : ∀ r s : Fin 8, IntOp.cmpi .sge (BitVec.ofNat 32 r.val) (BitVec.ofNat 32 s.val) = if s ≤ r then 1#1 else 0#1 := by
  decide

/-- The literal minus infinity. -/
theorem neg_inf : Ideal.ofBits FTy.f32 0xFF800000#32 = ⊥ := by
  first | rfl | simp | (unfold Ideal.ofBits; decide)

/-- Three doubling steps give the running sum. -/
theorem runSum_at (x : FVec Ideal S8x128 .f32) (r : Fin 8) (d : Fin 128) :
    runSum x (ix2 r d) = running (fun r d => x (ix2 r d)) r d := by
  pointwise [runSum, shiftAdd, rowMask, running]
  rw [Fin.sum_univ_eight]
  fin_cases r <;> simp [IntOp.cmpi, Scalar.select] <;> abel

/-- One position's share at one entry. -/
theorem mixStep_at (s : Fin 8) (h) (q k v b acc : FVec Ideal S8x128 .f32) (r : Fin 8) (j : Fin 128) :
    mixStep (BitVec.ofNat 32 s.val) s.val h q k v b acc (ix2 r j) = acc (ix2 r j) +
      (∑ d : Fin 128, q (ix2 r d) * k (ix2 s d) * Ideal.exp2 (if s ≤ r then b (ix2 r d) - b (ix2 s d) else ⊥)) * v (ix2 s j) := by
  pointwise [mixStep, rowMask]
  rw [neg_inf, mask_sge r s]
  congr 2
  refine Finset.sum_congr rfl fun d _ => ?_
  split <;> rfl

/-- The eight positions' shares at one entry. -/
theorem mixAll_at (q k v b : FVec Ideal S8x128 .f32) (r : Fin 8) (j : Fin 128) :
    mixAll q k v b (ix2 r j) = ∑ s : Fin 8, (∑ d : Fin 128, q (ix2 r d) * k (ix2 s d) *
      Ideal.exp2 (if s ≤ r then b (ix2 r d) - b (ix2 s d) else ⊥)) * v (ix2 s j) := by
  have z : (broadcast S8x128 (Scalar.ofBits (F := Ideal) .f32 0x00000000#32) : FVec Ideal S8x128 .f32) (ix2 r j) = 0 := by
    pointwise
  unfold mixAll
  rw [Fin.sum_univ_eight]
  refine (mixStep_at 7 _ q k v b _ r j).trans (congrArg (· + _) ?_)
  refine (mixStep_at 6 _ q k v b _ r j).trans (congrArg (· + _) ?_)
  refine (mixStep_at 5 _ q k v b _ r j).trans (congrArg (· + _) ?_)
  refine (mixStep_at 4 _ q k v b _ r j).trans (congrArg (· + _) ?_)
  refine (mixStep_at 3 _ q k v b _ r j).trans (congrArg (· + _) ?_)
  refine (mixStep_at 2 _ q k v b _ r j).trans (congrArg (· + _) ?_)
  refine (mixStep_at 1 _ q k v b _ r j).trans (congrArg (· + _) ?_)
  exact (mixStep_at 0 _ q k v b _ r j).trans ((congrArg (· + _) z).trans (zero_add _))

/-- The named constant is the reciprocal of the logarithm of two. -/
theorem log2e_named : Named.named (F := Ideal) κ "log2_e" (φ := .f32) 0x3FB8AA3B#32 = log2e :=
  IdealRules.named_const.ideal_named_scalar _ _ _ _ rfl

/-- The gate at one entry. -/
theorem gate_at (f : FVec Ideal S8x128 .f32) (lb : FVec Ideal S1x128 .f32) (r : Fin 8) (d : Fin 128) :
    k0_pay23 (F := Ideal) f lb (ix2 r d) = forget (fun d => lb (ix2 0 d)) (fun r d => f (ix2 r d)) r d := by
  pointwise [k0_pay23, forget]

/-- The gate's binary logarithm at one entry. -/
theorem logGate_at (f : FVec Ideal S8x128 .f32) (lb : FVec Ideal S1x128 .f32) (r : Fin 8) (d : Fin 128) :
    logGate f lb (ix2 r d) = Ideal.log (forget (fun d => lb (ix2 0 d)) (fun r d => f (ix2 r d)) r d) * log2e := by
  rw [← gate_at, ← log2e_named]
  rfl

/-- The kernel's key at one entry. -/
theorem keyV_at (f : FVec Ideal S8x128 .f32) (lb : FVec Ideal S1x128 .f32) (r : Fin 8) (d : Fin 128) :
    keyV f lb (ix2 r d) = key (fun d => lb (ix2 0 d)) (fun r d => f (ix2 r d)) r d := by
  unfold key
  rw [← gate_at]
  rfl

/-- The running sum of the binary logarithms is the scaled running sum of the natural ones. -/
theorem decay_at (f : FVec Ideal S8x128 .f32) (lb : FVec Ideal S1x128 .f32) (r : Fin 8) (d : Fin 128) :
    runSum (logGate f lb) (ix2 r d) = decay (fun d => lb (ix2 0 d)) (fun r d => f (ix2 r d)) r d * log2e := by
  rw [runSum_at]
  unfold decay
  rw [← running_mul]
  congr 1
  funext r d
  exact logGate_at f lb r d

/-- The kernel's query at one entry. -/
theorem query_at (q : FVec Ideal S8x128 .f32) (r : Fin 8) (d : Fin 128) :
    k0_pay26 (F := Ideal) q (ix2 r d) = query (fun r d => q (ix2 r d)) r d := by
  pointwise [k0_pay26, query]

/-- What the incoming state, held transposed, gives the output. -/
theorem inter_at (st : FVec Ideal S128x128 .f32) (b q : FVec Ideal S8x128 .f32) (r : Fin 8) (j : Fin 128) :
    k0_pay50 (F := Ideal) st b q (ix2 r j) = ∑ d : Fin 128, q (ix2 r d) * Ideal.exp2 (b (ix2 r d)) * st (ix2 j d) := by
  pointwise [k0_pay50]
  rfl

/-- Two to a masked difference of scaled running sums is the exponential of the masked difference. -/
theorem exp2_masked (p : Prop) [Decidable p] (x y : EReal) :
    Ideal.exp2 (if p then x * log2e - y * log2e else ⊥) = Ideal.exp (if p then x - y else ⊥) := by
  split
  · rw [← sub_mul_log2e, exp2_mul]
  · rfl

/-- The mixed values at one entry. -/
theorem mixed_at (q f v : FVec Ideal S8x128 .f32) (lb : FVec Ideal S1x128 .f32) (st : FVec Ideal S128x128 .f32)
    (r : Fin 8) (j : Fin 128) :
    (addf (k0_pay50 (F := Ideal) st (runSum (logGate f lb)) (k0_pay26 (F := Ideal) q))
      (mixAll (k0_pay26 (F := Ideal) q) (keyV f lb) v (runSum (logGate f lb))) : FVec Ideal S8x128 .f32) (ix2 r j)
    = mixed (query fun r d => q (ix2 r d)) (key (fun d => lb (ix2 0 d)) (fun r d => f (ix2 r d)))
        (decay (fun d => lb (ix2 0 d)) (fun r d => f (ix2 r d))) (fun r d => v (ix2 r d)) (fun d j => st (ix2 j d)) r j := by
  refine (congrArg₂ (· + ·) (inter_at st _ _ r j) (mixAll_at _ _ v _ r j)).trans ?_
  unfold mixed weight
  simp only [query_at, keyV_at, decay_at, exp2_mul, exp2_masked]

/-- One head's output at one entry is the recurrence's. -/
theorem headOut_at (q f v g : FVec Ideal S8x128 .f32) (lb gain : FVec Ideal S1x128 .f32) (st : FVec Ideal S128x128 .f32)
    (r : Fin 8) (j : Fin 128) :
    headOut q f v g lb gain st (ix2 r j) = output (fun d => lb (ix2 0 d)) (fun d => gain (ix2 0 d)) (fun r d => q (ix2 r d))
      (fun r d => f (ix2 r d)) (fun r d => v (ix2 r d)) (fun r d => g (ix2 r d)) (fun d j => st (ix2 j d)) r j := by
  unfold headOut
  generalize hx : (addf (k0_pay50 (F := Ideal) st (runSum (logGate f lb)) (k0_pay26 (F := Ideal) q))
      (mixAll (k0_pay26 (F := Ideal) q) (keyV f lb) v (runSum (logGate f lb))) : FVec Ideal S8x128 .f32) = x
  have hr : (fun j => x (ix2 r j)) = mixed (query fun r d => q (ix2 r d)) (key (fun d => lb (ix2 0 d)) (fun r d => f (ix2 r d)))
        (decay (fun d => lb (ix2 0 d)) (fun r d => f (ix2 r d))) (fun r d => v (ix2 r d)) (fun d j => st (ix2 j d)) r := by
    subst hx; exact funext fun j => mixed_at q f v lb st r j
  unfold output
  rw [← hr]
  pointwise [k0_pay110, rms]

/-- One head's new state at one entry is the recurrence's, transposed. -/
theorem headState_at (f v : FVec Ideal S8x128 .f32) (lb : FVec Ideal S1x128 .f32) (st : FVec Ideal S128x128 .f32)
    (d j : Fin 128) :
    headState f v lb st (ix2 j d) = state (fun d => lb (ix2 0 d)) (fun r d => f (ix2 r d)) (fun r d => v (ix2 r d))
      (fun d j => st (ix2 j d)) d j := by
  unfold headState
  have e : ∀ (k b : FVec Ideal S8x128 .f32), k0_pay109 (F := Ideal) (k0_pay27 (F := Ideal) v) (k0_pay107 (F := Ideal) st b)
      (k0_pay108 (F := Ideal) k b) (ix2 j d) = st (ix2 j d) * Ideal.exp2 (b (ix2 7 d)) +
      ∑ s : Fin 8, v (ix2 s j) * (k (ix2 s d) * Ideal.exp2 (b (ix2 7 d) - b (ix2 s d))) := by
    intro k b
    pointwise [k0_pay109, k0_pay27, k0_pay107, k0_pay108, k0_pay106]
    rfl
  rw [e]
  unfold state
  simp only [keyV_at, decay_at, exp2_mul, ← sub_mul_log2e]
  rw [mul_comm]
  congr 1
  exact Finset.sum_congr rfl fun s _ => mul_comm _ _

end Cert.HgrnIdeal.Val
-- ==== Proof.Hgrn.Ref.lean ====
/- The recurrence's reference at an index, as the plain functions of one head. -/
module

public import proofs.«01_k».proof.Proof.Gen.HgrnRefIdeal.Read
public import proofs.«01_k».proof.Proof.Hgrn.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.HgrnRefIdeal.Val

open Cert.HgrnRefIdeal Cert.HgrnRefIdeal.Read Cert.HgrnSpec

/-- A left fold that adds is the sum. -/
theorem fold_sum {α : Type} (l : List α) (c : α → EReal) (v : EReal) :
    l.foldl (fun r k => r + c k) v = v + (l.map c).sum := by
  induction l generalizing v with
  | nil => simp
  | cons a l ih => rw [List.foldl_cons, ih, List.map_cons, List.sum_cons, add_assoc]

/-- The window over the positions. -/
abbrev W8 : Shape := ⟨4, ![1, 1, 8, 1]⟩

/-- The window's positions run along the third axis. -/
theorem pos8 : ∀ (n : Fin W8.numel) (a : Fin 4), (W8.rowMajor.symm n a).val = (![0, 0, n.val, 0] : Fin 4 → Nat) a := by
  decide +kernel

/-- The window has eight positions. -/
theorem numel8 : W8.numel = 8 := by decide +kernel

/-- The windowed sum padded low is the running sum over the positions. -/
theorem cumsum_at (g : FVec Ideal S32x8x8x128 .f32) (i : FVec Ideal S_ .f32) (hi : ∀ j, i j = (0 : EReal)) (b : Fin 32) (h : Fin 8) (t : Fin 8) (d : Fin 128) :
    (Host.reduceWindowAdd ![1, 1, 8, 1] ![1, 1, 1, 1] ![0, 0, 7, 0] ![0, 0, 0, 0] g i reduceWindows_S32x8x8x128_S32x8x8x128_w1s1p0_0_w1s1p0_0_w8s1p7_0_w1s1p0_0 h_S_ : FVec Ideal S32x8x8x128 .f32) (ix4 b h t d) =
      ∑ s : Fin 8, if s ≤ t then g (ix4 b h s d) else 0 := by
  unfold Host.reduceWindowAdd
  show Ideal.hostReduceWindowAdd _ _ _ _ _ _ _ _ = _
  unfold Ideal.hostReduceWindowAdd Host.reduceWindow
  simp only [hi]
  rw [fold_sum, zero_add, ← Fin.sum_univ_def]
  have e : ∀ n : Fin W8.numel, (if hin : ∀ a : Fin 4, (![0, 0, 7, 0] : Fin 4 → Nat) a ≤ ((ix4 b h t d : S32x8x8x128.Idx) a).val * (![1,1,1,1] : Fin 4 → Nat) a + (W8.rowMajor.symm n a).val ∧
      ((ix4 b h t d : S32x8x8x128.Idx) a).val * (![1,1,1,1] : Fin 4 → Nat) a + (W8.rowMajor.symm n a).val - (![0, 0, 7, 0] : Fin 4 → Nat) a < S32x8x8x128.size a
      then g (fun a => ⟨_, (hin a).2⟩) else (0 : EReal)) = if hn : 7 ≤ t.val + n.val ∧ t.val + n.val - 7 < 8 then g (ix4 b h ⟨t.val + n.val - 7, hn.2⟩ d) else 0 := by
    intro n
    have n8 : n.val < 8 := numel8 ▸ n.isLt
    simp only [pos8]
    by_cases hn : 7 ≤ t.val + n.val
    · rw [dif_pos (by intro a; fin_cases a <;> simp <;> omega), dif_pos ⟨hn, by omega⟩]
      congr 1; funext a; fin_cases a <;> simp
    · rw [dif_neg (by intro hh; have := (hh 2).1; simp at this; omega), dif_neg (fun h => hn h.1)]
  refine (Finset.sum_congr rfl fun n _ => e n).trans ?_
  refine (Fintype.sum_equiv (finCongr numel8) _ (fun n : Fin 8 => if hn : 7 ≤ t.val + n.val ∧ t.val + n.val - 7 < 8 then g (ix4 b h ⟨t.val + n.val - 7, hn.2⟩ d) else (0 : EReal)) fun n => rfl).trans ?_
  fin_cases t <;> simp [Fin.sum_univ_eight]
/-- The window over the layers. -/
abbrev W2 : Shape := ⟨2, ![2, 1]⟩

/-- The window's positions run along the first axis. -/
theorem pos2 : ∀ (n : Fin W2.numel) (a : Fin 2), (W2.rowMajor.symm n a).val = (![n.val, 0] : Fin 2 → Nat) a := by
  decide +kernel

/-- The window has two positions. -/
theorem numel2 : W2.numel = 2 := by decide +kernel

/-- The running sum's first entry is the first entry. -/
theorem cumsum_first (g : FVec Ideal S2x1024 .f32) (i : FVec Ideal S_ .f32) (hi : ∀ j, i j = (0 : EReal)) (d : Fin 1024) :
    (Host.reduceWindowAdd ![2, 1] ![1, 1] ![1, 0] ![0, 0] g i reduceWindows_S2x1024_S2x1024_w2s1p1_0_w1s1p0_0 h_S_ : FVec Ideal S2x1024 .f32) (ix2 0 d) = g (ix2 0 d) := by
  unfold Host.reduceWindowAdd
  show Ideal.hostReduceWindowAdd _ _ _ _ _ _ _ _ = _
  unfold Ideal.hostReduceWindowAdd Host.reduceWindow
  simp only [hi]
  rw [fold_sum, zero_add, ← Fin.sum_univ_def]
  have e : ∀ n : Fin W2.numel, (if hin : ∀ a : Fin 2, (![1, 0] : Fin 2 → Nat) a ≤ ((ix2 0 d : S2x1024.Idx) a).val * (![1,1] : Fin 2 → Nat) a + (W2.rowMajor.symm n a).val ∧
      ((ix2 0 d : S2x1024.Idx) a).val * (![1,1] : Fin 2 → Nat) a + (W2.rowMajor.symm n a).val - (![1, 0] : Fin 2 → Nat) a < S2x1024.size a
      then g (fun a => ⟨_, (hin a).2⟩) else (0 : EReal)) = if n.val = 1 then g (ix2 0 d) else 0 := by
    intro n
    have n8 : n.val < 2 := numel2 ▸ n.isLt
    simp only [pos2]
    by_cases hn : n.val = 1
    · rw [if_pos hn, dif_pos (by intro a; fin_cases a <;> simp <;> omega)]
      congr 1; funext a; fin_cases a <;> simp [hn]
    · rw [if_neg hn, dif_neg (by intro hh; have := (hh 0).1; simp at this; omega)]
  refine (Finset.sum_congr rfl fun n _ => e n).trans ?_
  refine (Fintype.sum_equiv (finCongr numel2) _ (fun n : Fin 2 => if n.val = 1 then g (ix2 0 d) else (0 : EReal)) fun n => rfl).trans ?_
  simp [Fin.sum_univ_two]
/-- One of the four parts of the projection, of one sequence and head. -/
def part (x : (⟨S256x4096, .f32⟩ : BufTy).Contents (Elt Ideal)) (n : Fin 4) (b : Fin 32) (h r : Fin 8) (d : Fin 128) : EReal :=
  x (ix2 ⟨b.val * 8 + r.val, by omega⟩ ⟨n.val * 1024 + (h.val * 128 + d.val), by omega⟩)

/-- The lower bounds of one head. -/
def bound (x : (⟨S2x1024, .f32⟩ : BufTy).Contents (Elt Ideal)) (h : Fin 8) (d : Fin 128) : EReal :=
  lower fun l => x (ix2 l ⟨h.val * 128 + d.val, by omega⟩)

variable (x0 : (⟨S256x4096, .f32⟩ : BufTy).Contents (Elt Ideal)) (x1 : (⟨S2x1024, .f32⟩ : BufTy).Contents (Elt Ideal))
  (x2 : (⟨S8x128, .f32⟩ : BufTy).Contents (Elt Ideal)) (x3 : (⟨S32x8x128x128, .f32⟩ : BufTy).Contents (Elt Ideal))

/-- The least value of a maximum. -/
theorem neg_inf : Ideal.ofBits FTy.f32 0xFF800000#32 = (⊥ : EReal) := by
  first | rfl | simp | (unfold Ideal.ofBits; decide)

/-- The lower bound at an index. -/
theorem lower_at (j : Fin 1024) : val_main_v13 (F := Ideal) x1 (ix1 j) = lower fun l => x1 (ix2 l j) := by
  pointwise [val_main_v13, val_main_v12]
  refine (cumsum_first _ _ (fun j => by pointwise [val_main_call0_call0_v0, val_main_call0_call0_cst]) j).trans ?_
  pointwise [val_main_v10, val_main_v9, val_main_v8, val_main_v7, val_main_v6, val_main_v5, val_main_v4, val_main_v3, val_main_v2, val_main_v1, val_main_v0, val_main_cst, val_main_cst_0, val_main_cst_1]
  unfold lower
  simp only [neg_inf, bot_sup_eq]

/-- The forget gate at an index. -/
theorem forget_at (b : Fin 32) (h r : Fin 8) (d : Fin 128) :
    val_main_v32 (F := Ideal) x0 x1 (ix3 b r ⟨h.val * 128 + d.val, by omega⟩) = forget (bound x1 h) (part x0 1 b h) r d := by
  unfold forget part bound
  rw [← lower_at]
  pointwise [val_main_v32, val_main_v31, val_main_v30, val_main_v29, val_main_v28, val_main_v27, val_main_v26, val_main_v25, val_main_v24, val_main_v23, val_main_v22, val_main_v21, val_main_v20, val_main_v19, val_main_v16, val_main_v14, val_main_cst_2, val_main_cst_3, val_main_cst_4]
  rfl

/-- The query at an index. -/
theorem query_at (b : Fin 32) (h r : Fin 8) (d : Fin 128) :
    val_main_v37 (F := Ideal) x0 (ix4 b h r d) = query (part x0 0 b h) r d := by
  unfold query part
  pointwise [val_main_v37, val_main_v36, val_main_v35, val_main_v34, val_main_v33, val_main_v15, val_main_v14, val_main_call1_v5, val_main_call1_v4, val_main_call1_v3, val_main_call1_v2, val_main_call1_v1, val_main_call1_v0, val_main_call1_cst, val_main_call1_cst_0, val_main_cst_5]
  rfl

/-- The key at an index. -/
theorem key_at (b : Fin 32) (h r : Fin 8) (d : Fin 128) :
    val_main_v41 (F := Ideal) x0 x1 (ix4 b h r d) = key (bound x1 h) (part x0 1 b h) r d := by
  unfold key
  rw [← forget_at]
  pointwise [val_main_v41, val_main_v40, val_main_v39, val_main_v38, val_main_cst_6]

/-- The value at an index. -/
theorem value_at (b : Fin 32) (h r : Fin 8) (d : Fin 128) :
    val_main_v43 (F := Ideal) x0 (ix4 b h r d) = part x0 2 b h r d := by
  unfold part
  pointwise [val_main_v43, val_main_v42, val_main_v17, val_main_v14]

/-- The running sum of the gates' logarithms at an index. -/
theorem decay_at (b : Fin 32) (h r : Fin 8) (d : Fin 128) :
    val_main_v50 (F := Ideal) x0 x1 (ix4 b h r d) = decay (bound x1 h) (part x0 1 b h) r d := by
  refine (cumsum_at _ _ (fun j => by pointwise [val_main_call3_call0_v0, val_main_call3_call0_cst]) b h r d).trans ?_
  unfold decay running
  refine Finset.sum_congr rfl fun s _ => ?_
  show _ = if s ≤ r then Ideal.log (forget (bound x1 h) (part x0 1 b h) s d) else 0
  rw [← forget_at]
  pointwise [val_main_v46, val_main_v45, val_main_v44]

/-- The lower triangle's bit. -/
theorem tril_at (r s : Fin 8) : val_main_v48 (F := Ideal) (ix2 r s) = if s ≤ r then 1#1 else 0#1 := by
  pointwise [val_main_v48, val_main_v47, val_main_call2_v5, val_main_call2_v4, val_main_call2_v3, val_main_call2_v2, val_main_call2_v1, val_main_call2_v0, val_main_call2_c, val_main_call2_c_0, val_main_c]
  revert r s
  decide

/-- One lane's decayed product of query and key. -/
theorem lane_at (b : Fin 32) (h r s : Fin 8) (d : Fin 128) :
    val_main_v66 (F := Ideal) x0 x1 (ix5 b h r s d) = query (part x0 0 b h) r d * key (bound x1 h) (part x0 1 b h) s d *
      Ideal.exp (if s ≤ r then decay (bound x1 h) (part x0 1 b h) r d - decay (bound x1 h) (part x0 1 b h) s d else ⊥) := by
  rw [← query_at, ← key_at, ← decay_at, ← decay_at]
  pointwise [val_main_v66, val_main_v65, val_main_v64, val_main_v63, val_main_v62, val_main_v61, val_main_v60, val_main_v59, val_main_v58, val_main_v57, val_main_v56, val_main_v55, val_main_v54, val_main_call4_v2, val_main_call4_v1, val_main_call4_v0, val_main_cst_7, val_main_v49]
  rw [tril_at, ← neg_inf]
  split <;> rfl

/-- The weights at an index. -/
theorem weight_at (b : Fin 32) (h r s : Fin 8) :
    val_main_v67 (F := Ideal) x0 x1 (ix4 b h r s) = weight (query (part x0 0 b h)) (key (bound x1 h) (part x0 1 b h))
      (decay (bound x1 h) (part x0 1 b h)) r s := by
  unfold weight
  simp only [← lane_at]
  pointwise [val_main_v67, val_main_cst_8]

/-- The mixed values at an index. -/
theorem mixed_at (b : Fin 32) (h r : Fin 8) (j : Fin 128) :
    val_main_v69 (F := Ideal) x0 x1 x3 (ix4 b h r j) = mixed (query (part x0 0 b h)) (key (bound x1 h) (part x0 1 b h))
      (decay (bound x1 h) (part x0 1 b h)) (part x0 2 b h) (fun d j => x3 (ix4 b h d j)) r j := by
  unfold mixed
  simp only [← weight_at, ← query_at, ← value_at, ← decay_at]
  pointwise [val_main_v69, val_main_v68, val_main_v53, val_main_v52, val_main_v51]

/-- The gate factor at an index. -/
theorem silu_at (b : Fin 32) (h r : Fin 8) (j : Fin 128) :
    val_main_v97 (F := Ideal) x0 (ix3 b r ⟨h.val * 128 + j.val, by omega⟩) = part x0 3 b h r j * Ideal.logistic (part x0 3 b h r j) := by
  unfold part
  pointwise [val_main_v97, val_main_v18, val_main_v14, val_main_call5_v5, val_main_call5_v4, val_main_call5_v3, val_main_call5_v2, val_main_call5_v1, val_main_call5_v0, val_main_call5_cst, val_main_call5_cst_0]
  rfl

/-- The reference's first result at an index. -/
theorem output_at (b : Fin 32) (h r : Fin 8) (j : Fin 128) :
    val_main_v99 (F := Ideal) x0 x1 x2 x3 (ix2 ⟨b.val * 8 + r.val, by omega⟩ ⟨h.val * 128 + j.val, by omega⟩) =
      output (bound x1 h) (fun d => x2 (ix2 h d)) (part x0 0 b h) (part x0 1 b h) (part x0 2 b h) (part x0 3 b h)
        (fun d j => x3 (ix4 b h d j)) r j := by
  have e : val_main_v99 (F := Ideal) x0 x1 x2 x3 (ix2 ⟨b.val * 8 + r.val, by omega⟩ ⟨h.val * 128 + j.val, by omega⟩) =
      val_main_v95 (F := Ideal) x0 x1 x2 x3 (ix4 b r h j) * val_main_v97 (F := Ideal) x0 (ix3 b r ⟨h.val * 128 + j.val, by omega⟩) := by
    pointwise [val_main_v99, val_main_v98, val_main_v96]
  rw [e, silu_at]
  unfold output rms
  simp only [← mixed_at]
  pointwise [val_main_v95, val_main_v94, val_main_v93, val_main_v92, val_main_v91, val_main_v90, val_main_v89, val_main_v88, val_main_v87, val_main_v86, val_main_v85, val_main_v84, val_main_v83, val_main_v82, val_main_cst_9, val_main_cst_10, val_main_cst_11]

/-- The reference's second result at an index. -/
theorem state_at (b : Fin 32) (h : Fin 8) (d j : Fin 128) :
    val_main_v81 (F := Ideal) x0 x1 x3 (ix4 b h d j) =
      state (bound x1 h) (part x0 1 b h) (part x0 2 b h) (fun d j => x3 (ix4 b h d j)) d j := by
  unfold state
  simp only [← key_at, ← value_at, ← decay_at]
  pointwise [val_main_v81, val_main_v80, val_main_v79, val_main_v78, val_main_v77, val_main_v76, val_main_v75, val_main_v74, val_main_v73, val_main_v72, val_main_v71, val_main_v70]

end Cert.HgrnRefIdeal.Val
-- ==== Proof.Hgrn.Blocks.lean ====
/- The recurrence's blocks, read off the arguments, and its heads' values over them. -/
module

public import proofs.«01_k».proof.Proof.Hgrn.Head
public import proofs.«01_k».proof.Proof.Hgrn.Ref
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.HgrnIdeal.Val

open Cert.HgrnIdeal Cert.HgrnIdeal.Gen Cert.HgrnSpec
open Cert.HgrnRefIdeal.Read
open Cert.HgrnRefIdeal.Val (part bound)

/-- Where each window's block stands at a grid point. -/
theorem idx : ∀ t : Fin cfg0.N, win0_0.index t = ![t.val / 2, t.val % 2] ∧ win0_1.index t = ![t.val / 2, 2 + t.val % 2] ∧
    win0_2.index t = ![t.val / 2, 4 + t.val % 2] ∧ win0_3.index t = ![t.val / 2, 6 + t.val % 2] ∧
    win0_4.index t = ![0, t.val % 2] ∧ win0_5.index t = ![0, t.val % 2] ∧ win0_6.index t = ![t.val / 2, t.val % 2, 0, 0] ∧
    win0_7.index t = ![t.val / 2, t.val % 2] ∧ win0_8.index t = ![t.val / 2, t.val % 2, 0, 0] :=
  (by decide +kernel : ∀ t : Fin grid0.N, _)

/-- The grid has 64 points. -/
theorem lt_N (t : Fin cfg0.N) : t.val < 64 := lt_of_lt_of_eq t.isLt N_0

variable (m : (ℓ : Loc nD τ sig) → Buf (Elt Ideal) ℓ) (c : Dev nD)

/-- The arguments as the reference takes them. -/
abbrev Zh : Vec Ideal S256x4096 .f32 := m ((c : Thread nD τ).loc main_arg0)
abbrev Lb : Vec Ideal S2x1024 .f32 := m ((c : Thread nD τ).loc main_arg1)
abbrev Gn : Vec Ideal S8x128 .f32 := m ((c : Thread nD τ).loc main_arg2)
abbrev St : Vec Ideal S32x8x128x128 .f32 := m ((c : Thread nD τ).loc main_arg3)

/-- The sequence of a grid point. -/
def seq (t : Fin cfg0.N) : Fin 32 := ⟨t.val / 2, by have := lt_N t; omega⟩

/-- The head a grid point's head stands for. -/
def head (t : Fin cfg0.N) (h : Fin 4) : Fin 8 := ⟨t.val % 2 * 4 + h.val, by omega⟩

/-- A column of one head in a block of four heads' columns. -/
abbrev lane (h : Fin 4) (d : Fin 128) : Fin 512 := ⟨h.val * 128 + d.val, by omega⟩

theorem blk0 (t : Fin cfg0.N) (h : Fin 4) (r : Fin 8) (d : Fin 128) :
    iblk m c 0 t (ix2 r (lane h d)) = part (Zh m c) 0 (seq t) (head t h) r d := by
  blk_ext [iblk, V, idx t, part, seq, head]

theorem blk1 (t : Fin cfg0.N) (h : Fin 4) (r : Fin 8) (d : Fin 128) :
    iblk m c 1 t (ix2 r (lane h d)) = part (Zh m c) 1 (seq t) (head t h) r d := by
  blk_ext [iblk, V, idx t, part, seq, head]

theorem blk2 (t : Fin cfg0.N) (h : Fin 4) (r : Fin 8) (d : Fin 128) :
    iblk m c 2 t (ix2 r (lane h d)) = part (Zh m c) 2 (seq t) (head t h) r d := by
  blk_ext [iblk, V, idx t, part, seq, head]

theorem blk3 (t : Fin cfg0.N) (h : Fin 4) (r : Fin 8) (d : Fin 128) :
    iblk m c 3 t (ix2 r (lane h d)) = part (Zh m c) 3 (seq t) (head t h) r d := by
  blk_ext [iblk, V, idx t, part, seq, head]

theorem blk4 (t : Fin cfg0.N) (l : Fin 2) (h : Fin 4) (d : Fin 128) :
    iblk m c 4 t (ix2 l (lane h d)) = Lb m c (ix2 l ⟨(head t h).val * 128 + d.val, by omega⟩) := by
  blk_ext [iblk, V, idx t, head]

theorem blk6 (t : Fin cfg0.N) (h : Fin 4) (d j : Fin 128) :
    iblk m c 6 t (ix4 0 h d j) = St m c (ix4 (seq t) (head t h) d j) := by
  blk_ext [iblk, V, idx t, seq, head]

/-- The gain laid out as one row. -/
theorem v0_at (j : S1x1024.Idx) (k : Fin 1024) (h : Fin 8) (d : Fin 128) (e : (j 1).val = k.val) (hk : k.val = h.val * 128 + d.val) :
    (V m c main_v0 : Vec Ideal S1x1024 .f32) j = Gn m c (ix2 h d) := by
  obtain rfl : j 1 = k := Fin.ext e
  simp only [V, hostOps0, List.flatten_cons, List.flatten_nil, List.cons_append, List.nil_append, List.append_nil]
  entry_read
  pointwise
  congr <;> omega

theorem blk5 (t : Fin cfg0.N) (h : Fin 4) (d : Fin 128) :
    iblk m c 5 t (ix2 0 (lane h d)) = Gn m c (ix2 (head t h) d) := by
  refine v0_at m c ((win0_5.blk t).view.emb (ix2 0 (lane h d))) ⟨(head t h).val * 128 + d.val, by omega⟩ (head t h) d ?_ rfl
  blk_simp [idx t, head]
  simp only [lane]
  omega

/-- The rows of one head, as loaded from a block. -/
theorem ld_rows (x : Vec Ideal S8x512 .f32) (o : Fin 2 → Nat) (h : Fin 4) (ho : o = ![0, h.val * 128])
    (pf) (r : Fin 8) (d : Fin 128) : View.ld x (Rect.unit (s := S8x512) o ![8, 128] pf) (ix2 r d) = x (ix2 r (lane h d)) := by
  pointwise
  subst ho
  refine congrArg x (congrArg₂ ix2 (Fin.ext ?_) (Fin.ext ?_)) <;> simp

/-- The columns of one head, sliced from a row. -/
theorem slice_at (x : FVec Ideal S1x512 .f32) (o : Fin 2 → Nat) (h : Fin 4) (ho : o = ![0, h.val * 128])
    (pf) (d : Fin 128) : extractStridedSlice S1x128 o x pf (ix2 0 d) = x (ix2 0 (lane h d)) := by
  pointwise
  subst ho
  refine congrArg x (congrArg₂ ix2 (Fin.ext ?_) (Fin.ext ?_)) <;> simp

/-- The lower bounds of one head. -/
theorem lower_at (t : Fin cfg0.N) (h : Fin 4) (d : Fin 128) :
    k0_pay9 (F := Ideal) (iblk m c 4 t) (ix2 0 (lane h d)) = bound (Lb m c) (head t h) d := by
  refine Eq.trans ?_ (congrArg lower (funext fun l => blk4 m c t l h d))
  pointwise [k0_pay9]
  unfold lower
  rw [neg_inf, Finset.univ_unique (α := Fin 1), Finset.sum_singleton]

/-- The gains of one head. -/
theorem gain_at (t : Fin cfg0.N) (h : Fin 4) (d : Fin 128) :
    k0_pay10 (F := Ideal) (iblk m c 5 t) (ix2 0 (lane h d)) = Gn m c (ix2 (head t h) d) := by
  rw [← blk5]
  pointwise [k0_pay10]

/-- One head's incoming state as the kernel first stores and then reads it, transposed. -/
theorem st_at (t : Fin cfg0.N) (o : Fin 4 → Nat) (h : Fin 4) (ho : o = ![0, h.val, 0, 0]) (pf) (d j : Fin 128) :
    k0_pay13 (F := Ideal) (k0_pay5 (F := Ideal) (View.ld (iblk m c 6 t) (Rect.unit (s := S1x4x128x128) o ![1, 1, 128, 128] pf))) (ix2 j d) =
      St m c (ix4 (seq t) (head t h) d j) := by
  rw [← blk6]
  pointwise [k0_pay13, k0_pay5]
  subst ho
  refine congrArg (iblk m c 6 t) ?_
  funext a; fin_cases a <;> refine Fin.ext ?_ <;> simp [ix4]

/-- One head's output over a grid point's blocks is the reference's. -/
theorem out_blk (t : Fin cfg0.N) (h : Fin 4) (o : Fin 2 → Nat) (ho : o = ![0, h.val * 128]) (pf)
    (lb gain : FVec Ideal S1x128 .f32) (st : FVec Ideal S128x128 .f32)
    (hl : ∀ d, lb (ix2 0 d) = bound (Lb m c) (head t h) d) (hg : ∀ d, gain (ix2 0 d) = Gn m c (ix2 (head t h) d))
    (hs : ∀ d j, st (ix2 j d) = St m c (ix4 (seq t) (head t h) d j)) (r : Fin 8) (j : Fin 128) :
    headOut (View.ld (iblk m c 0 t) (Rect.unit (s := S8x512) o ![8, 128] pf)) (View.ld (iblk m c 1 t) (Rect.unit (s := S8x512) o ![8, 128] pf))
      (View.ld (iblk m c 2 t) (Rect.unit (s := S8x512) o ![8, 128] pf)) (View.ld (iblk m c 3 t) (Rect.unit (s := S8x512) o ![8, 128] pf))
      lb gain st (ix2 r j) =
    val_main_v99 (F := Ideal) (Zh m c) (Lb m c) (Gn m c) (St m c)
      (ix2 ⟨(seq t).val * 8 + r.val, by omega⟩ ⟨(head t h).val * 128 + j.val, by omega⟩) := by
  rw [headOut_at, Cert.HgrnRefIdeal.Val.output_at]
  have e0 : (fun r d => View.ld (iblk m c 0 t) (Rect.unit (s := S8x512) o ![8, 128] pf) (ix2 r d)) = part (Zh m c) 0 (seq t) (head t h) :=
    funext fun r => funext fun d => (ld_rows _ o h ho pf r d).trans (blk0 m c t h r d)
  have e1 : (fun r d => View.ld (iblk m c 1 t) (Rect.unit (s := S8x512) o ![8, 128] pf) (ix2 r d)) = part (Zh m c) 1 (seq t) (head t h) :=
    funext fun r => funext fun d => (ld_rows _ o h ho pf r d).trans (blk1 m c t h r d)
  have e2 : (fun r d => View.ld (iblk m c 2 t) (Rect.unit (s := S8x512) o ![8, 128] pf) (ix2 r d)) = part (Zh m c) 2 (seq t) (head t h) :=
    funext fun r => funext fun d => (ld_rows _ o h ho pf r d).trans (blk2 m c t h r d)
  have e3 : (fun r d => View.ld (iblk m c 3 t) (Rect.unit (s := S8x512) o ![8, 128] pf) (ix2 r d)) = part (Zh m c) 3 (seq t) (head t h) :=
    funext fun r => funext fun d => (ld_rows _ o h ho pf r d).trans (blk3 m c t h r d)
  simp only [hl, hg, hs]
  rw [e0, e1, e2, e3]

/-- One head's new state over a grid point's blocks is the reference's, transposed. -/
theorem state_blk (t : Fin cfg0.N) (h : Fin 4) (o : Fin 2 → Nat) (ho : o = ![0, h.val * 128]) (pf)
    (lb : FVec Ideal S1x128 .f32) (st : FVec Ideal S128x128 .f32)
    (hl : ∀ d, lb (ix2 0 d) = bound (Lb m c) (head t h) d)
    (hs : ∀ d j, st (ix2 j d) = St m c (ix4 (seq t) (head t h) d j)) (d j : Fin 128) :
    headState (View.ld (iblk m c 1 t) (Rect.unit (s := S8x512) o ![8, 128] pf)) (View.ld (iblk m c 2 t) (Rect.unit (s := S8x512) o ![8, 128] pf))
      lb st (ix2 j d) =
    val_main_v81 (F := Ideal) (Zh m c) (Lb m c) (St m c) (ix4 (seq t) (head t h) d j) := by
  rw [headState_at, Cert.HgrnRefIdeal.Val.state_at]
  have e1 : (fun r d => View.ld (iblk m c 1 t) (Rect.unit (s := S8x512) o ![8, 128] pf) (ix2 r d)) = part (Zh m c) 1 (seq t) (head t h) :=
    funext fun r => funext fun d => (ld_rows _ o h ho pf r d).trans (blk1 m c t h r d)
  have e2 : (fun r d => View.ld (iblk m c 2 t) (Rect.unit (s := S8x512) o ![8, 128] pf) (ix2 r d)) = part (Zh m c) 2 (seq t) (head t h) :=
    funext fun r => funext fun d => (ld_rows _ o h ho pf r d).trans (blk2 m c t h r d)
  simp only [hl, hs]
  rw [e1, e2]

/-- One head's output as the kernel computes it is the reference's. -/
theorem out_head (t : Fin cfg0.N) (h : Fin 4) (o o' : Fin 2 → Nat) (ho : o = ![0, h.val * 128]) (ho' : o' = ![0, h.val * 128])
    (o6 : Fin 4 → Nat) (ho6 : o6 = ![0, h.val, 0, 0]) (pf) (pf') (pf6) (r : Fin 8) (j : Fin 128) :
    headOut (View.ld (iblk m c 0 t) (Rect.unit (s := S8x512) o ![8, 128] pf)) (View.ld (iblk m c 1 t) (Rect.unit (s := S8x512) o ![8, 128] pf))
      (View.ld (iblk m c 2 t) (Rect.unit (s := S8x512) o ![8, 128] pf)) (View.ld (iblk m c 3 t) (Rect.unit (s := S8x512) o ![8, 128] pf))
      (extractStridedSlice S1x128 o' (k0_pay9 (F := Ideal) (iblk m c 4 t)) pf') (extractStridedSlice S1x128 o' (k0_pay10 (F := Ideal) (iblk m c 5 t)) pf')
      (k0_pay13 (F := Ideal) (k0_pay5 (F := Ideal) (View.ld (iblk m c 6 t) (Rect.unit (s := S1x4x128x128) o6 ![1, 1, 128, 128] pf6)))) (ix2 r j) =
    val_main_v99 (F := Ideal) (Zh m c) (Lb m c) (Gn m c) (St m c)
      (ix2 ⟨(seq t).val * 8 + r.val, by omega⟩ ⟨(head t h).val * 128 + j.val, by omega⟩) :=
  out_blk m c t h o ho pf _ _ _ (fun d => (slice_at _ _ h ho' _ d).trans (lower_at m c t h d))
    (fun d => (slice_at _ _ h ho' _ d).trans (gain_at m c t h d)) (fun d j => st_at m c t o6 h ho6 pf6 d j) r j

/-- One head's new state as the kernel writes it is the reference's. -/
theorem state_head (t : Fin cfg0.N) (h : Fin 4) (o o' : Fin 2 → Nat) (ho : o = ![0, h.val * 128]) (ho' : o' = ![0, h.val * 128])
    (o6 : Fin 4 → Nat) (ho6 : o6 = ![0, h.val, 0, 0]) (pf) (pf') (pf6) (d j : Fin 128) :
    k0_pay1 (F := Ideal) (k0_pay121 (F := Ideal) (headState (View.ld (iblk m c 1 t) (Rect.unit (s := S8x512) o ![8, 128] pf))
      (View.ld (iblk m c 2 t) (Rect.unit (s := S8x512) o ![8, 128] pf))
      (extractStridedSlice S1x128 o' (k0_pay9 (F := Ideal) (iblk m c 4 t)) pf')
      (k0_pay13 (F := Ideal) (k0_pay5 (F := Ideal) (View.ld (iblk m c 6 t) (Rect.unit (s := S1x4x128x128) o6 ![1, 1, 128, 128] pf6))))))
      (ix4 0 0 d j) =
    val_main_v81 (F := Ideal) (Zh m c) (Lb m c) (St m c) (ix4 (seq t) (head t h) d j) := by
  refine Eq.trans ?_ (state_blk m c t h o ho pf _ _ (fun d => (slice_at _ _ h ho' pf' d).trans (lower_at m c t h d))
    (fun d j => st_at m c t o6 h ho6 pf6 d j) d j)
  generalize headState _ _ _ _ = x
  pointwise [k0_pay1, k0_pay121]

end Cert.HgrnIdeal.Val
-- ==== Proof.Hgrn.Value.lean ====
/- The recurrence's two outputs equal the reference's. -/
module

public import proofs.«01_k».proof.Proof.Hgrn.Blocks

@[expose] public section

set_option maxRecDepth 16384

noncomputable section

open Idealize.ShloMosaic Idealize.ShloMosaic.TcCoe Idealize.SL.Sem

namespace Cert.HgrnIdeal.Val

open Cert.HgrnIdeal Cert.HgrnIdeal.Gen
open Cert.HgrnRefIdeal.Read
open Idealize.ShloMosaic.Pipeline (Dat)

variable (m : (ℓ : Loc nD τ sig) → Buf (Elt Ideal) ℓ) (c : Dev nD)

/-- The first output's block at an entry. -/
theorem out7_at (t : Fin cfg0.N) (y : S8x512.Idx) : (outsAt0 m c t).1 y =
    val_main_v99 (F := Ideal) (Zh m c) (Lb m c) (Gn m c) (St m c)
      (ix2 ⟨(seq t).val * 8 + (y 0).val, by have := (y 0).isLt; simp at this; omega⟩ ⟨t.val % 2 * 512 + (y 1).val, by have := (y 1).isLt; simp at this; omega⟩) := by
  unfold outsAt0
  frame_open
  simp (disch := decide) only [↓ View.readCov_skip, ↓ View.readCov_cons_toLoadRect]
  frame_out
  canon_tiles x h
  case piece3 =>
    idx_vars x
    refine (out_head m c t 0 k0_off1 ![0, 0] (by decide) (by decide) ![0, 0, 0, 0] (by decide) _ slices_S1x512_o0_0_S1x128 (by decide) x0 x1).trans ?_
    refine congrArg _ (congrArg₂ ix2 (Fin.ext ?_) (Fin.ext ?_)) <;> simp [seq, head] at * <;> omega
  case piece2 =>
    idx_vars x
    refine (out_head m c t 1 k0_off2 ![0, 128] (by decide) (by decide) ![0, 1, 0, 0] (by decide) _ slices_S1x512_o0_128_S1x128 (by decide) x0 x1).trans ?_
    refine congrArg _ (congrArg₂ ix2 (Fin.ext ?_) (Fin.ext ?_)) <;> simp [seq, head] at * <;> omega
  case piece1 =>
    idx_vars x
    refine (out_head m c t 2 k0_off3 ![0, 256] (by decide) (by decide) ![0, 2, 0, 0] (by decide) _ slices_S1x512_o0_256_S1x128 (by decide) x0 x1).trans ?_
    refine congrArg _ (congrArg₂ ix2 (Fin.ext ?_) (Fin.ext ?_)) <;> simp [seq, head] at * <;> omega
  case piece0 =>
    idx_vars x
    refine (out_head m c t 3 k0_off4 ![0, 384] (by decide) (by decide) ![0, 3, 0, 0] (by decide) _ slices_S1x512_o0_384_S1x128 (by decide) x0 x1).trans ?_
    refine congrArg _ (congrArg₂ ix2 (Fin.ext ?_) (Fin.ext ?_)) <;> simp [seq, head] at * <;> omega

/-- The second output's block at an entry. -/
theorem out8_at (t : Fin cfg0.N) (y : S1x4x128x128.Idx) : (outsAt0 m c t).2 y =
    val_main_v81 (F := Ideal) (Zh m c) (Lb m c) (St m c) (ix4 (seq t) (head t (y 1)) (y 2) (y 3)) := by
  unfold outsAt0
  frame_open
  simp (disch := decide) only [↓ View.readCov_skip, ↓ View.readCov_cons_toLoadRect]
  frame_out
  canon_tiles x h
  case piece3 =>
    idx_vars x
    obtain rfl : x0 = 0 := Subsingleton.elim (α := Fin 1) _ _
    obtain rfl : x1 = 0 := Subsingleton.elim (α := Fin 1) _ _
    refine (state_head m c t 0 k0_off1 ![0, 0] (by decide) (by decide) ![0, 0, 0, 0] (by decide) _ slices_S1x512_o0_0_S1x128 (by decide) x2 x3).trans ?_
    rw [show y 1 = (0 : Fin 4) from Fin.ext (by simp at *; omega), show y 2 = x2 from Fin.ext (by simp at *; omega),
      show y 3 = x3 from Fin.ext (by simp at *; omega)]
  case piece2 =>
    idx_vars x
    obtain rfl : x0 = 0 := Subsingleton.elim (α := Fin 1) _ _
    obtain rfl : x1 = 0 := Subsingleton.elim (α := Fin 1) _ _
    refine (state_head m c t 1 k0_off2 ![0, 128] (by decide) (by decide) ![0, 1, 0, 0] (by decide) _ slices_S1x512_o0_128_S1x128 (by decide) x2 x3).trans ?_
    rw [show y 1 = (1 : Fin 4) from Fin.ext (by simp at *; omega), show y 2 = x2 from Fin.ext (by simp at *; omega),
      show y 3 = x3 from Fin.ext (by simp at *; omega)]
  case piece1 =>
    idx_vars x
    obtain rfl : x0 = 0 := Subsingleton.elim (α := Fin 1) _ _
    obtain rfl : x1 = 0 := Subsingleton.elim (α := Fin 1) _ _
    refine (state_head m c t 2 k0_off3 ![0, 256] (by decide) (by decide) ![0, 2, 0, 0] (by decide) _ slices_S1x512_o0_256_S1x128 (by decide) x2 x3).trans ?_
    rw [show y 1 = (2 : Fin 4) from Fin.ext (by simp at *; omega), show y 2 = x2 from Fin.ext (by simp at *; omega),
      show y 3 = x3 from Fin.ext (by simp at *; omega)]
  case piece0 =>
    idx_vars x
    obtain rfl : x0 = 0 := Subsingleton.elim (α := Fin 1) _ _
    obtain rfl : x1 = 0 := Subsingleton.elim (α := Fin 1) _ _
    refine (state_head m c t 3 k0_off4 ![0, 384] (by decide) (by decide) ![0, 3, 0, 0] (by decide) _ slices_S1x512_o0_384_S1x128 (by decide) x2 x3).trans ?_
    rw [show y 1 = (3 : Fin 4) from Fin.ext (by simp at *; omega), show y 2 = x2 from Fin.ext (by simp at *; omega),
      show y 3 = x3 from Fin.ext (by simp at *; omega)]

/-- The first output array is the reference's first result. -/
theorem arr7 : (dats m 0 c).arrAt 7 cfg0.N = val_main_v99 (F := Ideal) (Zh m c) (Lb m c) (Gn m c) (St m c) := by
  refine (dats m 0 c).arrAt_eq_of_covers 7 _ (by decide +kernel) fun t hf y => ?_
  blk_simp
  rw [after0_7]
  refine (out7_at m c t _).trans (congrArg _ (Eq.symm ?_))
  blk_ext [idx t, seq]

/-- The second output array is the reference's second result. -/
theorem arr8 : (dats m 0 c).arrAt 8 cfg0.N = val_main_v81 (F := Ideal) (Zh m c) (Lb m c) (St m c) := by
  refine (dats m 0 c).arrAt_eq_of_covers 8 _ (by decide +kernel) fun t hf y => ?_
  blk_simp
  rw [after0_8]
  refine (out8_at m c t _).trans (congrArg _ (Eq.symm ?_))
  blk_ext [idx t, seq, head]

end Cert.HgrnIdeal.Val
-- ==== Proof.Hgrn.Claim.lean ====
/- The recurrence's claims. -/
module

public import proofs.«01_k».proof.Defs
public import proofs.«01_k».proof.Proof.Hgrn.Value
public import proofs.«01_k».proof.Proof.Gen.Hgrn.Frame
public import proofs.«01_k».proof.Proof.Gen.HgrnIdeal.Value
public import proofs.«01_k».proof.Proof.Gen.HgrnRefIdeal.Run
public import proofs.«01_k».proof.Proof.Gen.HgrnRefIdeal.Read

@[expose] public section

noncomputable section

open Idealize.ShloMosaic Idealize.SL.Sem

namespace Cert.Proof

/-- The recurrence's kernel runs to the end, leaves its arguments alone and its counters at zero. -/
theorem hgrn_frame : Cert.quiescent_Hgrn (hHgrn := Cert.Hgrn.Gen.facts) :=
  fun m ρ _ => Cert.Hgrn.Gen.frame m ρ

/-- So does its idealization. -/
theorem hgrnIdeal_frame : Cert.quiescent_HgrnIdeal (hHgrnIdeal := Cert.HgrnIdeal.Gen.facts) :=
  fun m ρ _ => Cert.HgrnIdeal.Gen.frame m ρ

/-- So does the reference. -/
theorem hgrnRef_frame : Cert.quiescent_HgrnRefIdeal (hHgrnRefIdeal := Cert.HgrnRefIdeal.Gen.facts) :=
  fun m ρ _ => (θ_run Cert.HgrnRefIdeal.defs _ _).mono
    (fun r h => ⟨fun c => (h c).2.2, Idealize.ShloMosaic.sem_eq_zero_of_no_sems (by decide) r.2⟩)
    (Cert.HgrnRefIdeal.Value.run (F := Ideal) m ρ)

/-- The idealization puts one over the logarithm of two for the literal that rounds it. -/
theorem hgrn_preserves : Cert.preserves_Hgrn_HgrnIdeal :=
  IdealRules.named_const.statement Cert.HgrnIdeal.κ "log2_e" .f32 0x3FB8AA3B#32 (((Real.log 2)⁻¹ : ℝ) : EReal) rfl

/-- Over the extended reals the recurrence's kernel and the reference end with the same two results. -/
theorem hgrn_algebraic : Cert.algebraic_HgrnIdeal_HgrnRefIdeal (hHgrnIdeal := Cert.HgrnIdeal.Gen.facts)
    (hHgrnRefIdeal := Cert.HgrnRefIdeal.Gen.facts) := by
  intro m ρ m' ρ' _ hagree
  refine ⟨fun c => (Cert.HgrnIdeal.Gen.dats m 0 c).arrAt 7 Cert.HgrnIdeal.cfg0.N,
    fun c => (Cert.HgrnIdeal.Gen.dats m 0 c).arrAt 8 Cert.HgrnIdeal.cfg0.N, Cert.HgrnIdeal.Value.run_blocks m ρ,
    (θ_run Cert.HgrnRefIdeal.defs _ _).mono (fun r h c => ⟨(h c).1.trans ?_, (h c).2.1.trans ?_, (h c).2.2⟩)
      (Cert.HgrnRefIdeal.Value.run (F := Ideal) m' ρ')⟩
  · refine (Cert.HgrnRefIdeal.Read.val_main_v99_eq (F := Ideal) m' c).trans (Eq.trans ?_ (Cert.HgrnIdeal.Val.arr7 m c).symm)
    obtain ⟨h0, h1, h2, h3⟩ := hagree c
    rw [h0, h1, h2, h3]
  · refine (Cert.HgrnRefIdeal.Read.val_main_v81_eq (F := Ideal) m' c).trans (Eq.trans ?_ (Cert.HgrnIdeal.Val.arr8 m c).symm)
    obtain ⟨h0, h1, h2, h3⟩ := hagree c
    rw [h0, h1, h3]

end Cert.Proof

end
-- ==== Proof.OutProj.Value.lean ====
/- The out-projection's output equals the reference's. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutProjIdeal.Val

open Cert.OutProjIdeal Cert.OutProjIdeal.Gen
open Cert.OutProjRefIdeal.Read
open Idealize.ShloMosaic.Pipeline (Dat)

/-- The residual entry plus the two halves of the product: the first output's columns against the weight's upper rows,
    the second's against its lower rows. -/
def proj (x : EReal) (a b : Fin 1024 → EReal) (w : Fin 2048 → EReal) : EReal :=
  x + (∑ k : Fin 1024, a k * w ⟨k.val, by omega⟩) + ∑ k : Fin 1024, b k * w ⟨1024 + k.val, by omega⟩

/-- What the body stores, at an entry. -/
theorem out_at (x : Vec Ideal S512x2048 .f32) (a b : Vec Ideal S512x1024 .bf16) (w : Vec Ideal S2048x2048 .bf16)
    (j : S512x2048.Idx) :
    out0_4 (F := Ideal) x a b w j = proj (x j) (fun k => a (ValueIdx.ix2 (j 0) k)) (fun k => b (ValueIdx.ix2 (j 0) k))
      (fun k => w (ValueIdx.ix2 k (j 1))) := by
  idx_vars j
  unfold out0_4
  frame_out
  pointwise [k0_pay1, proj]
  rfl

/-- The reference's result, at an entry. -/
theorem ref_at (x : Vec Ideal S16384x2048 .f32) (a b : Vec Ideal S16384x1024 .bf16) (w : Vec Ideal S2048x2048 .f32)
    (p : Fin 16384) (e : Fin 2048) :
    val_main_v3 (F := Ideal) x a b w (ValueIdx.ix2 p e) =
      proj (x (ValueIdx.ix2 p e)) (fun k => a (ValueIdx.ix2 p k)) (fun k => b (ValueIdx.ix2 p k))
        (fun k => w (ValueIdx.ix2 k e)) := by
  pointwise [val_main_v3, val_main_v2, val_main_v1, val_main_v0, proj]
  exact (add_assoc _ _ _).symm

/-- Where each window's block stands at a grid point. -/
theorem idx : ∀ t : Fin cfg0.N, win0_0.index t = ![t.val, 0] ∧ win0_1.index t = ![t.val, 0] ∧
    win0_2.index t = ![t.val, 0] ∧ win0_3.index t = ![0, 0] ∧ win0_4.index t = ![t.val, 0] :=
  (by decide +kernel : ∀ t : Fin grid0.N, _)

/-- The grid has 32 points. -/
theorem lt_N (t : Fin cfg0.N) : t.val < 32 := lt_of_lt_of_eq t.isLt (by decide +kernel)

variable (m : (ℓ : Loc nD τ sig) → Buf (Elt Ideal) ℓ) (c : Dev nD)

/-- The arguments as the reference takes them. -/
abbrev X : Vec Ideal S16384x2048 .f32 := m ((c : Thread nD τ).loc main_arg0)
abbrev On : Vec Ideal S16384x1024 .bf16 := m ((c : Thread nD τ).loc main_arg1)
abbrev Oh : Vec Ideal S16384x1024 .bf16 := m ((c : Thread nD τ).loc main_arg2)
abbrev Wo : Vec Ideal S2048x2048 .f32 := m ((c : Thread nD τ).loc main_arg3)

/-- A row of a block of rows, as a row of the array. -/
def row (t : Fin cfg0.N) (a : Fin 512) : Fin 16384 := ⟨t.val * 512 + a.val, by have := lt_N t; omega⟩

/-- The weight the kernel reads is the argument. -/
theorem v0_at (j : S2048x2048.Idx) : (V m c main_v0 : Vec Ideal S2048x2048 .bf16) j = Wo m c j := by
  simp only [V, hostOps0, List.flatten_cons, List.flatten_nil, List.cons_append, List.nil_append, List.append_nil]
  entry_read
  pointwise

theorem blk0 (t : Fin cfg0.N) (a : Fin 512) (k : Fin 2048) :
    iblk m c 0 t (ValueIdx.ix2 a k) = X m c (ValueIdx.ix2 (row t a) k) := by
  blk_ext [iblk, V, idx t, row]

theorem blk1 (t : Fin cfg0.N) (a : Fin 512) (k : Fin 1024) :
    iblk m c 1 t (ValueIdx.ix2 a k) = On m c (ValueIdx.ix2 (row t a) k) := by
  blk_ext [iblk, V, idx t, row]

theorem blk2 (t : Fin cfg0.N) (a : Fin 512) (k : Fin 1024) :
    iblk m c 2 t (ValueIdx.ix2 a k) = Oh m c (ValueIdx.ix2 (row t a) k) := by
  blk_ext [iblk, V, idx t, row]

theorem blk3 (t : Fin cfg0.N) (k e : Fin 2048) :
    iblk m c 3 t (ValueIdx.ix2 k e) = Wo m c (ValueIdx.ix2 k e) := by
  refine (v0_at m c ((win0_3.blk t).view.emb (ValueIdx.ix2 k e))).trans (congrArg _ ?_)
  blk_ext [idx t]

/-- An index of a block of rows is the pair of its coordinates. -/
theorem eta (j : S512x2048.Idx) : ValueIdx.ix2 (j 0) (j 1) = j :=
  funext fun a => match a with
    | ⟨0, _⟩ => rfl
    | ⟨1, _⟩ => rfl

/-- The block a grid point writes back is the reference's rows. -/
theorem out_blk (t : Fin cfg0.N) (j : S512x2048.Idx) :
    out0_4 (F := Ideal) (iblk m c 0 t) (iblk m c 1 t) (iblk m c 2 t) (iblk m c 3 t) j =
      val_main_v3 (F := Ideal) (X m c) (On m c) (Oh m c) (Wo m c) (ValueIdx.ix2 (row t (j 0)) (j 1)) := by
  refine (out_at _ _ _ _ j).trans (Eq.trans ?_ (ref_at (X m c) (On m c) (Oh m c) (Wo m c) (row t (j 0)) (j 1)).symm)
  have e0 : iblk m c 0 t j = X m c (ValueIdx.ix2 (row t (j 0)) (j 1)) :=
    (congrArg (iblk m c 0 t) (eta j).symm).trans (blk0 m c t (j 0) (j 1))
  have e1 := funext fun k => blk1 m c t (j 0) k
  have e2 := funext fun k => blk2 m c t (j 0) k
  have e3 := funext fun k => blk3 m c t k (j 1)
  exact congr (congr (congr (congrArg proj e0) e1) e2) e3

/-- The output array is the reference's result. -/
theorem arr4 : (dats m 0 c).arrAt 4 cfg0.N = val_main_v3 (F := Ideal) (X m c) (On m c) (Oh m c) (Wo m c) := by
  refine (dats m 0 c).arrAt_eq_of_covers 4 _ (by decide +kernel) fun t hf y => ?_
  blk_simp
  rw [after0_4]
  refine (out_blk m c t _).trans (congrArg _ (Eq.symm ?_))
  blk_ext [idx t, row]

end Cert.OutProjIdeal.Val

end
-- ==== Proof.OutProj.Claim.lean ====
/- The out-projection's claims. -/
module

public import proofs.«01_k».proof.Defs
public import proofs.«01_k».proof.Proof.OutProj.Value
public import proofs.«01_k».proof.Proof.Gen.OutProj.Frame
public import proofs.«01_k».proof.Proof.Gen.OutProjRefIdeal.Run

@[expose] public section

noncomputable section

open Idealize.ShloMosaic Idealize.SL.Sem

namespace Cert.Proof

/-- The out-projection's kernel runs to the end, leaves its arguments alone and its counters at zero. -/
theorem outProj_frame : Cert.quiescent_OutProj (hOutProj := Cert.OutProj.Gen.facts) :=
  fun m ρ _ => Cert.OutProj.Gen.frame m ρ

/-- So does its idealization. -/
theorem outProjIdeal_frame : Cert.quiescent_OutProjIdeal (hOutProjIdeal := Cert.OutProjIdeal.Gen.facts) :=
  fun m ρ _ => Cert.OutProjIdeal.Gen.frame m ρ

/-- So does the reference. -/
theorem outProjRef_frame : Cert.quiescent_OutProjRefIdeal (hOutProjRefIdeal := Cert.OutProjRefIdeal.Gen.facts) :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- Over the extended reals the out-projection's kernel and the reference end with the same result. -/
theorem outProj_algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => (Cert.OutProjIdeal.Gen.dats m 0 c).arrAt 4 Cert.OutProjIdeal.cfg0.N, Cert.OutProjIdeal.Value.run_blocks m ρ,
    (θ_run Cert.OutProjRefIdeal.defs _ _).mono (fun r h c => ⟨(h c).1.trans ?_, (h c).2⟩)
      (Cert.OutProjRefIdeal.Value.run (F := Ideal) m' ρ')⟩
  refine (Cert.OutProjRefIdeal.Read.val_main_v3_eq (F := Ideal) _ _ _ _).trans (Eq.trans ?_ (Cert.OutProjIdeal.Val.arr4 m c).symm)
  obtain ⟨h0, h1, h2, h3⟩ := hagree c
  rw [h0, h1, h2, h3]

end Cert.Proof

end
-- ==== Proof.InProj.FrameIdeal.lean ====
/-
  The in-projection's pipelined call as a run of its grid: what each of its nine windows holds after every grid
  point, why the body keeps that, and what the run therefore leaves in memory. Point t of the 224 is row block
  t / 14 and column step t % 14; a window whose step has not come, or is past, keeps what it held.
-/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.InProjIdeal.Steps

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipelined call -/

/-- What every buffer holds when the pipelined call starts: the weight has been packed and rounded, all else is as
    launched. -/
abbrev V (c : Dev nD) (b : Ref sig .tc) : Buf (Elt F) ((c : Thread nD τ).loc b) :=
  StableHlo.after (List.flatten [hostOps0, hostOps0_1, hostOps0_2]) (fun b => m (c, b)) b

/-- The slices of the weight draw no fresh buffer. -/
theorem fresh_slices : (hostOps0 : List (HloOp τ sig (Elt F))).Forall fun op => op.fresh = ∅ := by
  simp only [List.Forall]; repeat' constructor

/-- The padding of the gate columns draws no fresh buffer. -/
theorem fresh_pad : (hostOps0_1 : List (HloOp τ sig (Elt F))).Forall fun op => op.fresh = ∅ := by
  simp only [List.Forall]; repeat' constructor

/-- The packing and rounding of the weight draws no fresh buffer. -/
theorem fresh_pack : (hostOps0_2 : List (HloOp τ sig (Elt F))).Forall fun op => op.fresh = ∅ := by
  simp only [List.Forall]; repeat' constructor

set_option maxHeartbeats 800000 in
/-- The program is its weight packing followed by the pipelined call. -/
theorem upto_call (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh_slices, fresh_pad, fresh_pack⟩) main_chain

/-- The packing leaves the rows as launched. -/
theorem V_rows (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil,
      List.cons_append, List.nil_append, List.Forall, StableHlo.nullary_writes, StableHlo.unary_writes,
      StableHlo.binary_writes, StableHlo.nary_writes, Finset.mem_singleton]
    repeat' apply And.intro
    all_goals exact StableHlo.devRef_ne_of_ne (by decide)))

/-- The packing leaves the weight as launched. -/
theorem V_weight (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil,
      List.cons_append, List.nil_append, List.Forall, StableHlo.nullary_writes, StableHlo.unary_writes,
      StableHlo.binary_writes, StableHlo.nary_writes, Finset.mem_singleton]
    repeat' apply And.intro
    all_goals exact StableHlo.devRef_ne_of_ne (by decide)))

/-- Window w's block of its array at point t. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What a point computes -/

/-- A whole block of rows. -/
abbrev rH : Rect S1024x2048 := Rect.unit (s := S1024x2048) ![0, 0] S1024x2048.size inb_S1024x2048_S1024x2048_0_0
/-- A whole block of packed weight columns. -/
abbrev rW : Rect S2048x512 := Rect.unit (s := S2048x512) ![0, 0] S2048x512.size inb_S2048x512_S2048x512_0_0
/-- A whole block of 512 product columns. -/
abbrev rZ : Rect S1024x512 := Rect.unit (s := S1024x512) ![0, 0] S1024x512.size inb_S1024x512_S1024x512_0_0
/-- A whole block of 128 gate columns. -/
abbrev rG : Rect S1024x128 := Rect.unit (s := S1024x128) ![0, 0] S1024x128.size inb_S1024x128_S1024x128_0_0
/-- The rows 0, 4, 8, … of a key-value block. -/
abbrev rK0 : Rect S4096x128 :=
  ⟨(⟨![0, 0], S1024x128.size, ![4, 1], inb_S4096x128_S1024x128_0_0_s_4_1⟩ : LoadRect S4096x128), spos_4_1⟩
/-- The rows 1, 5, 9, … of a key-value block. -/
abbrev rK1 : Rect S4096x128 :=
  ⟨(⟨![1, 0], S1024x128.size, ![4, 1], inb_S4096x128_S1024x128_1_0_s_4_1⟩ : LoadRect S4096x128), spos_4_1⟩
/-- The rows 2, 6, 10, … of a key-value block. -/
abbrev rK2 : Rect S4096x128 :=
  ⟨(⟨![2, 0], S1024x128.size, ![4, 1], inb_S4096x128_S1024x128_2_0_s_4_1⟩ : LoadRect S4096x128), spos_4_1⟩
/-- The rows 3, 7, 11, … of a key-value block. -/
abbrev rK3 : Rect S4096x128 :=
  ⟨(⟨![3, 0], S1024x128.size, ![4, 1], inb_S4096x128_S1024x128_3_0_s_4_1⟩ : LoadRect S4096x128), spos_4_1⟩

/-- The product of a block of rows and a block of weight columns, as a whole block is left with it. -/
def prodOut (x0 : Vec F S1024x2048 .bf16) (x1 : Vec F S2048x512 .bf16) : Vec F S1024x512 .f32 :=
  View.canon [⟨rZ, k0_pay1 (View.ld x0 rH) (View.ld x1 rW)⟩]

/-- The same product rounded to bf16. -/
def roundOut (x0 : Vec F S1024x2048 .bf16) (x1 : Vec F S2048x512 .bf16) : Vec F S1024x512 .bf16 :=
  View.canon [⟨rZ, k0_pay2 (View.ld x0 rH) (View.ld x1 rW)⟩]

/-- The product's first 128 columns. -/
def gateOut (x0 : Vec F S1024x2048 .bf16) (x1 : Vec F S2048x512 .bf16) : Vec F S1024x128 .f32 :=
  View.canon [⟨rG, k0_pay22 (View.ld x0 rH) (View.ld x1 rW)⟩]

/-- The product's four column quarters, laid out as every fourth row each. -/
def kvOut (x0 : Vec F S1024x2048 .bf16) (x1 : Vec F S2048x512 .bf16) : Vec F S4096x128 .f32 :=
  View.canon [⟨rK3, k0_pay8 (View.ld x0 rH) (View.ld x1 rW)⟩, ⟨rK2, k0_pay7 (View.ld x0 rH) (View.ld x1 rW)⟩,
    ⟨rK1, k0_pay6 (View.ld x0 rH) (View.ld x1 rW)⟩, ⟨rK0, k0_pay5 (View.ld x0 rH) (View.ld x1 rW)⟩]

/-- One store of a whole block of 512 columns covers it. -/
theorem cover_Z {e : EltTy} (p : Vec F S1024x512 e) (y : S1024x512.Idx) :
    ∃ pc ∈ ([⟨rZ, p⟩] : List (View.Piece (Elt F) S1024x512 e)), y ∈ pc.1.set :=
  View.cover_of_tiled [⟨rZ, p⟩] S1024x512.size (by rfl) y

/-- One store of a whole block of 128 columns covers it. -/
theorem cover_G (p : Vec F S1024x128 .f32) (y : S1024x128.Idx) :
    ∃ pc ∈ ([⟨rG, p⟩] : List (View.Piece (Elt F) S1024x128 .f32)), y ∈ pc.1.set :=
  View.cover_of_tiled [⟨rG, p⟩] S1024x128.size (by rfl) y

/-- The rows congruent to k modulo 4 are the ones the store starting at row k writes. -/
theorem mem_rows (r : Rect S4096x128) (k : ℕ) (h0 : r.off 0 = k) (h1 : r.off 1 = 0) (hs0 : r.stride 0 = 4)
    (hs1 : r.stride 1 = 1) (hz0 : r.size 0 = 1024) (hz1 : r.size 1 = 128) (y : S4096x128.Idx) (hy : (y 0).val % 4 = k) :
    y ∈ r.set := by
  have b0 : (y 0).val < 4096 := (y 0).isLt
  have b1 : (y 1).val < 128 := (y 1).isLt
  refine (LoadRect.mem_set _).mpr fun a => ?_
  match a with
  | ⟨0, _⟩ => exact ⟨(y 0).val / 4, by show _ < r.size 0; omega, by show (y 0).val = r.off 0 + r.stride 0 * _; rw [h0, hs0]; omega⟩
  | ⟨1, _⟩ => exact ⟨(y 1).val, by show _ < r.size 1; omega, by show (y 1).val = r.off 1 + r.stride 1 * _; rw [h1, hs1]; omega⟩

/-- The four strided stores together cover a key-value block: every row is congruent to 0, 1, 2 or 3 modulo 4. -/
theorem cover_K (p3 p2 p1 p0 : Vec F S1024x128 .f32) (y : S4096x128.Idx) :
    ∃ pc ∈ ([⟨rK3, p3⟩, ⟨rK2, p2⟩, ⟨rK1, p1⟩, ⟨rK0, p0⟩] : List (View.Piece (Elt F) S4096x128 .f32)), y ∈ pc.1.set := by
  have h : (y 0).val % 4 = 0 ∨ (y 0).val % 4 = 1 ∨ (y 0).val % 4 = 2 ∨ (y 0).val % 4 = 3 := by omega
  rcases h with h | h | h | h
  · exact ⟨⟨rK0, p0⟩, by simp, mem_rows rK0 0 rfl rfl rfl rfl rfl rfl y h⟩
  · exact ⟨⟨rK1, p1⟩, by simp, mem_rows rK1 1 rfl rfl rfl rfl rfl rfl y h⟩
  · exact ⟨⟨rK2, p2⟩, by simp, mem_rows rK2 2 rfl rfl rfl rfl rfl rfl y h⟩
  · exact ⟨⟨rK3, p3⟩, by simp, mem_rows rK3 3 rfl rfl rfl rfl rfl rfl y h⟩

/-! ## The schedule -/

/-- The six branches of the body, by the column step. -/
theorem step1 : ∀ t : Fin cfg0.N, (k0_cond1 (grid0.coords t) = 1#1) ↔ t.val % 14 < 2 :=
  (by decide +kernel : ∀ t : Fin grid0.N, (k0_cond1 (grid0.coords t) = 1#1) ↔ t.val % 14 < 2)
theorem step2 : ∀ t : Fin cfg0.N, (k0_cond2 (grid0.coords t) = 1#1) ↔ t.val % 14 = 2 :=
  (by decide +kernel : ∀ t : Fin grid0.N, (k0_cond2 (grid0.coords t) = 1#1) ↔ t.val % 14 = 2)
theorem step3 : ∀ t : Fin cfg0.N, (k0_cond3 (grid0.coords t) = 1#1) ↔ t.val % 14 = 3 :=
  (by decide +kernel : ∀ t : Fin grid0.N, (k0_cond3 (grid0.coords t) = 1#1) ↔ t.val % 14 = 3)
theorem step4 : ∀ t : Fin cfg0.N, (k0_cond4 (grid0.coords t) = 1#1) ↔ t.val % 14 = 4 :=
  (by decide +kernel : ∀ t : Fin grid0.N, (k0_cond4 (grid0.coords t) = 1#1) ↔ t.val % 14 = 4)
theorem step5 : ∀ t : Fin cfg0.N, (k0_cond5 (grid0.coords t) = 1#1) ↔ 5 ≤ t.val % 14 ∧ t.val % 14 < 13 :=
  (by decide +kernel : ∀ t : Fin grid0.N, (k0_cond5 (grid0.coords t) = 1#1) ↔ 5 ≤ t.val % 14 ∧ t.val % 14 < 13)
theorem step6 : ∀ t : Fin cfg0.N, (k0_cond6 (grid0.coords t) = 1#1) ↔ t.val % 14 = 13 :=
  (by decide +kernel : ∀ t : Fin grid0.N, (k0_cond6 (grid0.coords t) = 1#1) ↔ t.val % 14 = 13)

/-- When the body leaves an output window alone, by the column step. -/
theorem idle2 : ∀ t : Fin cfg0.N, cfg0.idle 2 (cfg0.grid.coords t) = decide (5 ≤ t.val % 14) :=
  (by decide +kernel : ∀ t : Fin grid0.N, idle0 2 (grid0.coords t) = decide (5 ≤ t.val % 14))
theorem idle3 : ∀ t : Fin cfg0.N, cfg0.idle 3 (cfg0.grid.coords t) = decide (5 ≤ t.val % 14) :=
  (by decide +kernel : ∀ t : Fin grid0.N, idle0 3 (grid0.coords t) = decide (5 ≤ t.val % 14))
theorem idle4 : ∀ t : Fin cfg0.N, cfg0.idle 4 (cfg0.grid.coords t) = decide (t.val % 14 < 5 ∨ t.val % 14 = 13) :=
  (by decide +kernel : ∀ t : Fin grid0.N, idle0 4 (grid0.coords t) = decide (t.val % 14 < 5 ∨ t.val % 14 = 13))
theorem idle5 : ∀ t : Fin cfg0.N, cfg0.idle 5 (cfg0.grid.coords t) = decide (t.val % 14 ≠ 13) :=
  (by decide +kernel : ∀ t : Fin grid0.N, idle0 5 (grid0.coords t) = decide (t.val % 14 ≠ 13))
theorem idle6 : ∀ t : Fin cfg0.N, cfg0.idle 6 (cfg0.grid.coords t) = decide (t.val % 14 ≠ 2) :=
  (by decide +kernel : ∀ t : Fin grid0.N, idle0 6 (grid0.coords t) = decide (t.val % 14 ≠ 2))
theorem idle7 : ∀ t : Fin cfg0.N, cfg0.idle 7 (cfg0.grid.coords t) = decide (t.val % 14 ≠ 3) :=
  (by decide +kernel : ∀ t : Fin grid0.N, idle0 7 (grid0.coords t) = decide (t.val % 14 ≠ 3))
theorem idle8 : ∀ t : Fin cfg0.N, cfg0.idle 8 (cfg0.grid.coords t) = decide (t.val % 14 ≠ 4) :=
  (by decide +kernel : ∀ t : Fin grid0.N, idle0 8 (grid0.coords t) = decide (t.val % 14 ≠ 4))

/-- When an output window is written back, by the column step. -/
theorem flush2 : ∀ t : Fin cfg0.N, (cfg0.win 2).flush t = decide (t.val % 14 < 4 ∨ t.val % 14 = 13) :=
  (by simp only [Window.flush_eq_flushF]; decide +kernel :
    ∀ t : Fin grid0.N, win0_2.flush t = decide (t.val % 14 < 4 ∨ t.val % 14 = 13))
theorem flush3 : ∀ t : Fin cfg0.N, (cfg0.win 3).flush t = decide (t.val % 14 < 4 ∨ t.val % 14 = 13) :=
  (by simp only [Window.flush_eq_flushF]; decide +kernel :
    ∀ t : Fin grid0.N, win0_3.flush t = decide (t.val % 14 < 4 ∨ t.val % 14 = 13))
theorem flush4 : ∀ t : Fin cfg0.N, (cfg0.win 4).flush t = decide (5 ≤ t.val % 14 ∧ t.val % 14 ≠ 12) :=
  (by simp only [Window.flush_eq_flushF]; decide +kernel :
    ∀ t : Fin grid0.N, win0_4.flush t = decide (5 ≤ t.val % 14 ∧ t.val % 14 ≠ 12))
theorem flush5 : ∀ t : Fin cfg0.N, (cfg0.win 5).flush t = decide (t.val % 14 = 13) :=
  fun t => Bool.eq_iff_iff.mpr ((flush0_5 t).trans (by simp))
theorem flush6 : ∀ t : Fin cfg0.N, (cfg0.win 6).flush t = decide (t.val % 14 = 13) :=
  fun t => Bool.eq_iff_iff.mpr ((flush0_6 t).trans (by simp))
theorem flush7 : ∀ t : Fin cfg0.N, (cfg0.win 7).flush t = decide (t.val % 14 = 13) :=
  fun t => Bool.eq_iff_iff.mpr ((flush0_7 t).trans (by simp))
theorem flush8 : ∀ t : Fin cfg0.N, (cfg0.win 8).flush t = decide (t.val % 14 = 13) :=
  fun t => Bool.eq_iff_iff.mpr ((flush0_8 t).trans (by simp))

/-- Point t's row block at column step j. -/
def pt (t : Fin cfg0.N) (j : ℕ) : Fin cfg0.N :=
  ⟨14 * (t.val / 14) + min j 13, by have h := t.isLt; have hN : cfg0.N = 224 := N_0; omega⟩

/-- At its own column step it is the point. -/
theorem pt_self (t : Fin cfg0.N) (j : ℕ) (h : j = t.val % 14) : pt t j = t :=
  Fin.ext (by show 14 * (t.val / 14) + min j 13 = t.val; omega)

/-- Inside a row block the point before has the same one. -/
theorem pt_pred (t : Fin cfg0.N) (h : t.val % 14 ≠ 0) (j : ℕ) (hp : t.val - 1 < cfg0.N) :
    pt ⟨t.val - 1, hp⟩ j = pt t j :=
  Fin.ext (by show 14 * ((t.val - 1) / 14) + min j 13 = 14 * (t.val / 14) + min j 13; omega)

/-! ## What the windows hold -/

/-- What every window holds after point t: the rows' and the weight's block; the first two outputs the product at
    the latest of the column steps 0 to 4, the third the one at the latest of 5 to 12, the gates the one at 13, and
    the three key-value outputs the ones at 2, 3 and 4. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prodOut (iblk m c 0 (pt t (min (t.val % 14) 4))) (iblk m c 1 (pt t (min (t.val % 14) 4)))
    | ⟨3, _⟩ => roundOut (iblk m c 0 (pt t (min (t.val % 14) 4))) (iblk m c 1 (pt t (min (t.val % 14) 4)))
    | ⟨4, _⟩ => prodOut (iblk m c 0 (pt t (max 5 (min (t.val % 14) 12)))) (iblk m c 1 (pt t (max 5 (min (t.val % 14) 12))))
    | ⟨5, _⟩ => gateOut (iblk m c 0 (pt t 13)) (iblk m c 1 (pt t 13))
    | ⟨6, _⟩ => kvOut (iblk m c 0 (pt t 2)) (iblk m c 1 (pt t 2))
    | ⟨7, _⟩ => kvOut (iblk m c 0 (pt t 3)) (iblk m c 1 (pt t 3))
    | ⟨8, _⟩ => kvOut (iblk m c 0 (pt t 4)) (iblk m c 1 (pt t 4))
  Φ _ := Pipeline.ΦA spec0 c
  q _ := fullShare
  owed _ := 0

/-- The windows' arrays are what the call finds. -/
theorem A_eq (c : Dev nD) (w : Fin cfg0.W) : (dats m 0 c).A w = V m c (Pipeline.arrRef spec0 w) := by
  dsimp only [dats]

/-- What each window holds after a point, one by one. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) (j : ℕ) (h : j = min (t.val % 14) 4) :
    (dats m 0 c).after 2 t = prodOut (iblk m c 0 (pt t j)) (iblk m c 1 (pt t j)) := by subst h; dsimp only [dats]
theorem after3 (c : Dev nD) (t : Fin cfg0.N) (j : ℕ) (h : j = min (t.val % 14) 4) :
    (dats m 0 c).after 3 t = roundOut (iblk m c 0 (pt t j)) (iblk m c 1 (pt t j)) := by subst h; dsimp only [dats]
theorem after4 (c : Dev nD) (t : Fin cfg0.N) (j : ℕ) (h : j = max 5 (min (t.val % 14) 12)) :
    (dats m 0 c).after 4 t = prodOut (iblk m c 0 (pt t j)) (iblk m c 1 (pt t j)) := by subst h; dsimp only [dats]
theorem after5 (c : Dev nD) (t : Fin cfg0.N) :
    (dats m 0 c).after 5 t = gateOut (iblk m c 0 (pt t 13)) (iblk m c 1 (pt t 13)) := by dsimp only [dats]
theorem after6 (c : Dev nD) (t : Fin cfg0.N) :
    (dats m 0 c).after 6 t = kvOut (iblk m c 0 (pt t 2)) (iblk m c 1 (pt t 2)) := by dsimp only [dats]
theorem after7 (c : Dev nD) (t : Fin cfg0.N) :
    (dats m 0 c).after 7 t = kvOut (iblk m c 0 (pt t 3)) (iblk m c 1 (pt t 3)) := by dsimp only [dats]
theorem after8 (c : Dev nD) (t : Fin cfg0.N) :
    (dats m 0 c).after 8 t = kvOut (iblk m c 0 (pt t 4)) (iblk m c 1 (pt t 4)) := by dsimp only [dats]

/-- The body finds the rows' block of the point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The body finds the weight's block of the point. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- A window the body leaves alone is handed back as the pipeline wants it: where it is not written back, as found;
    where it is, k steps past the last that stored into it, it still holds what that one left. -/
theorem keep (c : Dev nD) (w : Fin cfg0.W) (k : ℕ) (hw : (cfg0.win w).isOut = true)
    (hclip : ∀ (i : cfg0.grid.Coords) a, (cfg0.win w).clip i a = none)
    (hs : ∀ t : Fin cfg0.N, decide ((t.val + 1) % 14 ≤ k)
      = ((cfg0.win w).flush t || (cfg0.idle w (cfg0.grid.coords t) && decide (t.val % 14 ≤ k))))
    (hfl : ∀ t : Fin cfg0.N, cfg0.idle w (cfg0.grid.coords t) = true → (cfg0.win w).flush t = true → k < t.val % 14)
    (hcarry : ∀ (t : Fin cfg0.N) (hp : t.val - 1 < cfg0.N), k < t.val % 14 →
      (dats m 0 c).after w t = (dats m 0 c).after w ⟨t.val - 1, hp⟩)
    (t : Fin cfg0.N) (hi : cfg0.idle w (cfg0.grid.coords t) = true) :
    iprop(∃ d, owns (c : Thread nD τ) ((cfg0.win w).stage (cfg0.slots t w)) fullShare ((dats m 0 c).before w t d))
      ⊢ (dats m 0 c).leavesExact w t := by
  have hfresh : ∀ n, n ≤ cfg0.N → cfg0.fresh w n = decide (n % 14 ≤ k) :=
    Cfg.fresh_tab cfg0 w (fun n => decide (n % 14 ≤ k)) (by simp) hs
  cases hf : (cfg0.win w).flush t
  · rw [Dat.leavesExact_idle (dats m 0 c) w t hi hf]
  · have hk := hfl t hi hf
    have hb : ∀ d, (dats m 0 c).before w t d = (dats m 0 c).after w t := fun d => by
      rw [Dat.before_out_traj (dats m 0 c) w hw hclip (fun t _ _ hfr => hcarry t _ (by
        rw [hfresh _ t.isLt.le] at hfr; simpa using hfr)) t.val t rfl d, hfresh _ t.isLt.le,
        if_neg (by simpa using hk)]
      exact (hcarry t _ hk).symm
    unfold Dat.leavesExact
    rw [hi, hf]
    simp only [hb]
    iintro ⟨%d, H⟩
    iexact H

/-! ## The body, by the column step -/

section Body

variable (c : Dev nD) (E : Set ℕ) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S1024x512 .f32) (harg4 : arg4.IsWhole)
    (arg5 : Memref sig .tc .vmem S1024x512 .bf16) (harg5 : arg5.IsWhole)
    (arg6 : Memref sig .tc .vmem S1024x512 .f32) (harg6 : arg6.IsWhole)
    (arg7 : Memref sig .tc .vmem S1024x128 .f32) (harg7 : arg7.IsWhole)
    (arg8 : Memref sig .tc .vmem S4096x128 .f32) (harg8 : arg8.IsWhole)
    (arg9 : Memref sig .tc .vmem S4096x128 .f32) (harg9 : arg9.IsWhole)
    (arg10 : Memref sig .tc .vmem S4096x128 .f32) (harg10 : arg10.IsWhole)
    (x0 : Vec F S1024x2048 .bf16) (x1 : Vec F S2048x512 .bf16)

set_option maxHeartbeats 2000000 in
/-- In the first two column steps the product goes to the first output, and rounded to the second. -/
theorem body_a (K : PUnit → sProp 𝕄) (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, ⟨%d1, %g1, -, G1⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  iexists _; isplitr
  swap; · iexact G1
  ipureintro
  exact View.read_writes_eq_canon _ _ _ (cover_Z _)

set_option maxHeartbeats 2000000 in
/-- In column step 2 it goes there too, and in quarters to the first key-value output. -/
theorem body_k2 (K : PUnit → sProp 𝕄) (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg8 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg8 fullShare (kvOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In column step 3 it goes there too, and in quarters to the second key-value output. -/
theorem body_k3 (K : PUnit → sProp 𝕄) (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg9 fullShare (kvOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In column step 4 it goes there too, and in quarters to the third key-value output. -/
theorem body_k4 (K : PUnit → sProp 𝕄) (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg10 fullShare (kvOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In the column steps 5 to 12 the product goes to the third output. -/
theorem body_c (K : PUnit → sProp 𝕄) (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) :
    iprop(owns (c : Thread nD τ) arg2 fullShare x0
        ∗ owns (c : Thread nD τ) arg3 fullShare x1
        ∗ (∃ d, owns (c : Thread nD τ) arg6 fullShare d)
        ∗ (iprop(owns (c : Thread nD τ) arg2 fullShare x0
            ∗ owns (c : Thread nD τ) arg3 fullShare x1
            ∗ owns (c : Thread nD τ) arg6 fullShare (prodOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  iexists _; isplitr
  swap; · iexact G0
  ipureintro
  exact View.read_writes_eq_canon _ _ _ (cover_Z _)

set_option maxHeartbeats 2000000 in
/-- In the last column step its first 128 columns go to the gates' output. -/
theorem body_d (K : PUnit → sProp 𝕄) (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) :
    iprop(owns (c : Thread nD τ) arg2 fullShare x0
        ∗ owns (c : Thread nD τ) arg3 fullShare x1
        ∗ (∃ d, owns (c : Thread nD τ) arg7 fullShare d)
        ∗ (iprop(owns (c : Thread nD τ) arg2 fullShare x0
            ∗ owns (c : Thread nD τ) arg3 fullShare x1
            ∗ owns (c : Thread nD τ) arg7 fullShare (gateOut x0 x1)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10) K := by
  simp only [cc0_in_projection_eq_skeleton]; unfold cc0_in_projection_skel
  unfold owns
  iintro ⟨⟨%f0, %hf0, H0⟩, ⟨%f1, %hf1, H1⟩, ⟨%d0, %g0, -, G0⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  iexists _; isplitr
  swap; · iexact G0
  ipureintro
  exact View.read_writes_eq_canon _ _ _ (cover_G _)

end Body

/-! ## The windows the body leaves alone -/

/-- Reading the two decided tables of a window: written back while left alone only past step k. -/
theorem tables {w : Fin cfg0.W} {p q : ℕ → Prop} [DecidablePred p] [DecidablePred q] (k : ℕ)
    (hi : ∀ t : Fin cfg0.N, cfg0.idle w (cfg0.grid.coords t) = decide (p (t.val % 14)))
    (hf : ∀ t : Fin cfg0.N, (cfg0.win w).flush t = decide (q (t.val % 14)))
    (hpq : ∀ j < 14, p j → q j → k < j) (t : Fin cfg0.N) :
    cfg0.idle w (cfg0.grid.coords t) = true → (cfg0.win w).flush t = true → k < t.val % 14 := by
  rw [hi t, hf t, decide_eq_true_eq, decide_eq_true_eq]
  exact hpq _ (Nat.mod_lt _ (by omega))

/-- Reading them again: what the window holds is nothing stored exactly up to step k. -/
theorem junk_until {w : Fin cfg0.W} {p q : ℕ → Prop} [DecidablePred p] [DecidablePred q] (k : ℕ)
    (hi : ∀ t : Fin cfg0.N, cfg0.idle w (cfg0.grid.coords t) = decide (p (t.val % 14)))
    (hf : ∀ t : Fin cfg0.N, (cfg0.win w).flush t = decide (q (t.val % 14)))
    (hpq : ∀ j < 14, decide ((j + 1) % 14 ≤ k) = (decide (q j) || (decide (p j) && decide (j ≤ k)))) (t : Fin cfg0.N) :
    decide ((t.val + 1) % 14 ≤ k)
      = ((cfg0.win w).flush t || (cfg0.idle w (cfg0.grid.coords t) && decide (t.val % 14 ≤ k))) := by
  rw [hi t, hf t, ← hpq _ (Nat.mod_lt _ (by omega))]
  congr 2
  omega

/-- The first output's window, where the body leaves it alone. -/
theorem keep2 (c : Dev nD) (t : Fin cfg0.N) (hi : cfg0.idle 2 (cfg0.grid.coords t) = true) :
    iprop(∃ d, owns (c : Thread nD τ) (st0_2 t) fullShare ((dats m 0 c).before 2 t d)) ⊢ (dats m 0 c).leavesExact 2 t :=
  keep m c 2 4 rfl (fun _ _ => rfl)
    (junk_until (p := fun j => 5 ≤ j) (q := fun j => j < 4 ∨ j = 13) 4 idle2 flush2 (by decide))
    (tables (p := fun j => 5 ≤ j) (q := fun j => j < 4 ∨ j = 13) 4 idle2 flush2 (by decide))
    (fun t hp h => by
      rw [after2 m c t 4 (by omega), after2 m c ⟨t.val - 1, hp⟩ 4 (by show 4 = min ((t.val - 1) % 14) 4; omega), pt_pred t (by omega)]) t hi

/-- The second output's window, where the body leaves it alone. -/
theorem keep3 (c : Dev nD) (t : Fin cfg0.N) (hi : cfg0.idle 3 (cfg0.grid.coords t) = true) :
    iprop(∃ d, owns (c : Thread nD τ) (st0_3 t) fullShare ((dats m 0 c).before 3 t d)) ⊢ (dats m 0 c).leavesExact 3 t :=
  keep m c 3 4 rfl (fun _ _ => rfl)
    (junk_until (p := fun j => 5 ≤ j) (q := fun j => j < 4 ∨ j = 13) 4 idle3 flush3 (by decide))
    (tables (p := fun j => 5 ≤ j) (q := fun j => j < 4 ∨ j = 13) 4 idle3 flush3 (by decide))
    (fun t hp h => by
      rw [after3 m c t 4 (by omega), after3 m c ⟨t.val - 1, hp⟩ 4 (by show 4 = min ((t.val - 1) % 14) 4; omega), pt_pred t (by omega)]) t hi

/-- The third output's window, where the body leaves it alone. -/
theorem keep4 (c : Dev nD) (t : Fin cfg0.N) (hi : cfg0.idle 4 (cfg0.grid.coords t) = true) :
    iprop(∃ d, owns (c : Thread nD τ) (st0_4 t) fullShare ((dats m 0 c).before 4 t d)) ⊢ (dats m 0 c).leavesExact 4 t :=
  keep m c 4 12 rfl (fun _ _ => rfl)
    (junk_until (p := fun j => j < 5 ∨ j = 13) (q := fun j => 5 ≤ j ∧ j ≠ 12) 12 idle4 flush4 (by decide))
    (tables (p := fun j => j < 5 ∨ j = 13) (q := fun j => 5 ≤ j ∧ j ≠ 12) 12 idle4 flush4 (by decide))
    (fun t hp h => by
      rw [after4 m c t 12 (by omega), after4 m c ⟨t.val - 1, hp⟩ 12 (by show 12 = max 5 (min ((t.val - 1) % 14) 12); omega), pt_pred t (by omega)]) t hi

/-- The gates' window, where the body leaves it alone. -/
theorem keep5 (c : Dev nD) (t : Fin cfg0.N) (hi : cfg0.idle 5 (cfg0.grid.coords t) = true) :
    iprop(∃ d, owns (c : Thread nD τ) (st0_5 t) fullShare ((dats m 0 c).before 5 t d)) ⊢ (dats m 0 c).leavesExact 5 t :=
  keep m c 5 13 rfl (fun _ _ => rfl)
    (junk_until (p := fun j => j ≠ 13) (q := fun j => j = 13) 13 idle5 flush5 (by decide))
    (tables (p := fun j => j ≠ 13) (q := fun j => j = 13) 13 idle5 flush5 (by decide))
    (fun t hp h => by
      rw [after5, after5, pt_pred t (by omega)]) t hi

/-- The first key-value window, where the body leaves it alone. -/
theorem keep6 (c : Dev nD) (t : Fin cfg0.N) (hi : cfg0.idle 6 (cfg0.grid.coords t) = true) :
    iprop(∃ d, owns (c : Thread nD τ) (st0_6 t) fullShare ((dats m 0 c).before 6 t d)) ⊢ (dats m 0 c).leavesExact 6 t :=
  keep m c 6 2 rfl (fun _ _ => rfl)
    (junk_until (p := fun j => j ≠ 2) (q := fun j => j = 13) 2 idle6 flush6 (by decide))
    (tables (p := fun j => j ≠ 2) (q := fun j => j = 13) 2 idle6 flush6 (by decide))
    (fun t hp h => by
      rw [after6, after6, pt_pred t (by omega)]) t hi

/-- The second key-value window, where the body leaves it alone. -/
theorem keep7 (c : Dev nD) (t : Fin cfg0.N) (hi : cfg0.idle 7 (cfg0.grid.coords t) = true) :
    iprop(∃ d, owns (c : Thread nD τ) (st0_7 t) fullShare ((dats m 0 c).before 7 t d)) ⊢ (dats m 0 c).leavesExact 7 t :=
  keep m c 7 3 rfl (fun _ _ => rfl)
    (junk_until (p := fun j => j ≠ 3) (q := fun j => j = 13) 3 idle7 flush7 (by decide))
    (tables (p := fun j => j ≠ 3) (q := fun j => j = 13) 3 idle7 flush7 (by decide))
    (fun t hp h => by
      rw [after7, after7, pt_pred t (by omega)]) t hi

/-- The third key-value window, where the body leaves it alone. -/
theorem keep8 (c : Dev nD) (t : Fin cfg0.N) (hi : cfg0.idle 8 (cfg0.grid.coords t) = true) :
    iprop(∃ d, owns (c : Thread nD τ) (st0_8 t) fullShare ((dats m 0 c).before 8 t d)) ⊢ (dats m 0 c).leavesExact 8 t :=
  keep m c 8 4 rfl (fun _ _ => rfl)
    (junk_until (p := fun j => j ≠ 4) (q := fun j => j = 13) 4 idle8 flush8 (by decide))
    (tables (p := fun j => j ≠ 4) (q := fun j => j = 13) 4 idle8 flush8 (by decide))
    (fun t hp h => by
      rw [after8, after8, pt_pred t (by omega)]) t hi

/-- A window the body stores into is handed back at what the point leaves. -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-! ## The body at a point -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point: the column step says which branch runs; the windows it stores into get what the point
    leaves, the others are handed back as they are. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, after0, after1]
  have hj : t.val % 14 < 2 ∨ t.val % 14 = 2 ∨ t.val % 14 = 3 ∨ t.val % 14 = 4 ∨ (5 ≤ t.val % 14 ∧ t.val % 14 < 13)
      ∨ t.val % 14 = 13 := by omega
  rcases hj with h | h | h | h | h | h
  · rw [leaves_live m c 2 t (by rw [idle2]; simpa using by omega), after2 m c t (t.val % 14) (by omega), pt_self t _ rfl]
    rw [leaves_live m c 3 t (by rw [idle3]; simpa using by omega), after3 m c t (t.val % 14) (by omega), pt_self t _ rfl]
    iintro ⟨HΦ, Ho, ⟨%d0, H0⟩, ⟨%d1, H1⟩, ⟨%d2, H2⟩, ⟨%d3, H3⟩, H4, H5, H6, H7, H8⟩
    iapply (body_a c Set.univ (grid0.coords t) _ _ _ _ _ _ _ _ _ _ _ _ _ _ _ _ _ _ (iblk m c 0 t) (iblk m c 1 t) _ ((step1 t).mpr h) (fun h' => by have := (step2 t).mp h'; omega) (fun h' => by have := (step3 t).mp h'; omega) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by rw [idle4]; simpa using by omega)); iexact H4
    isplitl [H5]; · iapply (keep5 m c t (by rw [idle5]; simpa using by omega)); iexact H5
    isplitl [H6]; · iapply (keep6 m c t (by rw [idle6]; simpa using by omega)); iexact H6
    isplitl [H7]; · iapply (keep7 m c t (by rw [idle7]; simpa using by omega)); iexact H7
    iapply (keep8 m c t (by rw [idle8]; simpa using by omega)); iexact H8
  · rw [leaves_live m c 2 t (by rw [idle2]; simpa using by omega), after2 m c t (t.val % 14) (by omega), pt_self t _ rfl]
    rw [leaves_live m c 3 t (by rw [idle3]; simpa using by omega), after3 m c t (t.val % 14) (by omega), pt_self t _ rfl]
    rw [leaves_live m c 6 t (by rw [idle6]; simpa using by omega), after6, pt_self t _ h.symm]
    iintro ⟨HΦ, Ho, ⟨%d0, H0⟩, ⟨%d1, H1⟩, ⟨%d2, H2⟩, ⟨%d3, H3⟩, H4, H5, ⟨%d6, H6⟩, H7, H8⟩
    iapply (body_k2 c Set.univ (grid0.coords t) _ _ _ _ _ _ _ _ _ _ _ _ _ _ _ _ _ _ (iblk m c 0 t) (iblk m c 1 t) _ (fun h' => by have := (step1 t).mp h'; omega) ((step2 t).mpr h) (fun h' => by have := (step3 t).mp h'; omega) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H6]; · iexists _; iexact H6
    iintro ⟨H0, H1, H2, H3, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by rw [idle4]; simpa using by omega)); iexact H4
    isplitl [H5]; · iapply (keep5 m c t (by rw [idle5]; simpa using by omega)); iexact H5
    isplitl [H6]; · iexact H6
    isplitl [H7]; · iapply (keep7 m c t (by rw [idle7]; simpa using by omega)); iexact H7
    iapply (keep8 m c t (by rw [idle8]; simpa using by omega)); iexact H8
  · rw [leaves_live m c 2 t (by rw [idle2]; simpa using by omega), after2 m c t (t.val % 14) (by omega), pt_self t _ rfl]
    rw [leaves_live m c 3 t (by rw [idle3]; simpa using by omega), after3 m c t (t.val % 14) (by omega), pt_self t _ rfl]
    rw [leaves_live m c 7 t (by rw [idle7]; simpa using by omega), after7, pt_self t _ h.symm]
    iintro ⟨HΦ, Ho, ⟨%d0, H0⟩, ⟨%d1, H1⟩, ⟨%d2, H2⟩, ⟨%d3, H3⟩, H4, H5, H6, ⟨%d7, H7⟩, H8⟩
    iapply (body_k3 c Set.univ (grid0.coords t) _ _ _ _ _ _ _ _ _ _ _ _ _ _ _ _ _ _ (iblk m c 0 t) (iblk m c 1 t) _ (fun h' => by have := (step1 t).mp h'; omega) (fun h' => by have := (step2 t).mp h'; omega) ((step3 t).mpr h) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H7]; · iexists _; iexact H7
    iintro ⟨H0, H1, H2, H3, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by rw [idle4]; simpa using by omega)); iexact H4
    isplitl [H5]; · iapply (keep5 m c t (by rw [idle5]; simpa using by omega)); iexact H5
    isplitl [H6]; · iapply (keep6 m c t (by rw [idle6]; simpa using by omega)); iexact H6
    isplitl [H7]; · iexact H7
    iapply (keep8 m c t (by rw [idle8]; simpa using by omega)); iexact H8
  · rw [leaves_live m c 2 t (by rw [idle2]; simpa using by omega), after2 m c t (t.val % 14) (by omega), pt_self t _ rfl]
    rw [leaves_live m c 3 t (by rw [idle3]; simpa using by omega), after3 m c t (t.val % 14) (by omega), pt_self t _ rfl]
    rw [leaves_live m c 8 t (by rw [idle8]; simpa using by omega), after8, pt_self t _ h.symm]
    iintro ⟨HΦ, Ho, ⟨%d0, H0⟩, ⟨%d1, H1⟩, ⟨%d2, H2⟩, ⟨%d3, H3⟩, H4, H5, H6, H7, ⟨%d8, H8⟩⟩
    iapply (body_k4 c Set.univ (grid0.coords t) _ _ _ _ _ _ _ _ _ _ _ _ _ _ _ _ _ _ (iblk m c 0 t) (iblk m c 1 t) _ (fun h' => by have := (step1 t).mp h'; omega) (fun h' => by have := (step2 t).mp h'; omega) (fun h' => by have := (step3 t).mp h'; omega) ((step4 t).mpr h) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H8]; · iexists _; iexact H8
    iintro ⟨H0, H1, H2, H3, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 m c t (by rw [idle4]; simpa using by omega)); iexact H4
    isplitl [H5]; · iapply (keep5 m c t (by rw [idle5]; simpa using by omega)); iexact H5
    isplitl [H6]; · iapply (keep6 m c t (by rw [idle6]; simpa using by omega)); iexact H6
    isplitl [H7]; · iapply (keep7 m c t (by rw [idle7]; simpa using by omega)); iexact H7
    iexact H8
  · rw [leaves_live m c 4 t (by rw [idle4]; simpa using by omega), after4 m c t (t.val % 14) (by omega), pt_self t _ rfl]
    iintro ⟨HΦ, Ho, ⟨%d0, H0⟩, ⟨%d1, H1⟩, H2, H3, ⟨%d4, H4⟩, H5, H6, H7, H8⟩
    iapply (body_c c Set.univ (grid0.coords t) _ _ _ _ _ _ _ _ _ _ _ _ _ _ _ _ _ _ (iblk m c 0 t) (iblk m c 1 t) _ (fun h' => by have := (step1 t).mp h'; omega) (fun h' => by have := (step2 t).mp h'; omega) (fun h' => by have := (step3 t).mp h'; omega) (fun h' => by have := (step4 t).mp h'; omega) ((step5 t).mpr h) (fun h' => by have := (step6 t).mp h'; omega))
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iapply (keep2 m c t (by rw [idle2]; simpa using by omega)); iexact H2
    isplitl [H3]; · iapply (keep3 m c t (by rw [idle3]; simpa using by omega)); iexact H3
    isplitl [H4]; · iexact H4
    isplitl [H5]; · iapply (keep5 m c t (by rw [idle5]; simpa using by omega)); iexact H5
    isplitl [H6]; · iapply (keep6 m c t (by rw [idle6]; simpa using by omega)); iexact H6
    isplitl [H7]; · iapply (keep7 m c t (by rw [idle7]; simpa using by omega)); iexact H7
    iapply (keep8 m c t (by rw [idle8]; simpa using by omega)); iexact H8
  · rw [leaves_live m c 5 t (by rw [idle5]; simpa using by omega), after5, pt_self t _ h.symm]
    iintro ⟨HΦ, Ho, ⟨%d0, H0⟩, ⟨%d1, H1⟩, H2, H3, H4, ⟨%d5, H5⟩, H6, H7, H8⟩
    iapply (body_d c Set.univ (grid0.coords t) _ _ _ _ _ _ _ _ _ _ _ _ _ _ _ _ _ _ (iblk m c 0 t) (iblk m c 1 t) _ (fun h' => by have := (step1 t).mp h'; omega) (fun h' => by have := (step2 t).mp h'; omega) (fun h' => by have := (step3 t).mp h'; omega) (fun h' => by have := (step4 t).mp h'; omega) (fun h' => by have := (step5 t).mp h'; omega) ((step6 t).mpr h))
    isplitl [H0]; · iexact H0
    isplitl [H1]; · iexact H1
    isplitl [H5]; · iexists _; iexact H5
    iintro ⟨H0, H1, H5⟩
    isplitl [HΦ]; · iexact HΦ
    isplitl [Ho]; · iexact Ho
    isplitl [H0]; · iexact H0
    isplitl [H1]; · iexact H1
    isplitl [H2]; · iapply (keep2 m c t (by rw [idle2]; simpa using by omega)); iexact H2
    isplitl [H3]; · iapply (keep3 m c t (by rw [idle3]; simpa using by omega)); iexact H3
    isplitl [H4]; · iapply (keep4 m c t (by rw [idle4]; simpa using by omega)); iexact H4
    isplitl [H5]; · iexact H5
    isplitl [H6]; · iapply (keep6 m c t (by rw [idle6]; simpa using by omega)); iexact H6
    isplitl [H7]; · iapply (keep7 m c t (by rw [idle7]; simpa using by omega)); iexact H7
    iapply (keep8 m c t (by rw [idle8]; simpa using by omega)); iexact H8

/-- The body the pipeline calls at point t. -/
theorem body_row (t : Fin cfg0.N) : defs₀ (F := F) .tc cfg0.body (cfg0.bodyArgs t (cfg0.slots t)) = bodyAt0 t := by
  unfold defs₀; rw [Defs.onTc_tc]

/-- The body does at every point what the windows' contents say. -/
theorem body_obligation (c : Dev nD) :
    BodyObligation (dats (F := F) m 0 c) (defs₀ (F := F)) Variants.none () Set.univ := fun t => by
  rw [bigSep_W0, bigSep_W0, body_row]
  exact triple_restated (body_point m c t) rfl .rfl fun _ => .rfl

/-! ## The run -/

set_option backward.isDefEq.respectTransparency.types false in
set_option maxHeartbeats 800000 in
/-- Every run terminates, with every array of the pipeline at what the windows' contents say, every other buffer as
    the call found it, and every counter at zero. -/
theorem run_quiescent :
    θ_run defs (onTc (τ := τ) (main (F := F))) (s₀ m ρ)
      (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := upto_call m Variants.none) (hA := A_eq m) (hΦ := fun _ _ => rfl)

/-- A final state of a run has both operands as launched. -/
theorem operands_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans ((A_eq m c 0).trans (V_rows m c))),
    ((h c).2 main_arg1 (Pipeline.mem_restRefs_of main_arg1 (by decide) (by decide))).trans (V_weight m c)⟩

/-- Every run terminates with both operands as launched and every counter at zero. -/
theorem frame_run :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨operands_kept m r h.1, h.2⟩) (run_quiescent m ρ)

end Cert.InProjIdeal.Steps

end
-- ==== Proof.InProj.Frame.lean ====
/- The frame of the in-projection's kernel. -/
module

public import proofs.«01_k».proof.Defs
public import proofs.«01_k».proof.Proof.InProj.FrameIdeal
public import proofs.«01_k».proof.Proof.Gen.InProj

@[expose] public section

set_option maxRecDepth 16384

open Idealize.ShloMosaic Idealize.SL.Sem

namespace Cert.InProj.Steps

/-- The kernel and its idealization have the same body, at the compiled values, -/
theorem body_same : @InProj.defs₀ Bits _ InProj.Gen.facts = @InProjIdeal.defs₀ Bits _ InProjIdeal.Gen.facts :=
  congrArg Defs.onTc (funext fun l => funext fun a => match l, a with
    | ⟨0, _⟩, (_, _) => by with_unfolding_all rfl)

/-- the same functions, -/
theorem defs_same : @InProj.defs Bits _ InProj.Gen.facts = @InProjIdeal.defs Bits _ InProjIdeal.Gen.facts :=
  congrArg (Pipeline.defs (InProjIdeal.pcfgs (F := Bits))) body_same

/-- and the same program. -/
theorem main_same : @InProj.main Bits _ InProj.Gen.facts = @InProjIdeal.main Bits _ InProjIdeal.Gen.facts := by
  with_unfolding_all rfl

/-- So its frame is its idealization's, which is proved at any values. -/
theorem frame : Cert.quiescent_InProj (hInProj := Cert.InProj.Gen.facts) := fun m ρ _ => by
  rw [defs_same, main_same]
  exact Cert.InProjIdeal.Steps.frame_run (F := Bits) m ρ

end Cert.InProj.Steps

end
-- ==== Proof.InProj.Value.lean ====
/- The in-projection's seven outputs equal the reference's. -/
module

public import proofs.«01_k».proof.Proof.InProj.FrameIdeal
public import proofs.«01_k».proof.Proof.Gen.InProjRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.InProjIdeal.Val

open Cert.InProjIdeal Cert.InProjIdeal.Gen Cert.InProjIdeal.Steps
open Cert.InProjRefIdeal.Read
open Idealize.ShloMosaic.Pipeline (Dat)

/-- An index of a matrix is the pair of its coordinates. -/
theorem eta {n k : ℕ} (j : Shape.Idx ⟨2, ![n, k]⟩) : ValueIdx.ix2 (j 0) (j 1) = j :=
  funext fun a => match a with
    | ⟨0, _⟩ => rfl
    | ⟨1, _⟩ => rfl

/-! ## What a point stores -/

/-- A row of the block of rows against a column of the block of weight columns. -/
def dot (x0 : Vec Ideal S1024x2048 .bf16) (x1 : Vec Ideal S2048x512 .bf16) (a : Fin 1024) (b : Fin 512) : EReal :=
  ∑ k : Fin 2048, x0 (ValueIdx.ix2 a k) * x1 (ValueIdx.ix2 k b)

/-- The product block at an entry. -/
theorem prod_at (x0 : Vec Ideal S1024x2048 .bf16) (x1 : Vec Ideal S2048x512 .bf16) (j : S1024x512.Idx) :
    prodOut (F := Ideal) x0 x1 j = dot x0 x1 (j 0) (j 1) := by
  unfold prodOut
  frame_out
  pointwise [k0_pay1, dot]
  rfl

/-- The rounded block at an entry: over the extended reals rounding does nothing. -/
theorem round_at (x0 : Vec Ideal S1024x2048 .bf16) (x1 : Vec Ideal S2048x512 .bf16) (j : S1024x512.Idx) :
    roundOut (F := Ideal) x0 x1 j = dot x0 x1 (j 0) (j 1) := by
  unfold roundOut
  frame_out
  pointwise [k0_pay2, k0_pay1, dot]
  rfl

/-- The gate block at an entry. -/
theorem gate_at (x0 : Vec Ideal S1024x2048 .bf16) (x1 : Vec Ideal S2048x512 .bf16) (j : S1024x128.Idx) :
    gateOut (F := Ideal) x0 x1 j = dot x0 x1 (j 0) ⟨(j 1).val, by have : (j 1).val < 128 := (j 1).isLt; omega⟩ := by
  unfold gateOut
  frame_out
  pointwise [k0_pay22, dot]
  rfl

/-- The product of two whole blocks at an entry. -/
theorem whole_at (x0 : Vec Ideal S1024x2048 .bf16) (x1 : Vec Ideal S2048x512 .bf16) (a : Fin 1024) (b : Fin 512) :
    k0_pay3 (F := Ideal) (View.ld x0 rH) (View.ld x1 rW) (ValueIdx.ix2 a b) = dot x0 x1 a b := by
  pointwise [k0_pay3, dot]
  rfl

/-- A key-value block at an entry: row y holds columns y mod 4 quarters in of product row y / 4. -/
def kvDot (x0 : Vec Ideal S1024x2048 .bf16) (x1 : Vec Ideal S2048x512 .bf16) (y : S4096x128.Idx) : EReal :=
  dot x0 x1 ⟨(y 0).val / 4, by have : (y 0).val < 4096 := (y 0).isLt; omega⟩
    ⟨(y 0).val % 4 * 128 + (y 1).val, by have : (y 1).val < 128 := (y 1).isLt; omega⟩

/-- Row x of the quarter k is row 4 x + k of the key-value block. -/
theorem quarter_row (x0 : Vec Ideal S1024x2048 .bf16) (x1 : Vec Ideal S2048x512 .bf16) (k : ℕ) (hk : k < 4)
    (x : S1024x128.Idx) (y : S4096x128.Idx) (h0 : (y 0).val = k + 4 * (x 0).val) (h1 : (y 1).val = 0 + 1 * (x 1).val) :
    dot x0 x1 (x 0) ⟨k * 128 + (x 1).val, by have : (x 1).val < 128 := (x 1).isLt; omega⟩ = kvDot x0 x1 y := by
  have hx : (x 0).val < 1024 := (x 0).isLt
  refine congr (congrArg _ (Fin.ext ?_)) (Fin.ext ?_)
  · show (x 0).val = (y 0).val / 4
    omega
  · show k * 128 + (x 1).val = (y 0).val % 4 * 128 + (y 1).val
    omega

/-- The key-value block at an entry. -/
theorem kv_blk_at (x0 : Vec Ideal S1024x2048 .bf16) (x1 : Vec Ideal S2048x512 .bf16) (y : S4096x128.Idx) :
    kvOut (F := Ideal) x0 x1 y = kvDot x0 x1 y := by
  refine View.canon_apply_of_pieces (Val := Elt Ideal) (kvDot x0 x1) _ (fun p hp x => ?_) y (cover_K _ _ _ _ y)
  simp only [List.mem_cons, List.mem_nil_iff, or_false] at hp
  rcases hp with rfl | rfl | rfl | rfl
  · refine Eq.trans ?_ (quarter_row x0 x1 3 (by omega) x _ rfl rfl)
    refine Eq.trans ?_ (whole_at x0 x1 _ _)
    pointwise [k0_pay8]
    rfl
  · refine Eq.trans ?_ (quarter_row x0 x1 2 (by omega) x _ rfl rfl)
    refine Eq.trans ?_ (whole_at x0 x1 _ _)
    pointwise [k0_pay7]
    rfl
  · refine Eq.trans ?_ (quarter_row x0 x1 1 (by omega) x _ rfl rfl)
    refine Eq.trans ?_ (whole_at x0 x1 _ _)
    pointwise [k0_pay6]
    rfl
  · refine Eq.trans ?_ (quarter_row x0 x1 0 (by omega) x _ rfl rfl)
    refine Eq.trans ?_ (whole_at x0 x1 _ _)
    pointwise [k0_pay5]
    rfl

/-! ## The packed weight -/

variable (m : (ℓ : Loc nD τ sig) → Buf (Elt Ideal) ℓ) (c : Dev nD)

/-- The arguments as the reference takes them. -/
abbrev H : Vec Ideal S16384x2048 .bf16 := m ((c : Thread nD τ).loc main_arg0)
abbrev Wi : Vec Ideal S2048x6680 .f32 := m ((c : Thread nD τ).loc main_arg1)

/-- The padding value is zero. -/
theorem sitofp_zero : (FloatOps.sitofp (F := Ideal) FTy.f32 0#32) = (0 : EReal) := by
  simp [FloatOps.sitofp]

/-- The gate columns past the last are the padding, zero. -/
theorem pad_at (W : Vec Ideal S2048x24 .f32) (k : Fin 2048) (e : Fin 512) :
    pad S2048x512 ![0, 0] ![0, 488] ![0, 0] W (sitofp (F := Ideal) .f32 (constantI S_ 32 0#32))
      pads_S2048x24_S2048x512_000_04880 h_S_ (ValueIdx.ix2 k e) =
    if h : e.val < 24 then W (ValueIdx.ix2 k ⟨e.val, h⟩) else 0 := by
  pointwise
  rw [sitofp_zero]
  rfl

/-- Three matrices side by side, at an entry. -/
theorem cat_at (A : Vec Ideal S2048x2560 .f32) (B : Vec Ideal S2048x4096 .f32) (C : Vec Ideal S2048x512 .f32) (k : Fin 2048) (e : Fin 7168) :
    concatenate S2048x7168 1 [⟨S2048x2560, A⟩, ⟨S2048x4096, B⟩, ⟨S2048x512, C⟩]
      concatenates_S2048x2560_S2048x4096_S2048x512_S2048x7168_d1 (ValueIdx.ix2 k e) =
    if h : e.val < 2560 then A (ValueIdx.ix2 k ⟨e.val, h⟩)
    else if h' : e.val - 2560 < 4096 then B (ValueIdx.ix2 k ⟨e.val - 2560, h'⟩)
    else C (ValueIdx.ix2 k ⟨e.val - 2560 - 4096, by omega⟩) := by
  pointwise
  rfl

/-- The packed weight as the kernel's packing builds it. -/
theorem v5_eq : (V m c main_v5 : Vec Ideal S2048x7168 .bf16) =
    truncf .bf16 (concatenate S2048x7168 1 [⟨S2048x2560, extractStridedSlice S2048x2560 ![0, 0] (Wi m c) slices_S2048x6680_S2048x2560_0_0⟩,
      ⟨S2048x4096, extractStridedSlice S2048x4096 ![0, 2584] (Wi m c) slices_S2048x6680_S2048x4096_0_2584⟩,
      ⟨S2048x512, pad S2048x512 ![0, 0] ![0, 488] ![0, 0] (extractStridedSlice S2048x24 ![0, 2560] (Wi m c) slices_S2048x6680_S2048x24_0_2560)
        (sitofp (F := Ideal) .f32 (constantI S_ 32 0#32)) pads_S2048x24_S2048x512_000_04880 h_S_⟩]
      concatenates_S2048x2560_S2048x4096_S2048x512_S2048x7168_d1) bitsLt_bf16_f32 := by
  generalize hR : truncf (F := Ideal) _ _ _ = R
  unfold V
  rw [show (List.flatten [hostOps0, hostOps0_1, hostOps0_2] : List (HloOp τ sig (Elt Ideal))) = hostOps0 ++ hostOps0_1 ++ hostOps0_2 from rfl]
  dsimp only [hostOps0, hostOps0_1, hostOps0_2]
  entry_read
  exact hR

/-- The packed weight, by column: the first 2560 columns, then the ones past the gates, then the gates and zeros. -/
def pk (W : Vec Ideal S2048x6680 .f32) (k : Fin 2048) (e : Fin 7168) : EReal :=
  if h : e.val < 2560 then W (ValueIdx.ix2 k ⟨e.val, by omega⟩)
  else if h' : e.val - 2560 < 4096 then W (ValueIdx.ix2 k ⟨2584 + (e.val - 2560), by omega⟩)
  else if h'' : e.val - 2560 - 4096 < 24 then W (ValueIdx.ix2 k ⟨2560 + (e.val - 2560 - 4096), by omega⟩)
  else 0

/-- The packed weight the kernel reads, at an entry. -/
theorem v5_at (j : S2048x7168.Idx) : (V m c main_v5 : Vec Ideal S2048x7168 .bf16) j = pk (Wi m c) (j 0) (j 1) := by
  refine (congrFun (v5_eq m c) j).trans ?_
  rw [← eta j]
  refine (cat_at _ _ _ (j 0) (j 1)).trans ?_
  unfold pk
  split_ifs with h h' h''
  · pointwise
    rfl
  · pointwise
    rfl
  · refine (pad_at _ (j 0) _).trans ((dif_pos h'').trans ?_)
    pointwise
    rfl
  · exact (pad_at _ (j 0) _).trans (dif_neg h'')

/-! ## The blocks a point reads -/

/-- Where each window's block stands at a grid point. -/
theorem idx : ∀ t : Fin cfg0.N, win0_0.index t = ![t.val / 14, 0] ∧ win0_1.index t = ![0, t.val % 14] ∧
    win0_2.index t = ![t.val / 14, min (t.val % 14) 4] ∧ win0_3.index t = ![t.val / 14, min (t.val % 14) 4] ∧
    win0_4.index t = ![t.val / 14, max 5 (min (t.val % 14) 12) - 5] ∧ win0_5.index t = ![t.val / 14, 0] ∧
    win0_6.index t = ![t.val / 14, 0] ∧ win0_7.index t = ![t.val / 14, 0] ∧ win0_8.index t = ![t.val / 14, 0] :=
  (by decide +kernel : ∀ t : Fin grid0.N, _)

/-- The grid has 224 points. -/
theorem lt_N (t : Fin cfg0.N) : t.val < 224 := lt_of_lt_of_eq t.isLt N_0

/-- A row of a block of rows, as a row of the array. -/
def row (t : Fin cfg0.N) (a : Fin 1024) : Fin 16384 := ⟨t.val / 14 * 1024 + a.val, by have := lt_N t; omega⟩

/-- A column of a block of packed columns, as a packed column. -/
def col (t : Fin cfg0.N) (b : Fin 512) : Fin 7168 := ⟨t.val % 14 * 512 + b.val, by omega⟩

theorem blk0 (t : Fin cfg0.N) (a : Fin 1024) (k : Fin 2048) :
    iblk m c 0 t (ValueIdx.ix2 a k) = H m c (ValueIdx.ix2 (row t a) k) := by
  refine (congrFun (V_rows m c) ((win0_0.blk t).view.emb (ValueIdx.ix2 a k))).trans (congrArg _ ?_)
  blk_ext [idx t, row]

theorem blk1 (t : Fin cfg0.N) (k : Fin 2048) (b : Fin 512) :
    iblk m c 1 t (ValueIdx.ix2 k b) = pk (Wi m c) k (col t b) := by
  refine (congrArg (V m c main_v5 : Vec Ideal S2048x7168 .bf16)
    (?_ : (win0_1.blk t).view.emb (ValueIdx.ix2 k b) = ValueIdx.ix2 k (col t b))).trans (v5_at m c _)
  blk_ext [idx t, col]

/-! ## The reference -/

/-- The whole product the reference slices. -/
abbrev ref (p : Fin 16384) (e : Fin 6680) : EReal := val_main_v1 (F := Ideal) (H m c) (Wi m c) (ValueIdx.ix2 p e)

/-- The whole product at an entry. -/
theorem ref_at (p : Fin 16384) (e : Fin 6680) :
    ref m c p e = ∑ k : Fin 2048, H m c (ValueIdx.ix2 p k) * Wi m c (ValueIdx.ix2 k e) := by
  unfold ref
  pointwise [val_main_v1, val_main_v0]
  rfl

/-- What a grid point computes: the reference's product at the column the packed one stands for, zero past the gates. -/
theorem dot_blk (t : Fin cfg0.N) (a : Fin 1024) (b : Fin 512) :
    dot (iblk m c 0 t) (iblk m c 1 t) a b =
      if h : (col t b).val < 2560 then ref m c (row t a) ⟨(col t b).val, by omega⟩
      else if h' : (col t b).val - 2560 < 4096 then ref m c (row t a) ⟨2584 + ((col t b).val - 2560), by omega⟩
      else if h'' : (col t b).val - 2560 - 4096 < 24 then ref m c (row t a) ⟨2560 + ((col t b).val - 2560 - 4096), by omega⟩
      else 0 := by
  refine (Finset.sum_congr rfl fun k _ => congr (congrArg _ (blk0 m c t a k)) (blk1 m c t k b)).trans ?_
  unfold pk
  split_ifs with h h' h''
  · exact (ref_at m c _ _).symm
  · exact (ref_at m c _ _).symm
  · exact (ref_at m c _ _).symm
  · exact Finset.sum_eq_zero fun k _ => mul_zero _

/-- The first results' columns are the whole product's first. -/
theorem v2_at (i : S16384x2560.Idx) : val_main_v2 (F := Ideal) (H m c) (Wi m c) i =
    ref m c (i 0) ⟨(i 1).val, by have : (i 1).val < 2560 := (i 1).isLt; omega⟩ := by
  unfold ref
  generalize hy : val_main_v1 (F := Ideal) (H m c) (Wi m c) = y
  unfold val_main_v2
  rw [hy]
  pointwise
  rfl

/-- Rounded, over the extended reals, they are the same. -/
theorem v5r_at (i : S16384x2560.Idx) : val_main_v5 (F := Ideal) (H m c) (Wi m c) i =
    ref m c (i 0) ⟨(i 1).val, by have : (i 1).val < 2560 := (i 1).isLt; omega⟩ := by
  refine Eq.trans ?_ (v2_at m c i)
  unfold val_main_v5
  generalize val_main_v2 (F := Ideal) (H m c) (Wi m c) = y
  pointwise

/-- The third result's columns are the whole product's past the gates. -/
theorem v6_at (i : S16384x4096.Idx) : val_main_v6 (F := Ideal) (H m c) (Wi m c) i =
    ref m c (i 0) ⟨2584 + (i 1).val, by have : (i 1).val < 4096 := (i 1).isLt; omega⟩ := by
  unfold ref
  generalize hy : val_main_v1 (F := Ideal) (H m c) (Wi m c) = y
  unfold val_main_v6
  rw [hy]
  pointwise
  rfl

/-- The gates are the whole product's 24 gate columns, and zeros. -/
theorem v4_at (i : S16384x128.Idx) : val_main_v4 (F := Ideal) (H m c) (Wi m c) i =
    if h : (i 1).val < 24 then ref m c (i 0) ⟨2560 + (i 1).val, by omega⟩ else 0 := by
  unfold ref
  generalize hy : val_main_v1 (F := Ideal) (H m c) (Wi m c) = y
  unfold val_main_v4 val_main_v3
  rw [hy]
  pointwise [val_main_call0_v0, val_main_c]
  rw [sitofp_zero]
  rfl

/-- A key-value output's row is a quarter of a row of 512 columns. -/
theorem quarter (i : S65536x128.Idx) : (i 0).val / 4 < 16384 ∧ (i 0).val % 4 * 128 + (i 1).val < 512 := by
  have h0 : (i 0).val < 65536 := (i 0).isLt
  have h1 : (i 1).val < 128 := (i 1).isLt
  omega

/-- A key-value result's entry of the whole product: n columns in, a quarter of 512 columns a row. -/
def kvRef (n : ℕ) (hn : n ≤ 2048) (i : S65536x128.Idx) : EReal :=
  ref m c ⟨(i 0).val / 4, (quarter i).1⟩ ⟨n + ((i 0).val % 4 * 128 + (i 1).val), by have := (quarter i).2; omega⟩

/-- Cutting 512 columns out of the product and laying each row out as four. -/
theorem kv_at (y : Vec Ideal Cert.InProjRefIdeal.S16384x512 .f32) (i : S65536x128.Idx) :
    shapeCast Cert.InProjRefIdeal.S65536x128 y Cert.InProjRefIdeal.Gen.shapeCasts_S16384x512_S65536x128 i =
      y (ValueIdx.ix2 ⟨(i 0).val / 4, (quarter i).1⟩ ⟨(i 0).val % 4 * 128 + (i 1).val, (quarter i).2⟩) := by
  refine shapeCast_apply y _ i _ ?_
  rw [Shape.rowMajor_val_two, Shape.rowMajor_val_two]
  show (i 0).val / 4 * 512 + ((i 0).val % 4 * 128 + (i 1).val) = (i 0).val * 128 + (i 1).val
  omega

theorem v8_at (i : S65536x128.Idx) : val_main_v8 (F := Ideal) (H m c) (Wi m c) i = kvRef m c 1024 (by omega) i := by
  unfold kvRef ref
  generalize hy : val_main_v1 (F := Ideal) (H m c) (Wi m c) = y
  unfold val_main_v8 val_main_v7
  rw [hy]
  refine (kv_at _ i).trans ?_
  pointwise
  rfl

theorem v10_at (i : S65536x128.Idx) : val_main_v10 (F := Ideal) (H m c) (Wi m c) i = kvRef m c 1536 (by omega) i := by
  unfold kvRef ref
  generalize hy : val_main_v1 (F := Ideal) (H m c) (Wi m c) = y
  unfold val_main_v10 val_main_v9
  rw [hy]
  refine (kv_at _ i).trans ?_
  pointwise
  rfl

theorem v12_at (i : S65536x128.Idx) : val_main_v12 (F := Ideal) (H m c) (Wi m c) i = kvRef m c 2048 (by omega) i := by
  unfold kvRef ref
  generalize hy : val_main_v1 (F := Ideal) (H m c) (Wi m c) = y
  unfold val_main_v12 val_main_v11
  rw [hy]
  refine (kv_at _ i).trans ?_
  pointwise
  rfl

/-! ## The outputs -/

/-- The row block of the point whose contents a window holds. -/
theorem row_pt (t : Fin cfg0.N) (j : ℕ) (a : Fin 1024) : row (pt t j) a = row t a :=
  Fin.ext (by show (14 * (t.val / 14) + min j 13) / 14 * 1024 + a.val = t.val / 14 * 1024 + a.val; omega)

/-- Its column block. -/
theorem col_pt (t : Fin cfg0.N) (j : ℕ) (hj : j ≤ 13) (b : Fin 512) : (col (pt t j) b).val = j * 512 + b.val := by
  show (14 * (t.val / 14) + min j 13) % 14 * 512 + b.val = j * 512 + b.val
  omega

/-- The product block of a point of the first five column steps is the reference's first columns. -/
theorem dot_lo (t : Fin cfg0.N) (j : ℕ) (hj : j ≤ 4) (a : Fin 1024) (b : Fin 512) :
    dot (iblk m c 0 (pt t j)) (iblk m c 1 (pt t j)) a b = ref m c (row t a) ⟨j * 512 + b.val, by omega⟩ := by
  have hc := col_pt t j (by omega) b
  refine (dot_blk m c (pt t j) a b).trans ((dif_pos (by omega)).trans ?_)
  exact congr (congrArg _ (row_pt t j a)) (Fin.ext hc)

/-- The product block of a point of the next eight is the reference's columns past the gates. -/
theorem dot_mid (t : Fin cfg0.N) (j : ℕ) (h : 5 ≤ j) (hj : j ≤ 12) (a : Fin 1024) (b : Fin 512) :
    dot (iblk m c 0 (pt t j)) (iblk m c 1 (pt t j)) a b =
      ref m c (row t a) ⟨2584 + ((j - 5) * 512 + b.val), by omega⟩ := by
  have hc := col_pt t j (by omega) b
  refine (dot_blk m c (pt t j) a b).trans ((dif_neg (by omega)).trans ((dif_pos (by omega)).trans ?_))
  exact congr (congrArg _ (row_pt t j a)) (Fin.ext (by
    show 2584 + ((col (pt t j) b).val - 2560) = 2584 + ((j - 5) * 512 + b.val)
    omega))

/-- The product block of a row block's last point is the gates, and zeros. -/
theorem dot_gate (t : Fin cfg0.N) (a : Fin 1024) (b : Fin 512) :
    dot (iblk m c 0 (pt t 13)) (iblk m c 1 (pt t 13)) a b =
      if h : b.val < 24 then ref m c (row t a) ⟨2560 + b.val, by omega⟩ else 0 := by
  have hc := col_pt t 13 le_rfl b
  refine (dot_blk m c (pt t 13) a b).trans ((dif_neg (by omega)).trans ((dif_neg (by omega)).trans ?_))
  by_cases h : b.val < 24
  · rw [dif_pos h]
    refine (dif_pos (by omega)).trans ?_
    exact congr (congrArg _ (row_pt t 13 a)) (Fin.ext (by
      show 2560 + ((col (pt t 13) b).val - 2560 - 4096) = 2560 + b.val
      omega))
  · rw [dif_neg h]
    exact dif_neg (by omega)

/-- The first output is the reference's first columns. -/
theorem arr2 : (dats m 0 c).arrAt 2 cfg0.N = val_main_v2 (F := Ideal) (H m c) (Wi m c) := by
  refine (dats m 0 c).arrAt_eq_of_covers 2 _ (by decide +kernel) fun t hf y => ?_
  blk_simp
  rw [after2 m c t _ rfl]
  refine (prod_at _ _ _).trans ((dot_lo m c t _ (by omega) _ _).trans (Eq.trans ?_ (v2_at m c _).symm))
  refine congr (congrArg _ (Fin.ext ?_)) (Fin.ext ?_)
  · blk_ext [idx t, row]
  · blk_ext [idx t, row]

/-- The second output is the same rounded. -/
theorem arr3 : (dats m 0 c).arrAt 3 cfg0.N = val_main_v5 (F := Ideal) (H m c) (Wi m c) := by
  refine (dats m 0 c).arrAt_eq_of_covers 3 _ (by decide +kernel) fun t hf y => ?_
  blk_simp
  rw [after3 m c t _ rfl]
  refine (round_at _ _ _).trans ((dot_lo m c t _ (by omega) _ _).trans (Eq.trans ?_ (v5r_at m c _).symm))
  refine congr (congrArg _ (Fin.ext ?_)) (Fin.ext ?_)
  · blk_ext [idx t, row]
  · blk_ext [idx t, row]

/-- The third output is the reference's columns past the gates. -/
theorem arr4 : (dats m 0 c).arrAt 4 cfg0.N = val_main_v6 (F := Ideal) (H m c) (Wi m c) := by
  refine (dats m 0 c).arrAt_eq_of_covers 4 _ (by decide +kernel) fun t hf y => ?_
  blk_simp
  rw [after4 m c t _ rfl]
  refine (prod_at _ _ _).trans ((dot_mid m c t _ (by omega) (by omega) _ _).trans (Eq.trans ?_ (v6_at m c _).symm))
  refine congr (congrArg _ (Fin.ext ?_)) (Fin.ext ?_)
  · blk_ext [idx t, row]
  · blk_ext [idx t, row]

/-- The gate output is the reference's gates and zeros. -/
theorem arr5 : (dats m 0 c).arrAt 5 cfg0.N = val_main_v4 (F := Ideal) (H m c) (Wi m c) := by
  refine (dats m 0 c).arrAt_eq_of_covers 5 _ (by decide +kernel) fun t hf y => ?_
  blk_simp
  rw [after5 m c t]
  refine (gate_at _ _ _).trans ((dot_gate m c t _ _).trans (Eq.trans ?_ (v4_at m c _).symm))
  have e : (win0_5.blk t).view.emb y = ValueIdx.ix2 (row t (y 0)) (y 1) := by blk_ext [idx t, row]
  rw [e]

/-- A key-value output is 512 of the reference's columns, each row laid out as four. -/
theorem kv_blk (t : Fin cfg0.N) (j : ℕ) (hj : j ≤ 4) (y : S4096x128.Idx) (i : S65536x128.Idx)
    (h0 : (i 0).val = t.val / 14 * 4096 + (y 0).val) (h1 : (i 1).val = (y 1).val) :
    kvOut (F := Ideal) (iblk m c 0 (pt t j)) (iblk m c 1 (pt t j)) y = kvRef m c (j * 512) (by omega) i := by
  refine (kv_blk_at _ _ _).trans ((dot_lo m c t j hj _ _).trans ?_)
  refine congr (congrArg _ (Fin.ext ?_)) (Fin.ext ?_)
  · show t.val / 14 * 1024 + (y 0).val / 4 = (i 0).val / 4
    omega
  · show j * 512 + ((y 0).val % 4 * 128 + (y 1).val) = j * 512 + ((i 0).val % 4 * 128 + (i 1).val)
    omega

/-- The first key-value output is the reference's. -/
theorem arr6 : (dats m 0 c).arrAt 6 cfg0.N = val_main_v8 (F := Ideal) (H m c) (Wi m c) := by
  refine (dats m 0 c).arrAt_eq_of_covers 6 _ (by decide +kernel) fun t hf y => ?_
  blk_simp
  rw [after6 m c t]
  refine (kv_blk m c t 2 (by omega) _ ((win0_6.blk t).view.emb y) ?_ ?_).trans (v8_at m c _).symm
  all_goals blk_ext [idx t]

/-- The second key-value output is the reference's. -/
theorem arr7 : (dats m 0 c).arrAt 7 cfg0.N = val_main_v10 (F := Ideal) (H m c) (Wi m c) := by
  refine (dats m 0 c).arrAt_eq_of_covers 7 _ (by decide +kernel) fun t hf y => ?_
  blk_simp
  rw [after7 m c t]
  refine (kv_blk m c t 3 (by omega) _ ((win0_7.blk t).view.emb y) ?_ ?_).trans (v10_at m c _).symm
  all_goals blk_ext [idx t]

/-- The third key-value output is the reference's. -/
theorem arr8 : (dats m 0 c).arrAt 8 cfg0.N = val_main_v12 (F := Ideal) (H m c) (Wi m c) := by
  refine (dats m 0 c).arrAt_eq_of_covers 8 _ (by decide +kernel) fun t hf y => ?_
  blk_simp
  rw [after8 m c t]
  refine (kv_blk m c t 4 (by omega) _ ((win0_8.blk t).view.emb y) ?_ ?_).trans (v12_at m c _).symm
  all_goals blk_ext [idx t]

end Cert.InProjIdeal.Val

end
-- ==== Proof.InProj.Claim.lean ====
/- The in-projection's claims. -/
module

public import proofs.«01_k».proof.Defs
public import proofs.«01_k».proof.Proof.InProj.Frame
public import proofs.«01_k».proof.Proof.InProj.Value
public import proofs.«01_k».proof.Proof.Gen.InProjRefIdeal.Run

@[expose] public section

noncomputable section

open Idealize.ShloMosaic Idealize.SL.Sem

namespace Cert.Proof

/-- The in-projection's kernel runs to the end, leaves its arguments alone and its counters at zero. -/
theorem inProj_frame : Cert.quiescent_InProj (hInProj := Cert.InProj.Gen.facts) :=
  Cert.InProj.Steps.frame

/-- So does its idealization. -/
theorem inProjIdeal_frame : Cert.quiescent_InProjIdeal (hInProjIdeal := Cert.InProjIdeal.Gen.facts) :=
  fun m ρ _ => Cert.InProjIdeal.Steps.frame_run m ρ

/-- So does the reference. -/
theorem inProjRef_frame : Cert.quiescent_InProjRefIdeal (hInProjRefIdeal := Cert.InProjRefIdeal.Gen.facts) :=
  fun m ρ _ => (θ_run Cert.InProjRefIdeal.defs _ _).mono
    (fun r h => ⟨fun c => (h c).2.2.2.2.2.2.2, Idealize.ShloMosaic.sem_eq_zero_of_no_sems (by decide) r.2⟩)
    (Cert.InProjRefIdeal.Value.run (F := Ideal) m ρ)

open Cert.InProjIdeal.Steps Cert.InProjIdeal.Val Cert.InProjRefIdeal.Read in
/-- Over the extended reals the in-projection's kernel and the reference end with the same seven results. -/
theorem inProj_algebraic : Cert.algebraic_InProjIdeal_InProjRefIdeal (hInProjIdeal := Cert.InProjIdeal.Gen.facts)
    (hInProjRefIdeal := Cert.InProjRefIdeal.Gen.facts) := by
  intro m ρ m' ρ' _ hagree
  refine ⟨fun c => (dats m 0 c).arrAt 2 Cert.InProjIdeal.cfg0.N, fun c => (dats m 0 c).arrAt 3 Cert.InProjIdeal.cfg0.N,
    fun c => (dats m 0 c).arrAt 4 Cert.InProjIdeal.cfg0.N, fun c => (dats m 0 c).arrAt 5 Cert.InProjIdeal.cfg0.N,
    fun c => (dats m 0 c).arrAt 6 Cert.InProjIdeal.cfg0.N, fun c => (dats m 0 c).arrAt 7 Cert.InProjIdeal.cfg0.N,
    fun c => (dats m 0 c).arrAt 8 Cert.InProjIdeal.cfg0.N,
    (θ_run Cert.InProjIdeal.defs _ _).mono (fun r h c => ⟨(h.1 c).1 2, (h.1 c).1 3, (h.1 c).1 4, (h.1 c).1 5,
      (h.1 c).1 6, (h.1 c).1 7, (h.1 c).1 8, operands_kept m r h.1 c⟩) (run_quiescent m ρ),
    (θ_run Cert.InProjRefIdeal.defs _ _).mono (fun r h c => ?_) (Cert.InProjRefIdeal.Value.run (F := Ideal) m' ρ')⟩
  obtain ⟨r2, r5, r6, r4, r8, r10, r12, kept⟩ := h c
  obtain ⟨h0, h1⟩ := hagree c
  rw [h0, h1] at r2 r5 r6 r4 r8 r10 r12
  exact ⟨r2.trans ((val_main_v2_eq _ _).trans (arr2 m c).symm), r5.trans ((val_main_v5_eq _ _).trans (arr3 m c).symm),
    r6.trans ((val_main_v6_eq _ _).trans (arr4 m c).symm), r4.trans ((val_main_v4_eq _ _).trans (arr5 m c).symm),
    r8.trans ((val_main_v8_eq _ _).trans (arr6 m c).symm), r10.trans ((val_main_v10_eq _ _).trans (arr7 m c).symm),
    r12.trans ((val_main_v12_eq _ _).trans (arr8 m c).symm), kept⟩

end Cert.Proof

end
-- ==== Proof.Cmp.FrameIdeal.lean ====
/-
  The block summaries' pipelined call as a run of its grid: what each window holds after every grid point, what the
  scratch holds between the points, why the body keeps that, and what the run therefore leaves in memory. Point t of
  the 8 is sequence t / 4 and row block t % 4; the scratch gathers the half products of the sequence's four row blocks
  and the last of them stores the sequence's summaries.
-/
module

public import proofs.«01_k».proof.Proof.Gen.CmpIdeal.Launch
public import proofs.«01_k».proof.Proof.Gen.CmpIdeal.Skeleton
public import proofs.«01_k».proof.Proof.Gen.CmpIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.CmpIdeal.Steps

open Cert.CmpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipelined call -/

/-- What every buffer holds when the pipelined call starts: the weights have been laid out and rounded, all else is
    as launched. -/
abbrev V (c : Dev nD) (b : Ref sig .tc) : Buf (Elt F) ((c : Thread nD τ).loc b) :=
  StableHlo.after hostOps0 (fun b => m (c, b)) b

/-- The layout of the weights draws no fresh buffer. -/
theorem fresh_layout : (hostOps0 : List (HloOp τ sig (Elt F))).Forall fun op => op.fresh = ∅ := by
  simp only [List.Forall]; repeat' constructor

/-- The program is its weight layout followed by the pipelined call. -/
theorem upto_call (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0]
    (by simp only [List.Forall]; exact hostOps0_sub) (by simp only [List.Forall]; exact fresh_layout) main_chain

/-- The layout leaves alone every buffer it does not make. -/
theorem V_kept (c : Dev nD) (b : Ref sig .tc)
    (h : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2⟩))

/-- Window w's block of its array at point t. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What a point computes -/

/-- The rows r, r + 16, r + 32, … of a block of 2048. -/
def rows (r : Fin 16) : LoadRect S2048x128 :=
  ⟨![r.val, 0], S128x128.size, ![16, 1], fun a => by
    match a with
    | ⟨0, _⟩ => exact .inr (show r.val + 16 * 127 < 2048 by omega)
    | ⟨1, _⟩ => exact .inr (show 0 + 1 * 127 < 128 by omega)⟩

/-- Every sixteenth row of a block, from row r on. -/
def every (x : Vec F S2048x128 .f32) (r : Fin 16) : Vec F S128x128 .f32 := fun y => x ((rows r).idx y)

/-- Where the weight of place r inside a segment lies, for the keys (0) or the values (1). -/
def place (k : Fin 2) (r : Fin 16) : Rect S2x16x128x256 :=
  Rect.unit (s := S2x16x128x256) ![k.val, r.val, 0, 0] S1x1x128x256.size fun a => by
    match a with
    | ⟨0, _⟩ => show k.val + 1 ≤ 2; omega
    | ⟨1, _⟩ => show r.val + 1 ≤ 16; omega
    | ⟨2, _⟩ => show 0 + 128 ≤ 128; omega
    | ⟨3, _⟩ => show 0 + 256 ≤ 256; omega

/-- The weight of place r inside a segment. -/
abbrev wt (w : Vec F S2x16x128x256 .bf16) (k : Fin 2) (r : Fin 16) : Vec F S1x1x128x256 .bf16 := View.ld w (place k r)

/-- The keys' products of the places 0 to 12, summed. -/
def keySum (x0 x1 : Vec F S2048x128 .f32) (w : Vec F S2x16x128x256 .bf16) : FVec F S256x256 .f32 :=
  k0_pay18
    (k0_pay17
      (k0_pay14
        (k0_pay13 (every x0 0) (every x1 0) (wt w 0 0) (every x0 1) (every x1 1) (wt w 0 1)
          (every x0 2) (every x1 2) (wt w 0 2))
        (every x0 3) (every x1 3) (wt w 0 3) (every x0 4) (every x1 4) (wt w 0 4) (every x0 5) (every x1 5) (wt w 0 5))
      (k0_pay15 (every x0 6) (every x1 6)) (k0_pay16 (wt w 0 6))
      (every x0 7) (every x1 7) (wt w 0 7) (every x0 8) (every x1 8) (wt w 0 8) (every x0 9) (every x1 9) (wt w 0 9))
    (every x0 10) (every x1 10) (wt w 0 10) (every x0 11) (every x1 11) (wt w 0 11)
    (every x0 12) (every x1 12) (wt w 0 12)

/-- What a point stores for the keys' first head: all sixteen places' products, summed. -/
def key0 (x0 x1 : Vec F S2048x128 .f32) (w : Vec F S2x16x128x256 .bf16) : Vec F S1x128x256 .f32 :=
  k0_pay22 (keySum x0 x1 w) (k0_pay19 (every x0 13) (every x1 13)) (k0_pay20 (wt w 0 13))
    (constant S256x256 .f32 0x00000000#32) (every x0 14) (every x1 14) (wt w 0 14) (every x0 15) (every x1 15) (wt w 0 15)

/-- The same for the keys' second head. -/
def key1 (x0 x1 : Vec F S2048x128 .f32) (w : Vec F S2x16x128x256 .bf16) : Vec F S1x128x256 .f32 :=
  k0_pay23 (keySum x0 x1 w) (k0_pay19 (every x0 13) (every x1 13)) (k0_pay20 (wt w 0 13))
    (constant S256x256 .f32 0x00000000#32) (every x0 14) (every x1 14) (wt w 0 14) (every x0 15) (every x1 15) (wt w 0 15)

/-- The values' products of the places 0 to 13, summed. -/
def valSum (x2 x3 : Vec F S2048x128 .f32) (w : Vec F S2x16x128x256 .bf16) : FVec F S256x256 .f32 :=
  k0_pay29
    (k0_pay28
      (k0_pay26
        (k0_pay25 (k0_pay24 (every x2 0) (every x3 0)) (wt w 1 0) (every x2 1) (every x3 1) (wt w 1 1)
          (every x2 2) (every x3 2) (wt w 1 2) (every x2 3) (every x3 3) (wt w 1 3))
        (every x2 4) (every x3 4) (wt w 1 4) (every x2 5) (every x3 5) (wt w 1 5) (every x2 6) (every x3 6) (wt w 1 6))
      (k0_pay27 (every x2 7) (every x3 7)) (wt w 1 7)
      (every x2 8) (every x3 8) (wt w 1 8) (every x2 9) (every x3 9) (wt w 1 9) (every x2 10) (every x3 10) (wt w 1 10))
    (every x2 11) (every x3 11) (wt w 1 11) (every x2 12) (every x3 12) (wt w 1 12)
    (every x2 13) (every x3 13) (wt w 1 13)

/-- What a point stores for the values' first head. -/
def val0 (x2 x3 : Vec F S2048x128 .f32) (w : Vec F S2x16x128x256 .bf16) : Vec F S1x128x256 .f32 :=
  k0_pay2 (valSum x2 x3 w) (k0_pay30 (every x2 14) (every x3 14)) (wt w 1 14) (every x2 15) (every x3 15) (wt w 1 15)

/-- What a point stores for the values' second head. -/
def val1 (x2 x3 : Vec F S2048x128 .f32) (w : Vec F S2x16x128x256 .bf16) : Vec F S1x128x256 .f32 :=
  k0_pay3 (valSum x2 x3 w) (k0_pay30 (every x2 14) (every x3 14)) (wt w 1 14) (every x2 15) (every x3 15) (wt w 1 15)

/-- The four stores of a point into the scratch, the last first. -/
def slices (i : grid0.Coords) (x0 x1 x2 x3 : Vec F S2048x128 .f32) (w : Vec F S2x16x128x256 .bf16) :
    List (View.Piece (Elt F) S4x512x256 .f32) :=
  [⟨Rect.unit (s := S4x512x256) (k0_off4 i) S1x128x256.size (k0_off4_inb i), val1 x2 x3 w⟩,
    ⟨Rect.unit (s := S4x512x256) (k0_off3 i) S1x128x256.size (k0_off3_inb i), val0 x2 x3 w⟩,
    ⟨Rect.unit (s := S4x512x256) (k0_off2 i) S1x128x256.size (k0_off2_inb i), key1 x0 x1 w⟩,
    ⟨Rect.unit (s := S4x512x256) (k0_off1 i) S1x128x256.size (k0_off1_inb i), key0 x0 x1 w⟩]

/-- What the scratch holds once the writes L have gone over contents d. -/
def Over (L : List (View.Piece (Elt F) S4x512x256 .f32)) (d d' : Vec F S4x512x256 .f32) : Prop :=
  (∀ y, (∃ p ∈ L, y ∈ p.1.set) → d' y = View.canon L y) ∧ ∀ y, (∀ p ∈ L, y ∉ p.1.set) → d' y = d y

/-- The segments' half products of one head: as their segment's own (0) or as the one before's (1). -/
def side (q : Fin 4) (h : Fin 2) : Rect S4x512x256 :=
  Rect.unit (s := S4x512x256) ![q.val, 0, 128 * h.val] S1x512x128.size fun a => by
    match a with
    | ⟨0, _⟩ => show q.val + 1 ≤ 4; omega
    | ⟨1, _⟩ => show 0 + 512 ≤ 512; omega
    | ⟨2, _⟩ => show 128 * h.val + 128 ≤ 256; omega

/-- The bias of the keys (0) or the values (1). -/
def biasOf (k : Fin 2) : Rect S2x1x128 :=
  Rect.unit (s := S2x1x128) ![k.val, 0, 0] S1x1x128.size fun a => by
    match a with
    | ⟨0, _⟩ => show k.val + 1 ≤ 2; omega
    | ⟨1, _⟩ => show 0 + 1 ≤ 1; omega
    | ⟨2, _⟩ => show 0 + 128 ≤ 128; omega

/-- The second weight of the keys (0) or the values (1). -/
def secondOf (k : Fin 2) : Rect S2x128x128 :=
  Rect.unit (s := S2x128x128) ![k.val, 0, 0] S1x128x128.size fun a => by
    match a with
    | ⟨0, _⟩ => show k.val + 1 ≤ 2; omega
    | ⟨1, _⟩ => show 0 + 128 ≤ 128; omega
    | ⟨2, _⟩ => show 0 + 128 ≤ 128; omega

/-- The summaries of one head, in a sequence's block of them. -/
def headOf (q : Fin 4) : Rect S1x4x512x128 :=
  Rect.unit (s := S1x4x512x128) ![0, q.val, 0, 0] S1x1x512x128.size fun a => by
    match a with
    | ⟨0, _⟩ => show 0 + 1 ≤ 1; omega
    | ⟨1, _⟩ => show q.val + 1 ≤ 4; omega
    | ⟨2, _⟩ => show 0 + 512 ≤ 512; omega
    | ⟨3, _⟩ => show 0 + 128 ≤ 128; omega

/-- A sequence's summaries, from its half products, the biases and the second weights. -/
def summaries (d : Vec F S4x512x256 .f32) (b : Vec F S2x1x128 .f32) (w : Vec F S2x128x128 .bf16) :
    List (View.Piece (Elt F) S1x4x512x128 .bf16) :=
  [⟨headOf 3, k0_pay12 k0_pay4 (View.ld d (side 3 0)) (View.ld d (side 3 1)) (View.ld b (biasOf 1)) (View.ld w (secondOf 1))⟩,
    ⟨headOf 2, k0_pay11 k0_pay4 (k0_pay9 (View.ld d (side 2 0)) (View.ld d (side 2 1)) (View.ld b (biasOf 1)))
      (k0_pay10 (View.ld w (secondOf 1)))⟩,
    ⟨headOf 1, k0_pay8 k0_pay4 (k0_pay6 (View.ld d (side 1 0))) (k0_pay7 (View.ld d (side 1 1))) (View.ld b (biasOf 0))
      (View.ld w (secondOf 0))⟩,
    ⟨headOf 0, k0_pay5 (View.ld d (side 0 0)) (View.ld d (side 0 1)) (View.ld b (biasOf 0)) (View.ld w (secondOf 0))⟩]

/-- The four heads' stores cover a sequence's block. -/
theorem summaries_cover (d : Vec F S4x512x256 .f32) (b : Vec F S2x1x128 .f32) (w : Vec F S2x128x128 .bf16)
    (y : S1x4x512x128.Idx) : ∃ p ∈ summaries d b w, y ∈ p.1.set := by
  have mem : ∀ q : Fin 4, (y 1).val = q.val → y ∈ (headOf q).set := fun q h => Rect.mem_set_unit.mpr fun a => by
    have h0 : (y 0).val < 1 := (y 0).isLt
    have h2 : (y 2).val < 512 := (y 2).isLt
    have h3 : (y 3).val < 128 := (y 3).isLt
    match a with
    | ⟨0, _⟩ => show 0 ≤ (y 0).val ∧ (y 0).val < 0 + 1; omega
    | ⟨1, _⟩ => show q.val ≤ (y 1).val ∧ (y 1).val < q.val + 1; omega
    | ⟨2, _⟩ => show 0 ≤ (y 2).val ∧ (y 2).val < 0 + 512; omega
    | ⟨3, _⟩ => show 0 ≤ (y 3).val ∧ (y 3).val < 0 + 128; omega
  have h1 : (y 1).val < 4 := (y 1).isLt
  have h : (y 1).val = 3 ∨ (y 1).val = 2 ∨ (y 1).val = 1 ∨ (y 1).val = 0 := by omega
  unfold summaries
  rcases h with h | h | h | h
  · exact ⟨⟨headOf 3, _⟩, .head _, mem 3 h⟩
  · exact ⟨⟨headOf 2, _⟩, .tail _ (.head _), mem 2 h⟩
  · exact ⟨⟨headOf 1, _⟩, .tail _ (.tail _ (.head _)), mem 1 h⟩
  · exact ⟨⟨headOf 0, _⟩, .tail _ (.tail _ (.tail _ (.head _))), mem 0 h⟩

/-! ## The body -/

section Body

variable (c : Dev nD) (E : Set ℕ) (i : grid0.Coords)
    (arg2 : Memref sig .tc .vmem S2048x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S2x16x128x256 .bf16) (harg6 : arg6.IsWhole)
    (arg7 : Memref sig .tc .vmem S2x1x128 .f32) (harg7 : arg7.IsWhole)
    (arg8 : Memref sig .tc .vmem S2x128x128 .bf16) (harg8 : arg8.IsWhole)
    (arg9 : Memref sig .tc .vmem S1x4x512x128 .bf16) (harg9 : arg9.IsWhole)
    (arg10 : Memref sig .tc .vmem S4x512x256 .f32) (harg10 : arg10.IsWhole)
    (x0 x1 x2 x3 : Vec F S2048x128 .f32) (x4 : Vec F S2x16x128x256 .bf16) (x5 : Vec F S2x1x128 .f32)
    (x6 : Vec F S2x128x128 .bf16) (d : Vec F S4x512x256 .f32)

/-- A buffer held whole is owned at what it reads. -/
theorem owned {s : Shape} {e : EltTy} (a : Memref sig .tc .vmem s e) (f : a.view.ty.Contents (Elt F)) :
    (a.view.loc (c : Thread nD τ) ↦[a.view.set]{fullShare} f : sProp 𝕄)
      ⊢ iprop(∃ f', ⌜a.view.read (Elt F) f' = a.view.read (Elt F) f⌝
          ∗ a.view.loc (c : Thread nD τ) ↦[a.view.set]{fullShare} f') := by
  iintro H
  iexists f
  isplitr
  · ipureintro; rfl
  iexact H

/-- A scratch written over is owned at contents that are the writes where they reach and the old elsewhere. -/
theorem written (L : List (View.Piece (Elt F) S4x512x256 .f32)) (f : arg10.view.ty.Contents (Elt F)) :
    (arg10.view.loc (c : Thread nD τ) ↦[arg10.view.set]{fullShare} arg10.view.writes (Elt F) f L : sProp 𝕄)
      ⊢ iprop(∃ d', ⌜Over L (arg10.view.read (Elt F) f) d'⌝ ∗ owns (c : Thread nD τ) arg10 fullShare d') := by
  unfold owns
  iintro H
  iexists _
  isplitr
  swap
  · iapply (owned c arg10); iexact H
  ipureintro
  exact ⟨fun y h => View.read_writes_apply_eq_canon _ _ y L h, fun y h => View.read_writes_apply_of_forall_not_mem _ _ y L h⟩

set_option maxHeartbeats 4000000 in
/-- Before a sequence's last row block the point stores its half products into the scratch. -/
theorem body_mid (K : PUnit → sProp 𝕄) (h1 : ¬ k0_cond1 i = 1#1) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg10 fullShare d
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d', ⌜Over (slices i x0 x1 x2 x3 x4) d d'⌝ ∗ owns (c : Thread nD τ) arg10 fullShare d')) -∗ K ⟨⟩))
      ⊢ wp frame (wpE (defs₀ (F := F)) Variants.none c none) E
          (cc0_cmp_mlp_prompt i arg2 harg2 arg3 harg3 arg4 harg4 arg5 harg5 arg6 harg6 arg7 harg7 arg8 harg8 arg9 harg9 arg10 harg10) K := by
  simp only [cc0_cmp_mlp_prompt_eq_skeleton]; unfold cc0_cmp_mlp_prompt_skel
  simp only [k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton]
  unfold k0_part4_skel k0_part5_skel k0_part6_skel k0_part7_skel k0_part8_skel k0_part9_skel k0_part10_skel k0_part11_skel
    k0_part12_skel
  unfold owns
  iintro ⟨⟨%f0, %hf0, H0⟩, ⟨%f1, %hf1, H1⟩, ⟨%f2, %hf2, H2⟩, ⟨%f3, %hf3, H3⟩, ⟨%f4, %hf4, H4⟩, ⟨%g, %hg, G⟩, Hk⟩
  subst hf0 hf1 hf2 hf3 hf4 hg
  sl_exec (disch := first | sl_exact h1)
  sl_step
  iapply Hk
  isplitl [H0]; · iapply (owned c arg2); iexact H0
  isplitl [H1]; · iapply (owned c arg3); iexact H1
  isplitl [H2]; · iapply (owned c arg4); iexact H2
  isplitl [H3]; · iapply (owned c arg5); iexact H3
  isplitl [H4]; · iapply (owned c arg6); iexact H4
  iapply (written c arg10 (slices i (arg2.view.read (Elt F) f0) (arg3.view.read (Elt F) f1) (arg4.view.read (Elt F) f2)
    (arg5.view.read (Elt F) f3) (arg6.view.read (Elt F) f4)) g)
  iexact G

set_option maxHeartbeats 4000000 in
/-- At a sequence's last row block it does so too, and stores the sequence's summaries from what the scratch then holds. -/
theorem body_last (K : PUnit → sProp 𝕄) (h1 : k0_cond1 i = 1#1) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ owns (c : Thread nD τ) arg10 fullShare d
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d', ⌜Over (slices i x0 x1 x2 x3 x4) d d'⌝ ∗ owns (c : Thread nD τ) arg10 fullShare d'
              ∗ owns (c : Thread nD τ) arg9 fullShare (View.canon (summaries d' x5 x6)))) -∗ K ⟨⟩))
      ⊢ wp frame (wpE (defs₀ (F := F)) Variants.none c none) E
          (cc0_cmp_mlp_prompt i arg2 harg2 arg3 harg3 arg4 harg4 arg5 harg5 arg6 harg6 arg7 harg7 arg8 harg8 arg9 harg9 arg10 harg10) K := by
  simp only [cc0_cmp_mlp_prompt_eq_skeleton]; unfold cc0_cmp_mlp_prompt_skel
  simp only [k0_part1_eq_skeleton, k0_part2_eq_skeleton, k0_part3_eq_skeleton, k0_part4_eq_skeleton, k0_part5_eq_skeleton,
    k0_part6_eq_skeleton, k0_part7_eq_skeleton, k0_part8_eq_skeleton,
    k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%e, %o, -, O⟩, ⟨%g, %hg, G⟩, Hk⟩
  subst hf0 hf1 hf2 hf3 hf4 hf5 hf6 hg
  sl_exec (disch := first | sl_exact h1)
  sl_step
  iapply Hk
  isplitl [H0]; · iapply (owned c arg2); iexact H0
  isplitl [H1]; · iapply (owned c arg3); iexact H1
  isplitl [H2]; · iapply (owned c arg4); iexact H2
  isplitl [H3]; · iapply (owned c arg5); iexact H3
  isplitl [H4]; · iapply (owned c arg6); iexact H4
  isplitl [H5]; · iapply (owned c arg7); iexact H5
  isplitl [H6]; · iapply (owned c arg8); iexact H6
  iexists (arg10.view.read (Elt F) (arg10.view.writes (Elt F) g (slices i (arg2.view.read (Elt F) f0)
    (arg3.view.read (Elt F) f1) (arg4.view.read (Elt F) f2) (arg5.view.read (Elt F) f3) (arg6.view.read (Elt F) f4))))
  isplitr
  · ipureintro
    exact ⟨fun y h => View.read_writes_apply_eq_canon _ _ y _ h,
      fun y h => View.read_writes_apply_of_forall_not_mem _ _ y _ h⟩
  isplitl [G]
  · iapply (owned c arg10); iexact G
  iexists _; isplitr
  swap; · iexact O
  ipureintro
  exact View.read_writes_eq_canon _ _ _ (summaries_cover _ _ _)

end Body

/-! ## What the windows and the scratch hold -/

/-- The point of sequence s and row block j. -/
def pt (s j : ℕ) : Fin cfg0.N := ⟨4 * min s 1 + min j 3, by have hN : cfg0.N = 8 := N_0; omega⟩

/-- Every point is its sequence's and row block's. -/
theorem pt_self (t : Fin cfg0.N) : pt (t.val / 4) (t.val % 4) = t :=
  Fin.ext (by
    have h := t.isLt
    have hN : cfg0.N = 8 := N_0
    show 4 * min (t.val / 4) 1 + min (t.val % 4) 3 = t.val; omega)

/-- What point t stores into the scratch. -/
def stores (c : Dev nD) (t : Fin cfg0.N) : List (View.Piece (Elt F) S4x512x256 .f32) :=
  slices (grid0.coords t) (iblk m c 0 t) (iblk m c 1 t) (iblk m c 2 t) (iblk m c 3 t) (iblk m c 4 t)

/-- A sequence's half products: each row's is what the point of its row block stores. -/
def halves (c : Dev nD) (s : ℕ) : Vec F S4x512x256 .f32 :=
  fun y => View.canon (stores m c (pt s ((y 1).val / 128))) y

/-- Where the four stores of a point start: head by head, at the row block's first row. -/
theorem starts : ∀ t : Fin cfg0.N, k0_off1 (grid0.coords t) = ![0, 128 * (t.val % 4), 0]
    ∧ k0_off2 (grid0.coords t) = ![1, 128 * (t.val % 4), 0] ∧ k0_off3 (grid0.coords t) = ![2, 128 * (t.val % 4), 0]
    ∧ k0_off4 (grid0.coords t) = ![3, 128 * (t.val % 4), 0] :=
  (by decide +kernel : ∀ t : Fin grid0.N, k0_off1 (grid0.coords t) = ![0, 128 * (t.val % 4), 0]
    ∧ k0_off2 (grid0.coords t) = ![1, 128 * (t.val % 4), 0] ∧ k0_off3 (grid0.coords t) = ![2, 128 * (t.val % 4), 0]
    ∧ k0_off4 (grid0.coords t) = ![3, 128 * (t.val % 4), 0])

/-- A store of one head's row block reaches exactly that head's rows of it. -/
theorem mem_slice (off : Fin 3 → ℕ) (inb : ∀ a, off a + S1x128x256.size a ≤ S4x512x256.size a) (q j : ℕ)
    (h : off = ![q, 128 * j, 0]) (y : S4x512x256.Idx) :
    y ∈ (Rect.unit (s := S4x512x256) off S1x128x256.size inb).set ↔ (y 0).val = q ∧ (y 1).val / 128 = j := by
  subst h
  have h2 : (y 2).val < 256 := (y 2).isLt
  refine Rect.mem_set_unit.trans ⟨fun h => ?_, fun h a => ?_⟩
  · have a0 : q ≤ (y 0).val ∧ (y 0).val < q + 1 := h 0
    have a1 : 128 * j ≤ (y 1).val ∧ (y 1).val < 128 * j + 128 := h 1
    omega
  · match a with
    | ⟨0, _⟩ => show q ≤ (y 0).val ∧ (y 0).val < q + 1; omega
    | ⟨1, _⟩ => show 128 * j ≤ (y 1).val ∧ (y 1).val < 128 * j + 128; omega
    | ⟨2, _⟩ => show 0 ≤ (y 2).val ∧ (y 2).val < 0 + 256; omega

/-- The four stores of a point reach every row of its row block … -/
theorem stores_cover (c : Dev nD) (t : Fin cfg0.N) (y : S4x512x256.Idx) (h : (y 1).val / 128 = t.val % 4) :
    ∃ p ∈ stores m c t, y ∈ p.1.set := by
  obtain ⟨o1, o2, o3, o4⟩ := starts t
  have h0 : (y 0).val < 4 := (y 0).isLt
  have h' : (y 0).val = 3 ∨ (y 0).val = 2 ∨ (y 0).val = 1 ∨ (y 0).val = 0 := by omega
  rcases h' with h' | h' | h' | h'
  · exact ⟨⟨Rect.unit _ _ _, _⟩, .head _, (mem_slice _ (k0_off4_inb _) _ _ o4 y).mpr ⟨h', h⟩⟩
  · exact ⟨⟨Rect.unit _ _ _, _⟩, .tail _ (.head _), (mem_slice _ (k0_off3_inb _) _ _ o3 y).mpr ⟨h', h⟩⟩
  · exact ⟨⟨Rect.unit _ _ _, _⟩, .tail _ (.tail _ (.head _)), (mem_slice _ (k0_off2_inb _) _ _ o2 y).mpr ⟨h', h⟩⟩
  · exact ⟨⟨Rect.unit _ _ _, _⟩, .tail _ (.tail _ (.tail _ (.head _))), (mem_slice _ (k0_off1_inb _) _ _ o1 y).mpr ⟨h', h⟩⟩

/-- … and no other. -/
theorem stores_miss (c : Dev nD) (t : Fin cfg0.N) (y : S4x512x256.Idx) (h : (y 1).val / 128 ≠ t.val % 4) :
    ∀ p ∈ stores m c t, y ∉ p.1.set := by
  obtain ⟨o1, o2, o3, o4⟩ := starts t
  intro p hp
  unfold stores slices at hp
  simp only [List.mem_cons, List.not_mem_nil, or_false] at hp
  rcases hp with rfl | rfl | rfl | rfl
  · exact fun hy => h ((mem_slice _ (k0_off4_inb _) _ _ o4 y).mp hy).2
  · exact fun hy => h ((mem_slice _ (k0_off3_inb _) _ _ o3 y).mp hy).2
  · exact fun hy => h ((mem_slice _ (k0_off2_inb _) _ _ o2 y).mp hy).2
  · exact fun hy => h ((mem_slice _ (k0_off1_inb _) _ _ o1 y).mp hy).2

/-- The scratch holds the half products of the sequence's first j row blocks. -/
def Filled (c : Dev nD) (s j : ℕ) (d : Vec F S4x512x256 .f32) : Prop :=
  ∀ y : S4x512x256.Idx, (y 1).val < 128 * j → d y = halves m c s y

/-- A point fills its own row block, the ones before staying filled. -/
theorem filled_step (c : Dev nD) (t : Fin cfg0.N) (d d' : Vec F S4x512x256 .f32) (h : Filled m c (t.val / 4) (t.val % 4) d)
    (ho : Over (stores m c t) d d') : Filled m c (t.val / 4) (t.val % 4 + 1) d' := fun y hy => by
  by_cases hj : (y 1).val / 128 = t.val % 4
  · rw [ho.1 y (stores_cover m c t y hj)]
    unfold halves
    rw [hj, pt_self]
  · rw [ho.2 y (stores_miss m c t y hj)]
    exact h y (by omega)

/-- Filled by all four row blocks, the scratch is the sequence's half products. -/
theorem filled_all (c : Dev nD) (s : ℕ) (d : Vec F S4x512x256 .f32) (h : Filled m c s 4 d) : d = halves m c s :=
  funext fun y => h y (by have : (y 1).val < 512 := (y 1).isLt; omega)

/-- The scratch as a whole buffer. -/
abbrev scr : Memref sig .tc .vmem S4x512x256 .f32 := Memref.whole cc0_scratch0

/-- Before point n the scratch holds the half products of the row blocks of n's sequence that are done. -/
def inv (c : Dev nD) (n : ℕ) : sProp 𝕄 :=
  iprop((∃ d, ⌜Filled m c (n / 4) (n % 4) d⌝ ∗ owns (c : Thread nD τ) scr fullShare d) ∗ (∃ r, prngReg c r))

/-- What the launch hands the call and takes back: the scratch at any contents. -/
theorem launch_inv (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What every window holds after point t: the inputs' blocks, and the output its sequence's summaries. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (summaries (halves m c (t.val / 4)) (iblk m c 5 t) (iblk m c 6 t))
  Φ t := inv m c t.val
  q w := Pipeline.shareOf spec0 w
  owed _ := 0

/-- The windows' arrays are what the call finds. -/
theorem A_eq (c : Dev nD) (w : Fin cfg0.W) : (dats m 0 c).A w = V m c (Pipeline.arrRef spec0 w) := by
  dsimp only [dats]

/-- What each window holds after a point, one by one. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = View.canon (summaries (halves m c (t.val / 4)) (iblk m c 5 t) (iblk m c 6 t)) := by dsimp only [dats]

/-- The body finds each input window's block of the point, fetched there or before. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-! ## The body at a point -/

/-- The branch is taken at a sequence's last row block, where alone the output is stored and written back. -/
theorem last_block : ∀ t : Fin cfg0.N, k0_cond1 (grid0.coords t) = 1#1 ↔ t.val % 4 = 3 :=
  (by decide +kernel : ∀ t : Fin grid0.N, k0_cond1 (grid0.coords t) = 1#1 ↔ t.val % 4 = 3)
theorem idle_out : ∀ t : Fin cfg0.N, cfg0.idle 7 (cfg0.grid.coords t) = decide (t.val % 4 ≠ 3) :=
  (by decide +kernel : ∀ t : Fin grid0.N, idle0 7 (grid0.coords t) = decide (t.val % 4 ≠ 3))

/-- A window the body uses is handed back at what the point leaves. -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A point before a sequence's last leaves the invariant of the next. -/
theorem inv_mid (c : Dev nD) (t : Fin cfg0.N) (h : t.val % 4 ≠ 3) (d' : Vec F S4x512x256 .f32)
    (hd : Filled m c (t.val / 4) (t.val % 4 + 1) d') : Filled m c ((t.val + 1) / 4) ((t.val + 1) % 4) d' := by
  rw [show (t.val + 1) / 4 = t.val / 4 by omega, show (t.val + 1) % 4 = t.val % 4 + 1 by omega]
  exact hd

/-- A sequence's last point leaves the invariant of the next, which asks for nothing. -/
theorem inv_last (c : Dev nD) (t : Fin cfg0.N) (h : t.val % 4 = 3) (d' : Vec F S4x512x256 .f32) :
    Filled m c ((t.val + 1) / 4) ((t.val + 1) % 4) d' := fun y hy => by
  rw [show (t.val + 1) % 4 = 0 by omega] at hy; omega

set_option maxHeartbeats 3200000 in
/-- The body at any point fills its row block of the scratch, and at a sequence's last leaves its summaries. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = inv m c (t.val + 1) from rfl, show (dats m 0 c).Φ t.castSucc = inv m c t.val from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t rfl, leaves_live m c 5 t rfl, leaves_live m c 6 t rfl,
    after0, after1, after2, after3, after4, after5, after6]
  unfold inv
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, H7⟩
  by_cases h : t.val % 4 = 3
  · rw [leaves_live m c 7 t (by rw [idle_out]; simpa using h), after7]
    iapply (body_last c Set.univ (grid0.coords t) _ _ _ _ _ _ _ _ _ _ _ _ _ _ _ _ _ _ (iblk m c 0 t) (iblk m c 1 t)
      (iblk m c 2 t) (iblk m c 3 t) (iblk m c 4 t) (iblk m c 5 t) (iblk m c 6 t) d _ ((last_block t).mpr h))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · icases H7 with ⟨%d7, H7⟩; iexists _; iexact H7
    isplitl [HS]; · iexact HS
    iintro ⟨H0, H1, H2, H3, H4, H5, H6, ⟨%d', %ho, HS, H7⟩⟩
    have hf : d' = halves m c (t.val / 4) :=
      filled_all m c _ d' (by have := filled_step m c t d d' hd ho; rwa [h] at this)
    subst hf
    isplitl [HS Hg]
    · isplitl [HS]
      · iexists (halves m c (t.val / 4)); isplitr; · ipureintro; exact inv_last m c t h _
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 7 t (by rw [idle_out]; simpa using h)
      (by rw [← Bool.not_eq_true]; exact fun hf => h ((flush0_7 t).mp hf))]
    iapply (body_mid c Set.univ (grid0.coords t) _ _ _ _ _ _ _ _ _ _ _ _ _ _ _ _ _ _ (iblk m c 0 t) (iblk m c 1 t)
      (iblk m c 2 t) (iblk m c 3 t) (iblk m c 4 t) d _ (fun h' => h ((last_block t).mp h')))
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%d', %ho, HS⟩⟩
    isplitl [HS Hg]
    · isplitl [HS]
      · iexists d'; isplitr; · ipureintro; exact inv_mid m c t h d' (filled_step m c t d d' hd ho)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body the pipeline calls at point t. -/
theorem body_row (t : Fin cfg0.N) : defs₀ (F := F) .tc cfg0.body (cfg0.bodyArgs t (cfg0.slots t)) = bodyAt0 t := by
  unfold defs₀; rw [Defs.onTc_tc]

/-- The body does at every point what the windows' and the scratch's contents say. -/
theorem body_obligation (c : Dev nD) :
    BodyObligation (dats (F := F) m 0 c) (defs₀ (F := F)) Variants.none () Set.univ := fun t => by
  rw [bigSep_W0, bigSep_W0, body_row]
  exact triple_restated (body_point m c t) rfl .rfl fun _ => .rfl

/-! ## The run -/

/-- The call starts with the scratch at any contents, of which nothing is asked. -/
theorem starts_any (c : Dev nD) : Pipeline.ΦA spec0 c ⊢ (dats m 0 c).Φ 0 := by
  rw [show (dats m 0 c).Φ 0 = inv m c 0 from rfl, launch_inv]
  unfold inv
  iintro ⟨⟨%d, HS⟩, Hg⟩
  isplitl [HS]
  · iexists d; isplitr
    · ipureintro; intro y hy; rw [show 0 % 4 = 0 from rfl] at hy; omega
    iexact HS
  iexact Hg

/-- It hands the scratch back at whatever it then holds. -/
theorem ends_any (c : Dev nD) : (dats m 0 c).Φ (Fin.last cfg0.N) ⊢ Pipeline.ΦA spec0 c := by
  rw [show (dats m 0 c).Φ (Fin.last cfg0.N) = inv m c cfg0.N from rfl, launch_inv]
  unfold inv
  iintro ⟨⟨%d, -, HS⟩, Hg⟩
  isplitl [HS]
  · iexists d; iexact HS
  iexact Hg

set_option backward.isDefEq.respectTransparency.types false in
set_option maxHeartbeats 800000 in
/-- Every run terminates, with every array of the pipeline at what the windows' contents say, every other buffer as
    the call found it, and every counter at zero. -/
theorem run_quiescent :
    θ_run defs (onTc (τ := τ) (main (F := F))) (s₀ m ρ)
      (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := upto_call m Variants.none) (hA := A_eq m) (hin := starts_any m) (hout := ends_any m)

/-- A final state of a run has all four operands as launched. -/
theorem operands_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_kept m c _ (by decide)))),
    ((h c).2 main_arg1 (Pipeline.mem_restRefs_of main_arg1 (by decide) (by decide))).trans (V_kept m c _ (by decide)),
    ((h c).1 5).trans (((dats m 0 c).arrAt_in 5 rfl _).trans ((A_eq m c 5).trans (V_kept m c _ (by decide)))),
    ((h c).2 main_arg3 (Pipeline.mem_restRefs_of main_arg3 (by decide) (by decide))).trans (V_kept m c _ (by decide))⟩

/-- Every run terminates with all four operands as launched and every counter at zero. -/
theorem frame_run :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨operands_kept m r h.1, h.2⟩) (run_quiescent m ρ)

end Cert.CmpIdeal.Steps

end
-- ==== Proof.Cmp.Frame.lean ====
/- The frame of the block summaries' kernel. -/
module

public import proofs.«01_k».proof.Defs
public import proofs.«01_k».proof.Proof.Cmp.FrameIdeal
public import proofs.«01_k».proof.Proof.Gen.Cmp

@[expose] public section

set_option maxRecDepth 16384

open Idealize.ShloMosaic Idealize.SL.Sem

namespace Cert.Cmp.Steps

/-- The kernel and its idealization have the same body, at the compiled values, -/
theorem body_same : @Cmp.defs₀ Bits _ Cmp.Gen.facts = @CmpIdeal.defs₀ Bits _ CmpIdeal.Gen.facts :=
  congrArg Defs.onTc (funext fun l => funext fun a => match l, a with
    | ⟨0, _⟩, (_, _) => by with_unfolding_all rfl)

/-- the same functions, -/
theorem defs_same : @Cmp.defs Bits _ Cmp.Gen.facts = @CmpIdeal.defs Bits _ CmpIdeal.Gen.facts :=
  congrArg (Pipeline.defs (CmpIdeal.pcfgs (F := Bits))) body_same

/-- and the same program. -/
theorem main_same : @Cmp.main Bits _ Cmp.Gen.facts = @CmpIdeal.main Bits _ CmpIdeal.Gen.facts := by
  with_unfolding_all rfl

/-- So its frame is its idealization's, which is proved at any values. -/
theorem frame : Cert.quiescent_Cmp (hCmp := Cert.Cmp.Gen.facts) := fun m ρ _ => by
  rw [defs_same, main_same]
  exact Cert.CmpIdeal.Steps.frame_run (F := Bits) m ρ

end Cert.Cmp.Steps

end
-- ==== Proof.Cmp.Ref.lean ====
/- The block summaries' reference at an entry. -/
module

public import proofs.«01_k».proof.Proof.Gen.CmpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CmpRefIdeal.Val

open Cert.CmpRefIdeal Cert.CmpRefIdeal.Gen Cert.CmpRefIdeal.Read

variable (Z : Vec Ideal S16384x2560 .f32) (W : Vec Ideal S2x32x128x128 .f32) (B : Vec Ideal S2x1x128 .f32) (U : Vec Ideal S2x128x128 .f32)

/-- The array row of place r in segment n of sequence s. -/
def rowOf (s : Fin 2) (n : Fin 512) (r : Fin 16) : Fin 16384 := ⟨8192 * s.val + 16 * n.val + r.val, by omega⟩

/-- The array column of entry d of head k of the keys (0) or the values (1). -/
def colOf (c k : Fin 2) (d : Fin 128) : Fin 2560 := ⟨1024 + 256 * c.val + 128 * k.val + d.val, by omega⟩

/-- A segment's half product: its sixteen rows against the first (0) or second (1) sixteen weights. -/
def seg (s c k : Fin 2) (n : Fin 512) (p : Fin 2) (e : Fin 128) : EReal :=
  ∑ r : Fin 16, ∑ d : Fin 128, Z (ix2 (rowOf s n r) (colOf c k d)) * W (ix4 c ⟨16 * p.val + r.val, by omega⟩ d e)

/-- The rows at an entry. -/
theorem v1_at (s : Fin 2) (n : Fin 512) (r : Fin 16) (c k : Fin 2) (d : Fin 128) :
    val_main_v1 (F := Ideal) Z (ix6 s n r c k d) = Z (ix2 (rowOf s n r) (colOf c k d)) := by
  unfold val_main_v1
  refine (shapeCast_apply _ _ _ (ix2 (rowOf s n r) ⟨256 * c.val + 128 * k.val + d.val, by omega⟩) ?_).trans ?_
  · refine (Shape.rowMajor_val_two _).trans (Eq.trans ?_ (Shape.rowMajor_val_six _).symm)
    show (8192 * s.val + 16 * n.val + r.val) * 512 + (256 * c.val + 128 * k.val + d.val) =
      ((((s.val * 512 + n.val) * 16 + r.val) * 2 + c.val) * 2 + k.val) * 128 + d.val
    omega
  · unfold val_main_v0
    pointwise
    exact congrArg Z (congrArg (ix2 _) (Fin.ext
      (show 1024 + (256 * c.val + 128 * k.val + d.val) = 1024 + 256 * c.val + 128 * k.val + d.val by omega)))

/-- The weights at an entry. -/
theorem v2_at (c p : Fin 2) (r : Fin 16) (d e : Fin 128) :
    val_main_v2 (F := Ideal) W (ix5 c p r d e) = W (ix4 c ⟨16 * p.val + r.val, by omega⟩ d e) := by
  unfold val_main_v2
  refine shapeCast_apply _ _ _ _ ?_
  refine (Shape.rowMajor_val_four _).trans (Eq.trans ?_ (Shape.rowMajor_val_five _).symm)
  show ((c.val * 32 + (16 * p.val + r.val)) * 128 + d.val) * 128 + e.val =
    (((c.val * 2 + p.val) * 16 + r.val) * 128 + d.val) * 128 + e.val
  omega

/-- The half products at an entry. -/
theorem v3_at (c p : Fin 2) (e : Fin 128) (s : Fin 2) (n : Fin 512) (k : Fin 2) :
    val_main_v3 (F := Ideal) Z W (ix6 c p e s n k) = seg Z W s c k n p e := by
  unfold seg
  simp only [← v1_at Z, ← v2_at W]
  unfold val_main_v3
  generalize val_main_v1 (F := Ideal) Z = z
  generalize val_main_v2 (F := Ideal) W = w
  pointwise
  refine Finset.sum_comm.trans (Finset.sum_congr rfl fun r _ => Finset.sum_congr rfl fun d _ => ?_)
  exact mul_comm _ _

/-- The half products laid out by sequence, segment and half. -/
theorem v4_at (s : Fin 2) (n : Fin 512) (p c k : Fin 2) (e : Fin 128) :
    val_main_v4 (F := Ideal) Z W (ix6 s n p c k e) = seg Z W s c k n p e := by
  refine Eq.trans ?_ (v3_at Z W c p e s n k)
  unfold val_main_v4
  generalize val_main_v3 (F := Ideal) Z W = z
  pointwise

/-- A block's segment's own half product. -/
theorem v6_at (s : Fin 2) (n : Fin 511) (c k : Fin 2) (e : Fin 128) :
    val_main_v6 (F := Ideal) Z W (ix5 s n c k e) = seg Z W s c k ⟨n.val, by omega⟩ 0 e := by
  refine Eq.trans ?_ (v4_at Z W s _ 0 c k e)
  unfold val_main_v6 val_main_v5
  generalize val_main_v4 (F := Ideal) Z W = z
  pointwise

/-- The half product of the segment after it. -/
theorem v8_at (s : Fin 2) (n : Fin 511) (c k : Fin 2) (e : Fin 128) :
    val_main_v8 (F := Ideal) Z W (ix5 s n c k e) = seg Z W s c k ⟨1 + n.val, by omega⟩ 1 e := by
  refine Eq.trans ?_ (v4_at Z W s _ 1 c k e)
  unfold val_main_v8 val_main_v7
  generalize val_main_v4 (F := Ideal) Z W = z
  pointwise

/-- What goes through the second layer, before its activation. -/
def pre (s c k : Fin 2) (n : Fin 511) (e : Fin 128) : EReal :=
  seg Z W s c k ⟨n.val, by omega⟩ 0 e + seg Z W s c k ⟨1 + n.val, by omega⟩ 1 e + B (ix3 c 0 e)

theorem v12_at (s : Fin 2) (n : Fin 511) (c k : Fin 2) (e : Fin 128) :
    val_main_v12 (F := Ideal) Z W B (ix5 s n c k e) = pre Z W B s c k n e := by
  unfold pre
  rw [← v6_at, ← v8_at]
  unfold val_main_v12 val_main_v9 val_main_v11 val_main_v10
  generalize val_main_v6 (F := Ideal) Z W = y
  generalize val_main_v8 (F := Ideal) Z W = z
  pointwise

/-- A number times its logistic. -/
def silu (x : EReal) : EReal := x * Ideal.logistic x

theorem v13_at (s : Fin 2) (n : Fin 511) (c k : Fin 2) (e : Fin 128) :
    val_main_v13 (F := Ideal) Z W B (ix5 s n c k e) = silu (pre Z W B s c k n e) := by
  rw [← v12_at]
  unfold val_main_v13 val_main_call0_v5 val_main_call0_v3 val_main_call0_v1 val_main_call0_v0 val_main_call0_v4 val_main_call0_v2
    val_main_call0_cst_0 val_main_call0_cst
  generalize val_main_v12 (F := Ideal) Z W B = z
  pointwise
  rfl

/-- A summary of a head: the last block's is zero. -/
def summary (s c k : Fin 2) (n : Fin 512) (h : Fin 128) : EReal :=
  if l : n.val < 511 then ∑ e : Fin 128, silu (pre Z W B s c k ⟨n.val, l⟩ e) * U (ix3 c e h) else 0

theorem v17_at (s : Fin 2) (q : Fin 4) (n : Fin 511) (h : Fin 128) :
    val_main_v17 (F := Ideal) Z W B U (ix4 s q n h) =
      ∑ e : Fin 128, silu (pre Z W B s ⟨q.val / 2, by omega⟩ ⟨q.val % 2, by omega⟩ n e) * U (ix3 ⟨q.val / 2, by omega⟩ e h) := by
  simp only [← v13_at]
  unfold val_main_v17 val_main_v16 val_main_v15 val_main_v14
  generalize val_main_v13 (F := Ideal) Z W B = z
  refine (shapeCast_apply _ _ _ (ix5 s ⟨q.val / 2, by omega⟩ ⟨q.val % 2, by omega⟩ n h) ?_).trans ?_
  · refine (Shape.rowMajor_val_five _).trans (Eq.trans ?_ (Shape.rowMajor_val_four _).symm)
    show (((s.val * 2 + q.val / 2) * 2 + q.val % 2) * 511 + n.val) * 128 + h.val = ((s.val * 4 + q.val) * 511 + n.val) * 128 + h.val
    omega
  pointwise
  exact Finset.sum_congr rfl fun e _ => mul_comm _ _

theorem v19_at (i : S2x4x512x128.Idx) : val_main_v19 (F := Ideal) Z W B U i =
    summary Z W B U (i 0) ⟨(i 1).val / 2, by have : (i 1).val < 4 := (i 1).isLt; omega⟩
      ⟨(i 1).val % 2, by omega⟩ (i 2) (i 3) := by
  unfold summary
  have hz : FloatOps.sitofp (F := Ideal) FTy.f32 0#32 = (0 : EReal) := by simp [FloatOps.sitofp]
  split_ifs with l
  · refine Eq.trans ?_ (v17_at Z W B U (i 0) (i 1) ⟨(i 2).val, l⟩ (i 3))
    unfold val_main_v19 val_main_v18
    generalize val_main_v17 (F := Ideal) Z W B U = z
    pointwise [val_main_call1_v0, val_main_c]
    rw [dif_pos l]
  · unfold val_main_v19 val_main_v18
    generalize val_main_v17 (F := Ideal) Z W B U = z
    pointwise [val_main_call1_v0, val_main_c]
    rw [dif_neg l, hz]

end Cert.CmpRefIdeal.Val

end
-- ==== Proof.Cmp.Pay.lean ====
/- What a grid point of the block summaries computes, at an entry. -/
module

public import proofs.«01_k».proof.Proof.Cmp.FrameIdeal
public import proofs.«01_k».proof.Proof.Cmp.Ref
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.CmpIdeal.Val

open Cert.CmpIdeal Cert.CmpIdeal.Gen Cert.CmpIdeal.Steps
open Cert.CmpRefIdeal.Val (silu)

/-! ## The half products -/

/-- One place's product: two heads' rows of that place, one head under the other, against the place's weight. -/
def prod (x x' : Vec Ideal S2048x128 .f32) (w : Vec Ideal S2x16x128x256 .bf16) (k : Fin 2) (r : Fin 16) : FVec Ideal S256x256 .f32 :=
  matmul dot_S256x128_S128x256_S256x256_1_0_0_1_n_n none
    (truncf .bf16 (concatenate S256x128 0 [⟨S128x128, every x r⟩, ⟨S128x128, every x' r⟩] concatenates_S128x128_S128x128_S256x128_d0)
      bitsLt_bf16_f32)
    (shapeCast S128x256 (wt w k r) shapeCasts_S1x1x128x256_S128x256 : FVec Ideal S128x256 .bf16) (constant S256x256 .f32 0x00000000#32)

/-- The sixteen places' products, summed one after the other. -/
def total (x x' : Vec Ideal S2048x128 .f32) (w : Vec Ideal S2x16x128x256 .bf16) (k : Fin 2) : FVec Ideal S256x256 .f32 :=
  (List.finRange 15).foldl (fun s r => addf s (prod x x' w k r.succ)) (prod x x' w k 0)

/-- The row of a block of 2048 that place r of segment a takes. -/
def at16 (a : Fin 128) (r : Fin 16) : Fin 2048 := ⟨r.val + 16 * a.val, by omega⟩

/-- A head's half products: a segment's sixteen rows against their sixteen weights. -/
def half (x : Vec Ideal S2048x128 .f32) (w : Vec Ideal S2x16x128x256 .bf16) (k : Fin 2) (a : Fin 128) (e : Fin 256) : EReal :=
  ∑ r : Fin 16, ∑ d : Fin 128, x (ix2 (at16 a r) d) * w (ix4 k r d e)

/-- Every sixteenth row, at an entry. -/
theorem every_at (x : Vec Ideal S2048x128 .f32) (r : Fin 16) (a d : Fin 128) :
    every x r (ix2 a d) = x (ix2 (at16 a r) d) := by
  refine congrArg x (funext fun b => Fin.ext ?_)
  match b with
  | ⟨0, _⟩ => show r.val + 16 * a.val = r.val + 16 * a.val; rfl
  | ⟨1, _⟩ => show 0 + 1 * d.val = d.val; omega

/-- A place's weight, at an entry. -/
theorem wt_at (w : Vec Ideal S2x16x128x256 .bf16) (k : Fin 2) (r : Fin 16) (d : Fin 128) (e : Fin 256) :
    wt w k r (ix4 0 0 d e) = w (ix4 k r d e) := by
  refine congrArg w (funext fun b => Fin.ext ?_)
  match b with
  | ⟨0, _⟩ => show k.val + 1 * 0 = k.val; omega
  | ⟨1, _⟩ => show r.val + 1 * 0 = r.val; omega
  | ⟨2, _⟩ => show 0 + 1 * d.val = d.val; omega
  | ⟨3, _⟩ => show 0 + 1 * e.val = e.val; omega

/-- A place's product at an entry: the upper half is the first head's, the lower the second's. -/
theorem prod_at (x x' : Vec Ideal S2048x128 .f32) (w : Vec Ideal S2x16x128x256 .bf16) (k : Fin 2) (r : Fin 16) (i e : Fin 256) :
    prod x x' w k r (ix2 i e) = ∑ d : Fin 128,
      (if h : i.val < 128 then x (ix2 (at16 ⟨i.val, h⟩ r) d) else x' (ix2 (at16 ⟨i.val - 128, by omega⟩ r) d)) * w (ix4 k r d e) := by
  simp only [← every_at x r, ← every_at x' r, ← wt_at w k r]
  unfold prod
  generalize every x r = u
  generalize every x' r = u'
  generalize wt w k r = z
  pointwise

/-- Arrays added one after the other, at an entry. -/
theorem fold_at {n : ℕ} (f : Fin n → FVec Ideal S256x256 .f32) (j : S256x256.Idx) :
    ∀ (l : List (Fin n)) (z : FVec Ideal S256x256 .f32),
      (l.foldl (fun s r => addf s (f r)) z) j = ((z j : EReal) + (l.map fun r => (f r j : EReal)).sum : EReal)
  | [], z => (add_zero (z j : EReal)).symm
  | r :: l, z => (fold_at f j l (addf z (f r))).trans
      ((add_assoc (z j : EReal) (f r j : EReal) _).trans (by rw [List.map_cons, List.sum_cons]))

/-- The sum at an entry is the sixteen places' sum. -/
theorem total_at (x x' : Vec Ideal S2048x128 .f32) (w : Vec Ideal S2x16x128x256 .bf16) (k : Fin 2) (j : S256x256.Idx) :
    total x x' w k j = (∑ r : Fin 16, (prod x x' w k r j : EReal) : EReal) := by
  rw [Fin.sum_univ_succ, Fin.sum_univ_def]
  exact fold_at (fun r : Fin 15 => prod x x' w k r.succ) j _ _

/-- The keys' sum is what the point adds up … -/
theorem keys_total (x x' : Vec Ideal S2048x128 .f32) (w : Vec Ideal S2x16x128x256 .bf16) :
    k0_pay21 (keySum x x' w) (k0_pay19 (every x 13) (every x' 13)) (k0_pay20 (wt w 0 13))
      (constant S256x256 .f32 0x00000000#32) (every x 14) (every x' 14) (wt w 0 14) (every x 15) (every x' 15) (wt w 0 15) =
    total x x' w 0 := rfl

/-- … and so is the values'. -/
theorem vals_total (x x' : Vec Ideal S2048x128 .f32) (w : Vec Ideal S2x16x128x256 .bf16) :
    k0_pay1 (valSum x x' w) (k0_pay30 (every x 14) (every x' 14)) (wt w 1 14) (every x 15) (every x' 15) (wt w 1 15) =
    total x x' w 1 := rfl

/-- The upper half of the sum is the first head's half products. -/
theorem total_lo (x x' : Vec Ideal S2048x128 .f32) (w : Vec Ideal S2x16x128x256 .bf16) (k : Fin 2) (a : Fin 128) (e : Fin 256) :
    total x x' w k (ix2 ⟨a.val, by omega⟩ e) = half x w k a e :=
  (total_at x x' w k _).trans (Finset.sum_congr rfl fun r _ => (prod_at x x' w k r _ e).trans
    (Finset.sum_congr rfl fun d _ => congrArg (· * _) (dif_pos a.isLt)))

/-- The lower half is the second head's. -/
theorem total_hi (x x' : Vec Ideal S2048x128 .f32) (w : Vec Ideal S2x16x128x256 .bf16) (k : Fin 2) (a : Fin 128) (e : Fin 256) :
    total x x' w k (ix2 ⟨128 + a.val, by omega⟩ e) = half x' w k a e :=
  (total_at x x' w k _).trans (Finset.sum_congr rfl fun r _ => (prod_at x x' w k r _ e).trans
    (Finset.sum_congr rfl fun d _ => congrArg (· * _) ((dif_neg (show ¬ 128 + a.val < 128 by omega)).trans
      (congrArg (fun b => x' (ix2 (at16 b r) d)) (Fin.ext (show 128 + a.val - 128 = a.val by omega))))))

/-- What the point stores for each head, at an entry. -/
theorem key0_at (x x' : Vec Ideal S2048x128 .f32) (w : Vec Ideal S2x16x128x256 .bf16) (y : S1x128x256.Idx) :
    key0 x x' w y = half x w 0 (y 1) (y 2) := by
  refine Eq.trans ?_ (total_lo x x' w 0 (y 1) (y 2))
  unfold key0 k0_pay22
  rw [keys_total]
  generalize total x x' w 0 = z
  pointwise

theorem key1_at (x x' : Vec Ideal S2048x128 .f32) (w : Vec Ideal S2x16x128x256 .bf16) (y : S1x128x256.Idx) :
    key1 x x' w y = half x' w 0 (y 1) (y 2) := by
  refine Eq.trans ?_ (total_hi x x' w 0 (y 1) (y 2))
  unfold key1 k0_pay23
  rw [keys_total]
  generalize total x x' w 0 = z
  pointwise

theorem val0_at (x x' : Vec Ideal S2048x128 .f32) (w : Vec Ideal S2x16x128x256 .bf16) (y : S1x128x256.Idx) :
    val0 x x' w y = half x w 1 (y 1) (y 2) := by
  refine Eq.trans ?_ (total_lo x x' w 1 (y 1) (y 2))
  unfold val0 k0_pay2
  rw [vals_total]
  generalize total x x' w 1 = z
  pointwise

theorem val1_at (x x' : Vec Ideal S2048x128 .f32) (w : Vec Ideal S2x16x128x256 .bf16) (y : S1x128x256.Idx) :
    val1 x x' w y = half x' w 1 (y 1) (y 2) := by
  refine Eq.trans ?_ (total_hi x x' w 1 (y 1) (y 2))
  unfold val1 k0_pay3
  rw [vals_total]
  generalize total x x' w 1 = z
  pointwise

/-! ## The summaries -/

/-- The segment after this one, the first after the last. -/
def next (n : Fin 512) : Fin 512 := ⟨(n.val + 512 - 511) % 512, by omega⟩

/-- A head's summary of block n from its half products, its bias and its second weight: the last block's is zero. -/
def summary (d : Vec Ideal S4x512x256 .f32) (b : Vec Ideal S2x1x128 .f32) (w : Vec Ideal S2x128x128 .bf16)
    (q : Fin 4) (n : Fin 512) (h : Fin 128) : EReal :=
  if n.val = 511 then 0 else ∑ e : Fin 128,
    silu (d (ix3 q n ⟨e.val, by omega⟩) + d (ix3 q (next n) ⟨128 + e.val, by omega⟩) + b (ix3 ⟨q.val / 2, by omega⟩ 0 e)) *
      w (ix3 ⟨q.val / 2, by omega⟩ e h)

/-- The mask picks the last block. -/
theorem mask_at (n : Fin 512) : k0_pay4 (ix2 n 0) = 1#1 ↔ n.val = 511 := by
  revert n
  decide +kernel

/-- A head's stored summaries at an entry. -/
theorem head_at (u v : Vec Ideal S1x512x128 .f32) (b : Vec Ideal S1x1x128 .f32) (w : Vec Ideal S1x128x128 .bf16)
    (n : Fin 512) (h : Fin 128) :
    k0_pay5 u v b w (ix4 0 0 n h) = if n.val = 511 then 0 else ∑ e : Fin 128,
      silu (u (ix3 0 n e) + v (ix3 0 (next n) e) + b (ix3 0 0 e)) * w (ix3 0 e h) := by
  have hm := mask_at n
  unfold k0_pay5
  generalize k0_pay4 = M at hm ⊢
  pointwise
  exact if_congr hm rfl rfl

/-- A half product read for a head, at an entry. -/
theorem side_at (d : Vec Ideal S4x512x256 .f32) (q : Fin 4) (p : Fin 2) (n : Fin 512) (e : Fin 128) :
    View.ld d (side q p) (ix3 0 n e) = d (ix3 q n ⟨128 * p.val + e.val, by omega⟩) := by
  refine congrArg d (funext fun b => Fin.ext ?_)
  match b with
  | ⟨0, _⟩ => show q.val + 1 * 0 = q.val; omega
  | ⟨1, _⟩ => show 0 + 1 * n.val = n.val; omega
  | ⟨2, _⟩ => show 128 * p.val + 1 * e.val = 128 * p.val + e.val; omega

/-- A bias read for a head, at an entry. -/
theorem bias_at (b : Vec Ideal S2x1x128 .f32) (k : Fin 2) (e : Fin 128) :
    View.ld b (biasOf k) (ix3 0 0 e) = b (ix3 k 0 e) := by
  refine congrArg b (funext fun a => Fin.ext ?_)
  match a with
  | ⟨0, _⟩ => show k.val + 1 * 0 = k.val; omega
  | ⟨1, _⟩ => rfl
  | ⟨2, _⟩ => show 0 + 1 * e.val = e.val; omega

/-- A second weight read for a head, at an entry. -/
theorem second_at (w : Vec Ideal S2x128x128 .bf16) (k : Fin 2) (e h : Fin 128) :
    View.ld w (secondOf k) (ix3 0 e h) = w (ix3 k e h) := by
  refine congrArg w (funext fun a => Fin.ext ?_)
  match a with
  | ⟨0, _⟩ => show k.val + 1 * 0 = k.val; omega
  | ⟨1, _⟩ => show 0 + 1 * e.val = e.val; omega
  | ⟨2, _⟩ => show 0 + 1 * h.val = h.val; omega

/-- A head's store, at the entry of the block it goes to. -/
theorem store_at (d : Vec Ideal S4x512x256 .f32) (b : Vec Ideal S2x1x128 .f32) (w : Vec Ideal S2x128x128 .bf16)
    (q : Fin 4) (k : Fin 2) (hk : k.val = q.val / 2) (x : S1x1x512x128.Idx) :
    k0_pay5 (View.ld d (side q 0)) (View.ld d (side q 1)) (View.ld b (biasOf k)) (View.ld w (secondOf k)) x =
      summary d b w ((headOf q).emb x 1) ((headOf q).emb x 2) ((headOf q).emb x 3) := by
  have e1 : (headOf q).emb x 1 = q := Fin.ext (by
    have h : (x 1).val < 1 := (x 1).isLt
    show q.val + 1 * (x 1).val = q.val; omega)
  have e2 : (headOf q).emb x 2 = x 2 := Fin.ext (show 0 + 1 * (x 2).val = (x 2).val by omega)
  have e3 : (headOf q).emb x 3 = x 3 := Fin.ext (show 0 + 1 * (x 3).val = (x 3).val by omega)
  have ex : x = ix4 0 0 (x 2) (x 3) := funext fun a => Fin.ext (by
    have h0 : (x 0).val < 1 := (x 0).isLt
    have h1 : (x 1).val < 1 := (x 1).isLt
    match a with
    | ⟨0, _⟩ => show (x 0).val = 0; omega
    | ⟨1, _⟩ => show (x 1).val = 0; omega
    | ⟨2, _⟩ => rfl
    | ⟨3, _⟩ => rfl)
  have hk' : k = ⟨q.val / 2, by omega⟩ := Fin.ext hk
  rw [e1, e2, e3, ex, hk']
  refine (head_at _ _ _ _ _ _).trans ?_
  unfold summary
  refine if_congr Iff.rfl rfl (Finset.sum_congr rfl fun e _ => ?_)
  refine congrArg₂ (· * ·) (congrArg silu (congrArg₂ (· + ·) (congrArg₂ (· + ·) ((side_at d q 0 _ e).trans ?_) (side_at d q 1 _ e))
    (bias_at b _ e))) (second_at w _ e _)
  exact congrArg d (congrArg (ix3 q (x 2)) (Fin.ext (show 128 * 0 + e.val = e.val by omega)))

/-- A sequence's stored block at an entry. -/
theorem summaries_at (d : Vec Ideal S4x512x256 .f32) (b : Vec Ideal S2x1x128 .f32) (w : Vec Ideal S2x128x128 .bf16)
    (y : S1x4x512x128.Idx) : View.canon (summaries d b w) y = summary d b w (y 1) (y 2) (y 3) := by
  refine View.canon_apply_of_pieces (Val := Elt Ideal) (fun y => summary d b w (y 1) (y 2) (y 3)) _ (fun p hp x => ?_) y
    (summaries_cover d b w y)
  unfold summaries at hp
  simp only [List.mem_cons, List.not_mem_nil, or_false] at hp
  rcases hp with rfl | rfl | rfl | rfl
  · exact store_at d b w 3 1 rfl x
  · exact store_at d b w 2 1 rfl x
  · exact store_at d b w 1 0 rfl x
  · exact store_at d b w 0 0 rfl x

end Cert.CmpIdeal.Val

end
-- ==== Proof.Cmp.Value.lean ====
/- The block summaries' output equals the reference's. -/
module

public import proofs.«01_k».proof.Proof.Cmp.Pay
public import Idealize.ShloMosaic.Lib.Pipeline.ValueKit.Held

@[expose] public section

set_option maxRecDepth 16384

noncomputable section

open Idealize.ShloMosaic Idealize.ShloMosaic.TcCoe Idealize.SL.Sem

namespace Cert.CmpIdeal.Val

open Cert.CmpIdeal Cert.CmpIdeal.Gen Cert.CmpIdeal.Steps
open Cert.CmpRefIdeal.Val (silu seg pre rowOf colOf)
open Idealize.ShloMosaic.Pipeline (Dat)

variable (m : (ℓ : Loc nD τ sig) → Buf (Elt Ideal) ℓ) (c : Dev nD)

/-- The arguments as the reference takes them. -/
abbrev Z : Vec Ideal S16384x2560 .f32 := m ((c : Thread nD τ).loc main_arg0)
abbrev W : Vec Ideal S2x32x128x128 .f32 := m ((c : Thread nD τ).loc main_arg1)
abbrev B : Vec Ideal S2x1x128 .f32 := m ((c : Thread nD τ).loc main_arg2)
abbrev U : Vec Ideal S2x128x128 .f32 := m ((c : Thread nD τ).loc main_arg3)

/-! ## The blocks a point reads -/

/-- The first weights as the kernel lays them out, at an entry. -/
theorem v3_at (k : Fin 2) (r : Fin 16) (d : Fin 128) (p : Fin 2) (e : Fin 128) :
    (V m c main_v3 : Vec Ideal S2x16x128x256 .bf16) (ix4 k r d ⟨128 * p.val + e.val, by omega⟩) =
      W m c (ix4 k ⟨16 * p.val + r.val, by omega⟩ d e) := by
  simp only [V, hostOps0]
  entry_read
  pointwise
  exact congrArg₂ (fun (a : Fin 32) (b : Fin 128) => W m c (ix4 k a d b))
    (Fin.ext (show (128 * p.val + e.val) / 128 * 16 + r.val = 16 * p.val + r.val by omega))
    (Fin.ext (show (128 * p.val + e.val) % 128 = e.val by omega))

/-- The second weights the kernel reads: over the extended reals rounding does nothing. -/
theorem v4_eq : (V m c main_v4 : Vec Ideal S2x128x128 .bf16) = U m c := by
  simp only [V, hostOps0]
  entry_read
  rfl

/-- Where each window's block stands at a grid point. -/
theorem idx : ∀ t : Fin cfg0.N, win0_0.index t = ![t.val, 8] ∧ win0_1.index t = ![t.val, 9] ∧ win0_2.index t = ![t.val, 10] ∧
    win0_3.index t = ![t.val, 11] ∧ win0_4.index t = ![0, 0, 0, 0] ∧ win0_5.index t = ![0, 0, 0] ∧ win0_6.index t = ![0, 0, 0] ∧
    win0_7.index t = ![t.val / 4, 0, 0, 0] :=
  (by decide +kernel : ∀ t : Fin grid0.N, _)

/-- The grid has 8 points. -/
theorem lt_N (t : Fin cfg0.N) : t.val < 8 := lt_of_lt_of_eq t.isLt N_0

/-- A row of a block of rows, as a row of the array. -/
def row (t : Fin cfg0.N) (a : Fin 2048) : Fin 16384 := ⟨t.val * 2048 + a.val, by have := lt_N t; omega⟩

/-- An entry of a head's columns, as a column of the array. -/
def col (q : Fin 4) (d : Fin 128) : Fin 2560 := ⟨(8 + q.val) * 128 + d.val, by omega⟩

theorem arg0_kept : V m c main_arg0 = m ((c : Thread nD τ).loc main_arg0) := V_kept m c main_arg0 (by decide)
theorem arg2_kept : V m c main_arg2 = m ((c : Thread nD τ).loc main_arg2) := V_kept m c main_arg2 (by decide)

theorem blk0 (t : Fin cfg0.N) (a : Fin 2048) (d : Fin 128) :
    iblk m c 0 t (ix2 a d) = Z m c (ix2 (row t a) (col 0 d)) := by
  refine (congrFun (arg0_kept m c) ((win0_0.blk t).view.emb (ix2 a d))).trans (congrArg _ ?_)
  blk_ext [idx t, row, col]

theorem blk1 (t : Fin cfg0.N) (a : Fin 2048) (d : Fin 128) :
    iblk m c 1 t (ix2 a d) = Z m c (ix2 (row t a) (col 1 d)) := by
  refine (congrFun (arg0_kept m c) ((win0_1.blk t).view.emb (ix2 a d))).trans (congrArg _ ?_)
  blk_ext [idx t, row, col]

theorem blk2 (t : Fin cfg0.N) (a : Fin 2048) (d : Fin 128) :
    iblk m c 2 t (ix2 a d) = Z m c (ix2 (row t a) (col 2 d)) := by
  refine (congrFun (arg0_kept m c) ((win0_2.blk t).view.emb (ix2 a d))).trans (congrArg _ ?_)
  blk_ext [idx t, row, col]

theorem blk3 (t : Fin cfg0.N) (a : Fin 2048) (d : Fin 128) :
    iblk m c 3 t (ix2 a d) = Z m c (ix2 (row t a) (col 3 d)) := by
  refine (congrFun (arg0_kept m c) ((win0_3.blk t).view.emb (ix2 a d))).trans (congrArg _ ?_)
  blk_ext [idx t, row, col]

theorem blk4 (t : Fin cfg0.N) (k : Fin 2) (r : Fin 16) (d : Fin 128) (e : Fin 256) :
    iblk m c 4 t (ix4 k r d e) = W m c (ix4 k ⟨16 * (e.val / 128) + r.val, by omega⟩ d ⟨e.val % 128, by omega⟩) := by
  refine Eq.trans (congrArg (V m c main_v3 : Vec Ideal S2x16x128x256 .bf16) ?_)
    (v3_at m c k r d ⟨e.val / 128, by omega⟩ ⟨e.val % 128, by omega⟩)
  have he : 128 * (e.val / 128) + e.val % 128 = e.val := by omega
  blk_ext [idx t, he]

theorem blk5 (t : Fin cfg0.N) (k : Fin 2) (e : Fin 128) : iblk m c 5 t (ix3 k 0 e) = B m c (ix3 k 0 e) := by
  refine (congrFun (arg2_kept m c) ((win0_5.blk t).view.emb (ix3 k 0 e))).trans (congrArg _ ?_)
  blk_ext [idx t]

theorem blk6 (t : Fin cfg0.N) (k : Fin 2) (e h : Fin 128) : iblk m c 6 t (ix3 k e h) = U m c (ix3 k e h) := by
  refine (congrFun (v4_eq m c) ((win0_6.blk t).view.emb (ix3 k e h))).trans (congrArg _ ?_)
  blk_ext [idx t]

/-! ## The output -/

/-- The half product of head q, segment n, at an entry of its two halves side by side. -/
def segOf (s : ℕ) (q : Fin 4) (n : Fin 512) (e : Fin 256) : EReal :=
  seg (Z m c) (W m c) ⟨s % 2, by omega⟩ ⟨q.val / 2, by omega⟩ ⟨q.val % 2, by omega⟩ n ⟨e.val / 128, by omega⟩ ⟨e.val % 128, by omega⟩

/-- A point's half products of one head are the reference's. -/
theorem half_blk (t : Fin cfg0.N) (q : Fin 4) (k : Fin 2) (hk : k.val = q.val / 2) (x : Vec Ideal S2048x128 .f32)
    (hx : ∀ a d, x (ix2 a d) = Z m c (ix2 (row t a) (col q d))) (a : Fin 128) (e : Fin 256) (n : Fin 512)
    (hn : n.val = 128 * (t.val % 4) + a.val) : half x (iblk m c 4 t) k a e = segOf m c (t.val / 4) q n e := by
  have ht := lt_N t
  have hk' : k = ⟨q.val / 2, by omega⟩ := Fin.ext hk
  rw [hk']
  unfold half segOf seg
  refine Finset.sum_congr rfl fun r _ => Finset.sum_congr rfl fun d _ => congrArg₂ (· * ·) ((hx _ _).trans ?_) (blk4 m c t _ r d e)
  refine congrArg (Z m c) (congrArg₂ ix2 (Fin.ext ?_) (Fin.ext ?_))
  · show t.val * 2048 + (r.val + 16 * a.val) = 8192 * (t.val / 4 % 2) + 16 * n.val + r.val
    omega
  · show (8 + q.val) * 128 + d.val = 1024 + 256 * (q.val / 2) + 128 * (q.val % 2) + d.val
    omega

/-- What a point stores into the scratch for one head, at the entry it goes to. -/
theorem slice_at (t : Fin cfg0.N) (q : Fin 4) (k : Fin 2) (hk : k.val = q.val / 2) (x : Vec Ideal S2048x128 .f32)
    (hx : ∀ a d, x (ix2 a d) = Z m c (ix2 (row t a) (col q d))) (off : Fin 3 → ℕ)
    (inb : ∀ a, off a + S1x128x256.size a ≤ S4x512x256.size a) (h : off = ![q.val, 128 * (t.val % 4), 0]) (y : S1x128x256.Idx) :
    half x (iblk m c 4 t) k (y 1) (y 2) =
      (fun z : S4x512x256.Idx => segOf m c (t.val / 4) (z 0) (z 1) (z 2)) ((Rect.unit (s := S4x512x256) off S1x128x256.size inb).emb y) := by
  subst h
  have h0 : (y 0).val < 1 := (y 0).isLt
  have h1 : (y 1).val < 128 := (y 1).isLt
  have ht := lt_N t
  refine (half_blk m c t q k hk x hx (y 1) (y 2) ⟨128 * (t.val % 4) + (y 1).val, by omega⟩ rfl).trans ?_
  refine congr (congr (congrArg (segOf m c (t.val / 4)) (Fin.ext ?_)) (Fin.ext ?_)) (Fin.ext ?_)
  · show q.val = q.val + 1 * (y 0).val
    omega
  · show 128 * (t.val % 4) + (y 1).val = 128 * (t.val % 4) + 1 * (y 1).val
    omega
  · show (y 2).val = 0 + 1 * (y 2).val
    omega

/-- The scratch's half products are the reference's. -/
theorem halves_at (s : ℕ) (hs : s < 2) (y : S4x512x256.Idx) : halves m c s y = segOf m c s (y 0) (y 1) (y 2) := by
  have h1 : (y 1).val < 512 := (y 1).isLt
  have hq : (pt s ((y 1).val / 128)).val / 4 = s := by
    show (4 * min s 1 + min ((y 1).val / 128) 3) / 4 = s
    omega
  have hr : (y 1).val / 128 = (pt s ((y 1).val / 128)).val % 4 := by
    show (y 1).val / 128 = (4 * min s 1 + min ((y 1).val / 128) 3) % 4
    omega
  unfold halves
  generalize ht : pt s ((y 1).val / 128) = t at hq hr
  rw [← hq]
  obtain ⟨o1, o2, o3, o4⟩ := starts t
  refine View.canon_apply_of_pieces (Val := Elt Ideal) (fun z : S4x512x256.Idx => segOf m c (t.val / 4) (z 0) (z 1) (z 2)) _
    (fun p hp x => ?_) y (stores_cover m c t y hr)
  unfold stores slices at hp
  simp only [List.mem_cons, List.not_mem_nil, or_false] at hp
  rcases hp with rfl | rfl | rfl | rfl
  · exact (val1_at _ _ _ x).trans (slice_at m c t 3 1 rfl _ (blk3 m c t) _ (k0_off4_inb _) o4 x)
  · exact (val0_at _ _ _ x).trans (slice_at m c t 2 1 rfl _ (blk2 m c t) _ (k0_off3_inb _) o3 x)
  · exact (key1_at _ _ _ x).trans (slice_at m c t 1 0 rfl _ (blk1 m c t) _ (k0_off2_inb _) o2 x)
  · exact (key0_at _ _ _ x).trans (slice_at m c t 0 0 rfl _ (blk0 m c t) _ (k0_off1_inb _) o1 x)

/-- A sequence's summaries are the reference's. -/
theorem summary_at (t : Fin cfg0.N) (q : Fin 4) (n : Fin 512) (h : Fin 128) :
    summary (halves m c (t.val / 4)) (iblk m c 5 t) (iblk m c 6 t) q n h =
      Cert.CmpRefIdeal.Val.summary (Z m c) (W m c) (B m c) (U m c) ⟨t.val / 4 % 2, by omega⟩ ⟨q.val / 2, by omega⟩
        ⟨q.val % 2, by omega⟩ n h := by
  have ht := lt_N t
  unfold summary Cert.CmpRefIdeal.Val.summary
  by_cases hn : n.val = 511
  · rw [if_pos hn, dif_neg (by omega)]
  have hn' : n.val < 511 := by omega
  rw [if_neg hn, dif_pos hn']
  refine Finset.sum_congr rfl fun e _ => congrArg₂ (· * ·) (congrArg silu (congrArg₂ (· + ·) (congrArg₂ (· + ·)
    ((halves_at m c _ (by omega) _).trans ?_) ((halves_at m c _ (by omega) _).trans ?_)) (blk5 m c t _ e))) (blk6 m c t _ e h)
  · refine congrArg₂ (seg (Z m c) (W m c) _ _ _ _) (Fin.ext ?_) (Fin.ext ?_)
    · show e.val / 128 = 0
      omega
    · show e.val % 128 = e.val
      omega
  · refine congr (congr (congrArg (seg (Z m c) (W m c) _ _ _) (Fin.ext ?_)) (Fin.ext ?_)) (Fin.ext ?_)
    · show (n.val + 512 - 511) % 512 = 1 + n.val
      omega
    · show (128 + e.val) / 128 = 1
      omega
    · show (128 + e.val) % 128 = e.val
      omega

/-- The output is the reference's. -/
theorem arr7 : (dats m 0 c).arrAt 7 cfg0.N =
    Cert.CmpRefIdeal.Read.val_main_v19 (F := Ideal) (Z m c) (W m c) (B m c) (U m c) := by
  refine (dats m 0 c).arrAt_eq_of_covers 7 _ (by decide +kernel) fun t hf y => ?_
  blk_simp
  rw [after7 m c t]
  refine (summaries_at _ _ _ _).trans ((summary_at m c t _ _ _).trans (Eq.trans ?_ (Cert.CmpRefIdeal.Val.v19_at _ _ _ _ _).symm))
  have ht := lt_N t
  have e : (win0_7.blk t).view.emb y = ix4 ⟨t.val / 4 % 2, by omega⟩ (y 1) (y 2) (y 3) := by
    have h0 : (y 0).val < 1 := (y 0).isLt
    blk_ext [idx t]
  rw [e]
  rfl

end Cert.CmpIdeal.Val

end
-- ==== Proof.Cmp.Claim.lean ====
/- The block summaries' claims. -/
module

public import proofs.«01_k».proof.Defs
public import proofs.«01_k».proof.Proof.Cmp.Frame
public import proofs.«01_k».proof.Proof.Cmp.Value
public import proofs.«01_k».proof.Proof.Gen.CmpRefIdeal.Run

@[expose] public section

noncomputable section

open Idealize.ShloMosaic Idealize.SL.Sem

namespace Cert.Proof

/-- The block summaries' kernel runs to the end, leaves its arguments alone and its counters at zero. -/
theorem cmp_frame : Cert.quiescent_Cmp (hCmp := Cert.Cmp.Gen.facts) :=
  Cert.Cmp.Steps.frame

/-- So does its idealization. -/
theorem cmpIdeal_frame : Cert.quiescent_CmpIdeal (hCmpIdeal := Cert.CmpIdeal.Gen.facts) :=
  fun m ρ _ => Cert.CmpIdeal.Steps.frame_run m ρ

/-- So does the reference. -/
theorem cmpRef_frame : Cert.quiescent_CmpRefIdeal (hCmpRefIdeal := Cert.CmpRefIdeal.Gen.facts) :=
  fun m ρ _ => (θ_run Cert.CmpRefIdeal.defs _ _).mono
    (fun r h => ⟨fun c => (h c).2, Idealize.ShloMosaic.sem_eq_zero_of_no_sems (by decide) r.2⟩)
    (Cert.CmpRefIdeal.Value.run (F := Ideal) m ρ)

open Cert.CmpIdeal.Steps Cert.CmpIdeal.Val Cert.CmpRefIdeal.Read in
/-- Over the extended reals the block summaries' kernel and the reference end with the same result. -/
theorem cmp_algebraic : Cert.algebraic_CmpIdeal_CmpRefIdeal (hCmpIdeal := Cert.CmpIdeal.Gen.facts)
    (hCmpRefIdeal := Cert.CmpRefIdeal.Gen.facts) := by
  intro m ρ m' ρ' _ hagree
  refine ⟨fun c => (dats m 0 c).arrAt 7 Cert.CmpIdeal.cfg0.N,
    (θ_run Cert.CmpIdeal.defs _ _).mono (fun r h c => ⟨(h.1 c).1 7, operands_kept m r h.1 c⟩) (run_quiescent m ρ),
    (θ_run Cert.CmpRefIdeal.defs _ _).mono (fun r h c => ?_) (Cert.CmpRefIdeal.Value.run (F := Ideal) m' ρ')⟩
  obtain ⟨hv, kept⟩ := h c
  obtain ⟨h0, h1, h2, h3⟩ := hagree c
  rw [h0, h1, h2, h3] at hv
  exact ⟨hv.trans ((val_main_v19_eq _ _ _ _).trans (arr7 m c).symm), kept⟩

end Cert.Proof

end
-- ==== Proof.FfnEnd.Blocks.lean ====
/- The later half step's blocks, read off the arguments. -/
module

public import proofs.«01_k».proof.Proof.Ffn.Rows
public import proofs.«01_k».proof.Proof.Gen.FfnEndIdeal.Value

@[expose] public section

set_option maxRecDepth 16384

noncomputable section

open Idealize.ShloMosaic Idealize.ShloMosaic.TcCoe Idealize.SL.Sem

namespace Cert.FfnEndIdeal.Val

open Cert.FfnEndIdeal Cert.FfnEndIdeal.Gen
open Cert.FfnRefIdeal.Read
open Cert.FfnIdeal.Val (Staged Walk rowOf unitOf col rowD padCols_at padRows_at)

/-- Where each window's block stands at a grid point. -/
theorem idx : ∀ t : Fin cfg0.N, win0_0.index t = ![t.val / 11, 0] ∧ win0_1.index t = ![0, 0] ∧
    win0_2.index t = ![0, t.val % 11] ∧ win0_3.index t = ![0, t.val % 11] ∧ win0_4.index t = ![t.val % 11, 0] ∧
    win0_5.index t = ![0, 0] ∧ win0_6.index t = ![t.val / 11, 0] :=
  (by decide +kernel : ∀ t : Fin grid0.N, _)

/-- The grid has 352 points. -/
theorem lt_N (t : Fin cfg0.N) : t.val < 352 := lt_of_lt_of_eq t.isLt N_0

variable (m : (ℓ : Loc nD τ sig) → Buf (Elt Ideal) ℓ) (c : Dev nD)

/-- The arguments as the reference takes them. -/
abbrev X : Vec Ideal S16384x2048 .f32 := m ((c : Thread nD τ).loc main_arg0)
abbrev Gn : Vec Ideal S2048 .f32 := m ((c : Thread nD τ).loc main_arg1)
abbrev Wg : Vec Ideal S2048x5504 .f32 := m ((c : Thread nD τ).loc main_arg2)
abbrev Wu : Vec Ideal S2048x5504 .f32 := m ((c : Thread nD τ).loc main_arg3)
abbrev Wd : Vec Ideal S5504x2048 .f32 := m ((c : Thread nD τ).loc main_arg4)
abbrev Pg : Vec Ideal S2048 .f32 := m ((c : Thread nD τ).loc main_arg5)

/-- The gain laid out as one row. -/
theorem v6_at (j : S1x2048.Idx) (k : Fin 2048) (h : (j 1).val = k.val) :
    (V m c main_v6 : Vec Ideal S1x2048 .f32) j = Gn m c (ValueIdx.ix1 k) := by
  obtain rfl : j 1 = k := Fin.ext h
  simp only [V, hostOps0, hostOps0_1, hostOps0_2, hostOps0_3, hostOps0_4, hostOps0_5, hostOps0_6, List.flatten_cons,
    List.flatten_nil, List.cons_append, List.nil_append, List.append_nil]
  entry_read
  pointwise
  rfl

/-- The gain laid out as one row. -/
theorem v7_at (j : S1x2048.Idx) (k : Fin 2048) (h : (j 1).val = k.val) :
    (V m c main_v7 : Vec Ideal S1x2048 .f32) j = Pg m c (ValueIdx.ix1 k) := by
  obtain rfl : j 1 = k := Fin.ext h
  simp only [V, hostOps0, hostOps0_1, hostOps0_2, hostOps0_3, hostOps0_4, hostOps0_5, hostOps0_6, List.flatten_cons,
    List.flatten_nil, List.cons_append, List.nil_append, List.append_nil]
  entry_read
  pointwise
  rfl

/-- The padded weight the kernel reads, at an entry. -/
theorem v1_at (j : S2048x5632.Idx) (k : Fin 2048) (h : (j 0).val = k.val) :
    (V m c main_v1 : Vec Ideal S2048x5632 .bf16) j =
    if h : (j 1).val < 5504 then Wg m c (ValueIdx.ix2 k ⟨(j 1).val, h⟩) else 0 := by
  simp only [V, hostOps0, hostOps0_1, hostOps0_2, hostOps0_3, hostOps0_4, hostOps0_5, hostOps0_6, List.flatten_cons,
    List.flatten_nil, List.cons_append, List.nil_append, List.append_nil]
  entry_read
  exact padCols_at _ j k h

/-- The padded weight the kernel reads, at an entry. -/
theorem v3_at (j : S2048x5632.Idx) (k : Fin 2048) (h : (j 0).val = k.val) :
    (V m c main_v3 : Vec Ideal S2048x5632 .bf16) j =
    if h : (j 1).val < 5504 then Wu m c (ValueIdx.ix2 k ⟨(j 1).val, h⟩) else 0 := by
  simp only [V, hostOps0, hostOps0_1, hostOps0_2, hostOps0_3, hostOps0_4, hostOps0_5, hostOps0_6, List.flatten_cons,
    List.flatten_nil, List.cons_append, List.nil_append, List.append_nil]
  entry_read
  exact padCols_at _ j k h

/-- The padded weight the kernel reads, at an entry. -/
theorem v5_at (j : S5632x2048.Idx) (k : Fin 2048) (h : (j 1).val = k.val) :
    (V m c main_v5 : Vec Ideal S5632x2048 .bf16) j =
    if h : (j 0).val < 5504 then Wd m c (ValueIdx.ix2 ⟨(j 0).val, h⟩ k) else 0 := by
  simp only [V, hostOps0, hostOps0_1, hostOps0_2, hostOps0_3, hostOps0_4, hostOps0_5, hostOps0_6, List.flatten_cons,
    List.flatten_nil, List.cons_append, List.nil_append, List.append_nil]
  entry_read
  exact padRows_at _ j k h

/-- The blocks the half step stages hold these rows, columns and gains of the arguments. -/
theorem staged : Staged (X m c) (Gn m c) (Wg m c) (Wu m c) (Wd m c) (Pg m c) lt_N
    (fun t => iblk m c 0 t) (fun t => iblk m c 1 t) (fun t => iblk m c 2 t) (fun t => iblk m c 3 t)
    (fun t => iblk m c 4 t) (fun t => iblk m c 5 t) where
  rows t a k := by blk_ext [iblk, V, idx t, rowOf]
  gain t k := by
    refine v6_at m c ((win0_1.blk t).view.emb (ValueIdx.ix2 0 k)) k ?_
    blk_simp [idx t]
  gates t k s := by
    refine (v1_at m c ((win0_2.blk t).view.emb (ValueIdx.ix2 k s)) k ?_).trans ?_
    · blk_simp [idx t]
    · have e : ((win0_2.blk t).view.emb (ValueIdx.ix2 k s) 1).val = (unitOf t.val s).val := by
        blk_simp [idx t, unitOf]; rfl
      simp only [col, e]
  ups t k s := by
    refine (v3_at m c ((win0_3.blk t).view.emb (ValueIdx.ix2 k s)) k ?_).trans ?_
    · blk_simp [idx t]
    · have e : ((win0_3.blk t).view.emb (ValueIdx.ix2 k s) 1).val = (unitOf t.val s).val := by
        blk_simp [idx t, unitOf]; rfl
      simp only [col, e]
  downs t s k := by
    refine (v5_at m c ((win0_4.blk t).view.emb (ValueIdx.ix2 s k)) k ?_).trans ?_
    · blk_simp [idx t]
    · have e : ((win0_4.blk t).view.emb (ValueIdx.ix2 s k) 0).val = (unitOf t.val s).val := by
        blk_simp [idx t, unitOf]; rfl
      simp only [rowD, e]
  post t k := by
    refine v7_at m c ((win0_5.blk t).view.emb (ValueIdx.ix2 0 k)) k ?_
    blk_simp [idx t]

end Cert.FfnEndIdeal.Val

end
-- ==== Proof.FfnEnd.Value.lean ====
/- The later half step's output equals the reference's. -/
module

public import proofs.«01_k».proof.Proof.FfnEnd.Blocks

@[expose] public section

set_option maxRecDepth 16384

noncomputable section

open Idealize.ShloMosaic Idealize.ShloMosaic.TcCoe Idealize.SL.Sem

namespace Cert.FfnEndIdeal.Val

open Cert.FfnEndIdeal Cert.FfnEndIdeal.Gen
open Cert.FfnRefIdeal.Read
open Cert.FfnIdeal.Val (Staged Walk rowOf norm_rows)
open Idealize.ShloMosaic.Pipeline (Dat)

variable (m : (ℓ : Loc nD τ sig) → Buf (Elt Ideal) ℓ) (c : Dev nD)

/-- The later half step's scratches walk over the hidden units' blocks. -/
theorem walk : Walk (fun t => iblk m c 0 t) (fun t => iblk m c 1 t) (fun t => iblk m c 2 t) (fun t => iblk m c 3 t)
    (fun t => iblk m c 4 t) (fun n h => (outsAt0 m c n h).2.1) (fun n h => (outsAt0 m c n h).2.2) where
  norm t h := by
    have h1 : ¬ t.val % 11 = 10 := by omega
    show (outsAt0 m c t.val t.isLt).2.1 = _
    rw [outsAt0_A m c t h h1]
    frame_out
    rfl
  start t h := by
    have h1 : ¬ t.val % 11 = 10 := by omega
    show (outsAt0 m c t.val t.isLt).2.2 = _
    rw [outsAt0_A m c t h h1]
    frame_out
    rfl
  keep t h := by
    show (outsAt0 m c t.val t.isLt).2.1 = _
    by_cases h1 : t.val % 11 = 10
    · rw [outsAt0_C m c t h h1]; rfl
    · rw [outsAt0_B m c t h h1]; rfl
  add t h := by
    show (outsAt0 m c t.val t.isLt).2.2 = _
    by_cases h1 : t.val % 11 = 10
    · rw [outsAt0_C m c t h h1]; frame_out
      simp only [read_unread_whole]
      rfl
    · rw [outsAt0_B m c t h h1]; frame_out
      simp only [read_unread_whole]
      rfl

/-- The output array is the normalised rows the first form hands on second. -/
theorem arr6 : (dats m 0 c).arrAt 6 cfg0.N =
    val_main_v34 (F := Ideal) (X m c) (Gn m c) (Wg m c) (Wu m c) (Wd m c) (Pg m c) := by
  refine (dats m 0 c).arrAt_eq_of_covers 6 _ (by decide +kernel) fun t hf y => ?_
  have ht : t.val % 11 = 10 := (flush0_6 t).mp hf
  have h0 : ¬ t.val % 11 = 0 := by omega
  blk_simp
  rw [after0_6]
  have e : (outsAt0 m c t.val t.isLt).1 =
      k0_pay4 (F := Ideal) (iblk m c 0 t) (outsAt0 m c t.val t.isLt).2.2 (iblk m c 5 t) := by
    rw [outsAt0_C m c t h0 ht]
    frame_out
  rw [e]
  refine (norm_rows (staged m c) (walk m c) t ht y).trans (congrArg _ (Eq.symm ?_))
  blk_ext [idx t, rowOf]

end Cert.FfnEndIdeal.Val

end
-- ==== Proof.FfnEnd.Claim.lean ====
/- The later half step's claims. -/
module

public import proofs.«01_k».proof.Defs
public import proofs.«01_k».proof.Proof.FfnEnd.Value
public import proofs.«01_k».proof.Proof.Gen.FfnEnd.Frame
public import proofs.«01_k».proof.Proof.Gen.FfnEndRefIdeal.Read
public import proofs.«01_k».proof.Proof.Gen.FfnEndRefIdeal.Run

@[expose] public section

noncomputable section

open Idealize.ShloMosaic Idealize.SL.Sem

namespace Cert.Proof

/-- The later half step's kernel runs to the end, leaves its arguments alone and its counters at zero. -/
theorem ffnEnd_frame : Cert.quiescent_FfnEnd (hFfnEnd := Cert.FfnEnd.Gen.facts) :=
  fun m ρ _ => Cert.FfnEnd.Gen.frame m ρ

/-- So does its idealization. -/
theorem ffnEndIdeal_frame : Cert.quiescent_FfnEndIdeal (hFfnEndIdeal := Cert.FfnEndIdeal.Gen.facts) :=
  fun m ρ _ => Cert.FfnEndIdeal.Gen.frame m ρ

/-- So does the reference. -/
theorem ffnEndRef_frame : Cert.quiescent_FfnEndRefIdeal (hFfnEndRefIdeal := Cert.FfnEndRefIdeal.Gen.facts) :=
  fun m ρ _ => (θ_run Cert.FfnEndRefIdeal.defs _ _).mono
    (fun r h => ⟨fun c => (h c).2, Idealize.ShloMosaic.sem_eq_zero_of_no_sems (by decide) r.2⟩)
    (Cert.FfnEndRefIdeal.Value.run (F := Ideal) m ρ)

/-- Over the extended reals the later half step's kernel and the reference end with the same result. -/
theorem ffnEnd_algebraic : Cert.algebraic_FfnEndIdeal_FfnEndRefIdeal (hFfnEndIdeal := Cert.FfnEndIdeal.Gen.facts)
    (hFfnEndRefIdeal := Cert.FfnEndRefIdeal.Gen.facts) := by
  intro m ρ m' ρ' _ hagree
  refine ⟨fun c => (Cert.FfnEndIdeal.Gen.dats m 0 c).arrAt 6 Cert.FfnEndIdeal.cfg0.N, Cert.FfnEndIdeal.Value.run_blocks m ρ,
    (θ_run Cert.FfnEndRefIdeal.defs _ _).mono (fun r h c => ⟨(h c).1.trans ?_, (h c).2⟩)
      (Cert.FfnEndRefIdeal.Value.run (F := Ideal) m' ρ')⟩
  refine (Cert.FfnEndRefIdeal.Read.val_main_v33_eq (F := Ideal) m' c).trans
    (Eq.trans ?_ (Cert.FfnEndIdeal.Val.arr6 m c).symm)
  obtain ⟨h0, h1, h2, h3, h4, h5⟩ := hagree c
  rw [h0, h1, h2, h3, h4, h5]
  rfl

end Cert.Proof

end
-- ==== Proof.Nsa.Claim.lean ====
/- The attention's claims. -/
module

public import proofs.«01_k».proof.Defs
public import proofs.«01_k».proof.Proof.Gen.Nsa.Frame
public import proofs.«01_k».proof.Proof.Gen.NsaIdeal.Frame

@[expose] public section

noncomputable section

open Idealize.ShloMosaic Idealize.SL.Sem

namespace Cert.Proof

/-- The attention's kernel runs to the end, leaves its arguments alone and its counters at zero. -/
theorem nsa_frame : Cert.quiescent_Nsa (hNsa := Cert.Nsa.Gen.facts) :=
  fun m ρ _ => Cert.Nsa.Gen.frame m ρ

/-- So does its idealization. -/
theorem nsaIdeal_frame : Cert.quiescent_NsaIdeal (hNsaIdeal := Cert.NsaIdeal.Gen.facts) :=
  fun m ρ _ => Cert.NsaIdeal.Gen.frame m ρ

end Cert.Proof

end
-- ==== Proof.Bias.Value.lean ====
/- The bias call's output equals the reference's. -/
module

public import proofs.«01_k».proof.Proof.Gen.BiasIdeal.Value
public import proofs.«01_k».proof.Proof.Gen.BiasRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.BiasIdeal.Val

open Cert.BiasIdeal Cert.BiasIdeal.Gen
open Cert.BiasRefIdeal.Read
open Idealize.ShloMosaic.Pipeline (Dat)

section Arrays

variable (P : Vec Ideal S2x32x128 .f32) (W : Vec Ideal S2x32x128x128 .f32) (B : Vec Ideal S2x128 .f32)

/-- The bias of the keys (0) or the values (1) in a hidden unit: the positions against the first layer's weights, over the
    places of a block and the entries of a head, and the layer's own bias. -/
def bias (c : Fin 2) (e : Fin 128) : EReal :=
  (∑ r : Fin 32, ∑ d : Fin 128, P (ix3 c r d) * W (ix4 c r d e)) + B (ix2 c e)

/-- The reference's result, at an entry. -/
theorem ref_at (j : S2x1x128.Idx) : val_main_v2 (F := Ideal) P W B j = bias P W B (j 0) (j 2) := by
  idx_vars j
  unfold val_main_v2 val_main_v1 val_main_v0 bias
  pointwise
  exact congrArg (· + _) (Finset.sum_comm)

/-- A sum over the flattened places and entries is the sum over both. -/
theorem sum_flat (f : Fin 32 → Fin 128 → EReal) :
    ∑ k : Fin 4096, f ⟨k.val / 128, by omega⟩ ⟨k.val % 128, by omega⟩ = ∑ r : Fin 32, ∑ d : Fin 128, f r d := by
  rw [← Fintype.sum_prod_type']
  exact Fintype.sum_equiv (finProdFinEquiv (m := 32) (n := 128)).symm _ _ fun _ => rfl

/-- What the body stores for the keys or for the values, at an entry. -/
theorem pay_at (p : Vec Ideal S1x1x4096 .f32) (w : Vec Ideal S1x4096x128 .bf16) (b : Vec Ideal S1x1x128 .f32) (j : S1x1x128.Idx) :
    k0_pay1 (F := Ideal) p w b j = (∑ k : Fin 4096, p (ix3 0 0 k) * w (ix3 0 k (j 2))) + b (ix3 0 0 (j 2)) := by
  idx_vars j
  pointwise [k0_pay1]

end Arrays

variable (m : (ℓ : Loc nD τ sig) → Buf (Elt Ideal) ℓ) (c : Dev nD)

/-- The arguments as the reference takes them. -/
abbrev Pe : Vec Ideal S2x32x128 .f32 := m ((c : Thread nD τ).loc main_arg0)
abbrev W1 : Vec Ideal S2x32x128x128 .f32 := m ((c : Thread nD τ).loc main_arg1)
abbrev B1 : Vec Ideal S2x128 .f32 := m ((c : Thread nD τ).loc main_arg2)

/-- The flattened positions, at an entry. -/
theorem v0_at (h : Fin 2) (k : Fin 4096) : (V m c main_v0 : Vec Ideal S2x1x4096 .f32) (ix3 h 0 k) =
    Pe m c (ix3 h ⟨k.val / 128, by omega⟩ ⟨k.val % 128, by omega⟩) := by
  simp only [V, hostOps0]
  entry_read
  refine shapeCast_apply _ _ _ _ ?_
  refine (Shape.rowMajor_val_three _).trans (Eq.trans ?_ (Shape.rowMajor_val_three _).symm)
  show (h.val * 32 + k.val / 128) * 128 + k.val % 128 = (h.val * 1 + 0) * 4096 + k.val
  omega

/-- The flattened weights, at an entry. -/
theorem v2_at (h : Fin 2) (k : Fin 4096) (e : Fin 128) : (V m c main_v2 : Vec Ideal S2x4096x128 .bf16) (ix3 h k e) =
    W1 m c (ix4 h ⟨k.val / 128, by omega⟩ ⟨k.val % 128, by omega⟩ e) := by
  simp only [V, hostOps0]
  entry_read
  refine Eq.trans (by pointwise) (shapeCast_apply (W1 m c) shapeCasts_S2x32x128x128_S2x4096x128 (ix3 h k e) _ ?_)
  refine (Shape.rowMajor_val_four _).trans (Eq.trans ?_ (Shape.rowMajor_val_three _).symm)
  show ((h.val * 32 + k.val / 128) * 128 + k.val % 128) * 128 + e.val = (h.val * 4096 + k.val) * 128 + e.val
  omega

/-- The layer's own bias, at an entry. -/
theorem v3_at (h : Fin 2) (e : Fin 128) : (V m c main_v3 : Vec Ideal S2x1x128 .f32) (ix3 h 0 e) = B1 m c (ix2 h e) := by
  simp only [V, hostOps0]
  entry_read
  refine shapeCast_apply _ _ _ _ ?_
  refine (Shape.rowMajor_val_two _).trans (Eq.trans ?_ (Shape.rowMajor_val_three _).symm)
  show h.val * 128 + e.val = (h.val * 1 + 0) * 128 + e.val
  omega

/-- The windows' blocks are their arrays. -/
theorem idx : ∀ t : Fin cfg0.N, win0_0.index t = ![0, 0, 0] ∧ win0_1.index t = ![0, 0, 0] ∧ win0_2.index t = ![0, 0, 0] ∧
    win0_3.index t = ![0, 0, 0] :=
  (by decide +kernel : ∀ t : Fin grid0.N, _)

theorem blk0 (t : Fin cfg0.N) (h : Fin 2) (k : Fin 4096) : iblk m c 0 t (ix3 h 0 k) = (V m c main_v0 : Vec Ideal S2x1x4096 .f32) (ix3 h 0 k) := by
  blk_ext [iblk, idx t]

theorem blk1 (t : Fin cfg0.N) (h : Fin 2) (k : Fin 4096) (e : Fin 128) :
    iblk m c 1 t (ix3 h k e) = (V m c main_v2 : Vec Ideal S2x4096x128 .bf16) (ix3 h k e) := by
  blk_ext [iblk, idx t]

theorem blk2 (t : Fin cfg0.N) (h : Fin 2) (e : Fin 128) : iblk m c 2 t (ix3 h 0 e) = (V m c main_v3 : Vec Ideal S2x1x128 .f32) (ix3 h 0 e) := by
  blk_ext [iblk, idx t]

/-- What is stored for the keys (0) or the values (1) is the bias. -/
theorem half_at (t : Fin cfg0.N) (h : Fin 2) (p : Vec Ideal S1x1x4096 .f32) (w : Vec Ideal S1x4096x128 .bf16) (b : Vec Ideal S1x1x128 .f32)
    (hp : ∀ k : Fin 4096, p (ix3 0 0 k) = iblk m c 0 t (ix3 h 0 k))
    (hw : ∀ (k : Fin 4096) (e : Fin 128), w (ix3 0 k e) = iblk m c 1 t (ix3 h k e))
    (hb : ∀ e : Fin 128, b (ix3 0 0 e) = iblk m c 2 t (ix3 h 0 e)) (j : S1x1x128.Idx) :
    k0_pay1 (F := Ideal) p w b j = bias (Pe m c) (W1 m c) (B1 m c) h (j 2) := by
  refine (pay_at p w b j).trans (congrArg₂ (· + ·) (Eq.trans ?_ (sum_flat fun r d => Pe m c (ix3 h r d) * W1 m c (ix4 h r d (j 2)))) ?_)
  · exact Finset.sum_congr rfl fun k _ => congrArg₂ (· * ·) ((hp k).trans ((blk0 m c t h k).trans (v0_at m c h k)))
      ((hw k (j 2)).trans ((blk1 m c t h k (j 2)).trans (v2_at m c h k (j 2))))
  · exact (hb (j 2)).trans ((blk2 m c t h (j 2)).trans (v3_at m c h (j 2)))

/-- A half of the positions, of the weights, or of a row of biases, as the body loads it. -/
theorem ld_pos (x : Vec Ideal S2x1x4096 .f32) (k : Fin 4096) :
    View.ld (Val := Elt Ideal) x r0_0 (ix3 0 0 k) = x (ix3 0 0 k) ∧ View.ld (Val := Elt Ideal) x r0_3 (ix3 0 0 k) = x (ix3 1 0 k) := by
  constructor <;> (rw [View.ld_unit]; pointwise)

theorem ld_weight (x : Vec Ideal S2x4096x128 .bf16) (k : Fin 4096) (e : Fin 128) :
    View.ld (Val := Elt Ideal) x r0_1 (ix3 0 k e) = x (ix3 0 k e) ∧ View.ld (Val := Elt Ideal) x r0_4 (ix3 0 k e) = x (ix3 1 k e) := by
  constructor <;> (rw [View.ld_unit]; pointwise)

theorem ld_row (x : Vec Ideal S2x1x128 .f32) (e : Fin 128) :
    View.ld (Val := Elt Ideal) x r0_2 (ix3 0 0 e) = x (ix3 0 0 e) ∧ View.ld (Val := Elt Ideal) x r0_5 (ix3 0 0 e) = x (ix3 1 0 e) := by
  constructor <;> (rw [View.ld_unit]; pointwise)

/-- The bias by an index of the output. -/
def biasAt (y : S2x1x128.Idx) : EReal := bias (Pe m c) (W1 m c) (B1 m c) (y 0) (y 2)

/-- The bias at an index of either half. -/
theorem emb_at (h : Fin 2) (x : S1x1x128.Idx) (y : S2x1x128.Idx) (h0 : (y 0).val = h.val) (h2 : (y 2).val = (x 2).val) :
    bias (Pe m c) (W1 m c) (B1 m c) h (x 2) = biasAt m c y :=
  congrArg₂ (bias (Pe m c) (W1 m c) (B1 m c)) (Fin.ext h0.symm) (Fin.ext h2.symm)

/-- The block the one grid point writes back is the reference's result. -/
theorem out_blk (t : Fin cfg0.N) (y : S2x1x128.Idx) :
    out0_3 (F := Ideal) (iblk m c 0 t) (iblk m c 1 t) (iblk m c 2 t) y = biasAt m c y := by
  unfold out0_3
  refine View.canon_apply_of_pieces (Val := Elt Ideal) (biasAt m c) _ (fun p hp x => ?_) y (cover0_3 _ _ y)
  simp only [List.mem_cons, List.not_mem_nil, or_false] at hp
  rcases hp with rfl | rfl
  · exact (half_at m c t 1 _ _ _ (fun k => (ld_pos _ k).2) (fun k e => (ld_weight _ k e).2) (fun e => (ld_row _ e).2) x).trans
      (emb_at m c 1 x _ (show 1 + 1 * (x 0).val = 1 by have : (x 0).val < 1 := (x 0).isLt; omega) (show 0 + 1 * (x 2).val = (x 2).val by omega))
  · exact (half_at m c t 0 _ _ _ (fun k => (ld_pos _ k).1) (fun k e => (ld_weight _ k e).1) (fun e => (ld_row _ e).1) x).trans
      (emb_at m c 0 x _ (show 0 + 1 * (x 0).val = 0 by have : (x 0).val < 1 := (x 0).isLt; omega) (show 0 + 1 * (x 2).val = (x 2).val by omega))

/-- The output array is the reference's result. -/
theorem arr3 : (dats m 0 c).arrAt 3 cfg0.N = val_main_v2 (F := Ideal) (Pe m c) (W1 m c) (B1 m c) := by
  refine (dats m 0 c).arrAt_eq_of_covers 3 _ (by decide +kernel) fun t hf y => ?_
  blk_simp
  rw [after0_3]
  refine (out_blk m c t _).trans (Eq.trans (congrArg (biasAt m c) ?_) (ref_at (Pe m c) (W1 m c) (B1 m c) _).symm)
  blk_ext [idx t]

end Cert.BiasIdeal.Val

end
-- ==== Proof.Bias.Claim.lean ====
/- The bias call's claims. -/
module

public import proofs.«01_k».proof.Defs
public import proofs.«01_k».proof.Proof.Bias.Value
public import proofs.«01_k».proof.Proof.Gen.Bias.Frame
public import proofs.«01_k».proof.Proof.Gen.BiasRefIdeal.Run

@[expose] public section

noncomputable section

open Idealize.ShloMosaic Idealize.SL.Sem

namespace Cert.Proof

/-- The bias kernel runs to the end, leaves its arguments alone and its counters at zero. -/
theorem bias_frame : Cert.quiescent_Bias (hBias := Cert.Bias.Gen.facts) :=
  fun m ρ _ => Cert.Bias.Gen.frame m ρ

/-- So does its idealization. -/
theorem biasIdeal_frame : Cert.quiescent_BiasIdeal (hBiasIdeal := Cert.BiasIdeal.Gen.facts) :=
  fun m ρ _ => Cert.BiasIdeal.Gen.frame m ρ

/-- So does the reference. -/
theorem biasRef_frame : Cert.quiescent_BiasRefIdeal (hBiasRefIdeal := Cert.BiasRefIdeal.Gen.facts) :=
  fun m ρ _ => (θ_run Cert.BiasRefIdeal.defs _ _).mono
    (fun r h => ⟨fun c => (h c).2, Idealize.ShloMosaic.sem_eq_zero_of_no_sems (by decide) r.2⟩)
    (Cert.BiasRefIdeal.Value.run (F := Ideal) m ρ)

/-- Over the extended reals the bias kernel and the reference end with the same result. -/
theorem bias_algebraic : Cert.algebraic_BiasIdeal_BiasRefIdeal (hBiasIdeal := Cert.BiasIdeal.Gen.facts)
    (hBiasRefIdeal := Cert.BiasRefIdeal.Gen.facts) := by
  intro m ρ m' ρ' _ hagree
  refine ⟨fun c => (Cert.BiasIdeal.Gen.dats m 0 c).arrAt 3 Cert.BiasIdeal.cfg0.N, Cert.BiasIdeal.Value.run_blocks m ρ,
    (θ_run Cert.BiasRefIdeal.defs _ _).mono (fun r h c => ⟨(h c).1.trans ?_, (h c).2⟩)
      (Cert.BiasRefIdeal.Value.run (F := Ideal) m' ρ')⟩
  refine (Cert.BiasRefIdeal.Read.val_main_v2_eq (F := Ideal) _ _ _).trans (Eq.trans ?_ (Cert.BiasIdeal.Val.arr3 m c).symm)
  obtain ⟨h0, h1, h2⟩ := hagree c
  rw [h0, h1, h2]

end Cert.Proof

end
-- ==== Proof.Front.Runs.lean ====
/- The half step as the first call of the two: the body in its three cases. -/
module

public import proofs.«01_k».proof.Proof.Gen.FrontIdeal.Launch
public import proofs.«01_k».proof.Proof.Gen.FrontIdeal.Skeleton
public import proofs.«01_k».proof.Proof.Gen.FrontIdeal.Points
public import proofs.«01_k».proof.Proof.Gen.FrontIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FrontIdeal.Half

open Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What a buffer holds when the first call starts. -/
abbrev V (c : Dev nD) (b : Ref sig .tc) : Buf (Elt F) ((c : Thread nD τ).loc b) := V7 m c b

/-! ## The windows' blocks -/

/-- The block of a window's array a point stages. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 is only read, so its buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is only read, so its buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 is only read, so its buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 is only read, so its buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 is only read, so its buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 is only read, so its buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- Whether the point is the first column block of its rows. -/
abbrev cond0_0 (i : grid0.Coords) : Prop := (Scalar.cmpi .ne (Scalar.extui (Scalar.cmpi .eq (BitVec.ofNat 32 (i 1).val) 0#32)) 0#32) = 1#1
/-- The point is the first column block just when its number is a multiple of eleven. -/
theorem hcond0_0 : ∀ t : Fin cfg0.N, cond0_0 (grid0.coords t) ↔ t.val % 11 = 0 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- Whether the point is the last column block of its rows. -/
abbrev cond0_1 (i : grid0.Coords) : Prop := k0_cond2 i = 1#1
/-- The point is the last column block just when its number is ten more than a multiple of eleven. -/
theorem hcond0_1 : ∀ t : Fin cfg0.N, cond0_1 (grid0.coords t) ↔ t.val % 11 = 10 :=
  (fun t => by
    have ht : t.val < 352 := Nat.lt_of_lt_of_eq t.isLt N_0
    have e0 : (grid0.coords t 0).val = t.val / 11 % 32 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-! ## Where the windows are idle -/

/-- Window 0 is used at every point. -/
theorem liveAt0_0 : ∀ t : Fin cfg0.N, cfg0.idle 0 (grid0.coords t) = false := fun _ => rfl
/-- Window 1 is used at every point. -/
theorem liveAt0_1 : ∀ t : Fin cfg0.N, cfg0.idle 1 (grid0.coords t) = false := fun _ => rfl
/-- Window 2 is used at every point. -/
theorem liveAt0_2 : ∀ t : Fin cfg0.N, cfg0.idle 2 (grid0.coords t) = false := fun _ => rfl
/-- Window 3 is used at every point. -/
theorem liveAt0_3 : ∀ t : Fin cfg0.N, cfg0.idle 3 (grid0.coords t) = false := fun _ => rfl
/-- Window 4 is used at every point. -/
theorem liveAt0_4 : ∀ t : Fin cfg0.N, cfg0.idle 4 (grid0.coords t) = false := fun _ => rfl
/-- Window 5 is used at every point. -/
theorem liveAt0_5 : ∀ t : Fin cfg0.N, cfg0.idle 5 (grid0.coords t) = false := fun _ => rfl
/-- Output window 6 is left unwritten at the first column block. -/
theorem idleAt0_6_A : ∀ t : Fin cfg0.N, cond0_0 (grid0.coords t) → ¬cond0_1 (grid0.coords t) → cfg0.idle 6 (grid0.coords t) = true := by decide +kernel
/-- Output window 6 is not written back at the first column block. -/
theorem noFlush0_6_A : ∀ t : Fin cfg0.N, cond0_0 (grid0.coords t) → ¬cond0_1 (grid0.coords t) → (cfg0.win 6).flush t = false := by decide +kernel
/-- Output window 6 is left unwritten at a middle column block. -/
theorem idleAt0_6_B : ∀ t : Fin cfg0.N, ¬cond0_0 (grid0.coords t) → ¬cond0_1 (grid0.coords t) → cfg0.idle 6 (grid0.coords t) = true := by decide +kernel
/-- Output window 6 is not written back at a middle column block. -/
theorem noFlush0_6_B : ∀ t : Fin cfg0.N, ¬cond0_0 (grid0.coords t) → ¬cond0_1 (grid0.coords t) → (cfg0.win 6).flush t = false := by decide +kernel
/-- Output window 6 is written at the last column block. -/
theorem liveAt0_6_C : ∀ t : Fin cfg0.N, ¬cond0_0 (grid0.coords t) → cond0_1 (grid0.coords t) → cfg0.idle 6 (grid0.coords t) = false := by decide +kernel
/-- Output window 7 is left unwritten at the first column block. -/
theorem idleAt0_7_A : ∀ t : Fin cfg0.N, cond0_0 (grid0.coords t) → ¬cond0_1 (grid0.coords t) → cfg0.idle 7 (grid0.coords t) = true := by decide +kernel
/-- Output window 7 is not written back at the first column block. -/
theorem noFlush0_7_A : ∀ t : Fin cfg0.N, cond0_0 (grid0.coords t) → ¬cond0_1 (grid0.coords t) → (cfg0.win 7).flush t = false := by decide +kernel
/-- Output window 7 is left unwritten at a middle column block. -/
theorem idleAt0_7_B : ∀ t : Fin cfg0.N, ¬cond0_0 (grid0.coords t) → ¬cond0_1 (grid0.coords t) → cfg0.idle 7 (grid0.coords t) = true := by decide +kernel
/-- Output window 7 is not written back at a middle column block. -/
theorem noFlush0_7_B : ∀ t : Fin cfg0.N, ¬cond0_0 (grid0.coords t) → ¬cond0_1 (grid0.coords t) → (cfg0.win 7).flush t = false := by decide +kernel
/-- Output window 7 is written at the last column block. -/
theorem liveAt0_7_C : ∀ t : Fin cfg0.N, ¬cond0_0 (grid0.coords t) → cond0_1 (grid0.coords t) → cfg0.idle 7 (grid0.coords t) = false := by decide +kernel

/-! ## The kernel body on any staging memrefs, and what it stores -/

/-- Output window 6's buffer as a view. -/
abbrev VO0_6 : View sig .tc .vmem S512x2048 .f32 := (Memref.whole cc0_stg6_0 : Memref sig .tc .vmem S512x2048 .f32).view
/-- Output window 7's buffer as a view. -/
abbrev VO0_7 : View sig .tc .vmem S512x2048 .bf16 := (Memref.whole cc0_stg7_0 : Memref sig .tc .vmem S512x2048 .bf16).view
/-- Window 0's staging buffer at a point. -/
abbrev ms0_0 (t : Fin cfg0.N) : Memref sig .tc .vmem S512x2048 .f32 := win0_0.stage (cfg0.slots t 0)
/-- It is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S2048x512 .bf16 := win0_2.stage (cfg0.slots t 2)
/-- It is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S2048x512 .bf16 := win0_3.stage (cfg0.slots t 3)
/-- It is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S512x2048 .bf16 := win0_4.stage (cfg0.slots t 4)
/-- It is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x2048 .f32 := win0_5.stage (cfg0.slots t 5)
/-- It is a whole buffer. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S512x2048 .f32 := win0_6.stage (cfg0.slots t 6)
/-- It is a whole buffer. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S512x2048 .bf16 := win0_7.stage (cfg0.slots t 7)
/-- It is a whole buffer. -/
abbrev hs0_7 (t : Fin cfg0.N) : (ms0_7 t).IsWhole := hstage0_7 ((cfg0.slots t 7).cast nbuf0_7)
/-- The scratch of normalised rows. -/
abbrev scM0_0 : Memref sig .tc .vmem S512x2048 .bf16 := Memref.whole cc0_scratch0
/-- The scratch of the accumulated sum. -/
abbrev scM0_1 : Memref sig .tc .vmem S512x2048 .f32 := Memref.whole cc0_scratch1
/-- The scratch of normalised rows, as a view. -/
abbrev VS0_0 : View sig .tc .vmem S512x2048 .bf16 := scM0_0.view
/-- The scratch of the accumulated sum, as a view. -/
abbrev VS0_1 : View sig .tc .vmem S512x2048 .f32 := scM0_1.view

set_option maxHeartbeats 1000000 in
/-- The body run at the first column block, with the pieces it stores. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) :
    Σ' (L6 : List (View.Piece (Elt F) S512x2048 .f32)), Σ' (L7 : List (View.Piece (Elt F) S512x2048 .bf16)), Σ' (LS0 : List (View.Piece (Elt F) S512x2048 .bf16)), { LS1 : List (View.Piece (Elt F) S512x2048 .f32) //
      ∀ (xi6 : Vec F S512x2048 .f32) (xi7 : Vec F S512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0_ffn_half_step_eq_skeleton]; unfold cc0_ffn_half_step_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

set_option maxHeartbeats 1000000 in
/-- The body run at a middle column block, with the pieces it stores. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) :
    Σ' (L6 : List (View.Piece (Elt F) S512x2048 .f32)), Σ' (L7 : List (View.Piece (Elt F) S512x2048 .bf16)), Σ' (LS0 : List (View.Piece (Elt F) S512x2048 .bf16)), { LS1 : List (View.Piece (Elt F) S512x2048 .f32) //
      ∀ (xi6 : Vec F S512x2048 .f32) (xi7 : Vec F S512x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11) K } := by
  refine ⟨[], [], [], ?_, fun xi6 xi7 E K => ?run⟩
  case run =>
    simp only [cc0_ffn_half_step_eq_skeleton]; unfold cc0_ffn_half_step_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _; iexact HS1

set_option maxHeartbeats 1000000 in
/-- The body run at the last column block, with the pieces it stores. -/
noncomputable def kernelRun0_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) :
    Σ' (L6 : List (View.Piece (Elt F) S512x2048 .f32)), Σ' (L7 : List (View.Piece (Elt F) S512x2048 .bf16)), Σ' (LS0 : List (View.Piece (Elt F) S512x2048 .bf16)), { LS1 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_half_step i arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc0_ffn_half_step_eq_skeleton]; unfold cc0_ffn_half_step_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    iexists _; iexact HS1

end Cert.FrontIdeal.Half

end
-- ==== Proof.Front.Half.lean ====
/- The half step as the first call of the two: what its windows and scratches hold at every point. -/
module

public import proofs.«01_k».proof.Proof.Front.Runs

@[expose] public section

set_option maxRecDepth 16384

noncomputable section

namespace Cert.FrontIdeal.Half

open Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What output window 6 holds after the first column block. -/
def out0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) : Vec F S512x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- What output window 7 holds after the first column block. -/
def out0_A_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) : Vec F S512x2048 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- The pieces stored at the first column block cover scratch 0. -/
theorem scover0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S512x2048.size (by sl_kernel_rfl) y

/-- What scratch 0 holds after the first column block. -/
def sout0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- The pieces stored at the first column block cover scratch 1. -/
theorem scover0_A_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (y : S512x2048.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S512x2048.size (by sl_kernel_rfl) y

/-- What scratch 1 holds after the first column block. -/
def sout0_A_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) : Vec F S512x2048 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- What output window 6 holds after a middle column block. -/
def out0_B_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

/-- What output window 7 holds after a middle column block. -/
def out0_B_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What scratch 0 holds after a middle column block. -/
def sout0_B_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .bf16 := xs0

/-- The pieces stored at a middle column block cover scratch 1. -/
theorem scover0_B_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) (y : S512x2048.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S512x2048.size (by sl_kernel_rfl) y

/-- What scratch 1 holds after a middle column block. -/
def sout0_B_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : ¬cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- The pieces stored at the last column block cover output window 6. -/
theorem cover0_C_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S512x2048.size (by sl_kernel_rfl) y

/-- What output window 6 holds after the last column block. -/
def out0_C_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- The pieces stored at the last column block cover output window 7. -/
theorem cover0_C_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S512x2048.size (by sl_kernel_rfl) y

/-- What output window 7 holds after the last column block. -/
def out0_C_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- What scratch 0 holds after the last column block. -/
def sout0_C_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .bf16 := xs0

/-- The pieces stored at the last column block cover scratch 1. -/
theorem scover0_C_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) (y : S512x2048.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S512x2048.size (by sl_kernel_rfl) y

/-- What scratch 1 holds after the last column block. -/
def sout0_C_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i)
    (x0 : Vec F S512x2048 .f32) (x1 : Vec F S1x2048 .f32) (x2 : Vec F S2048x512 .bf16) (x3 : Vec F S2048x512 .bf16) (x4 : Vec F S512x2048 .bf16) (x5 : Vec F S1x2048 .f32) (xs0 : Vec F S512x2048 .bf16) (xs1 : Vec F S512x2048 .f32) : Vec F S512x2048 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the outputs hold after each point -/

/-- What the two outputs' buffers and the two scratches hold after each point. -/
def outsAt0 (c : Dev nD) : (n : ℕ) → n < cfg0.N → Vec F S512x2048 .f32 × Vec F S512x2048 .bf16 × Vec F S512x2048 .bf16 × Vec F S512x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 11 = 0 then
      if h1 : (n + 1) % 11 = 10 then
        False.elim (by have hN : n + 1 < 352 := lt_of_lt_of_eq hn (show cfg0.N = 352 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 11 = 10 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

/-- What is held after the first column block. -/
theorem outsAt0_A (c : Dev nD) (t : Fin cfg0.N) (h0 : t.val % 11 = 0) (h1 : ¬t.val % 11 = 10) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- What is held after a middle column block. -/
theorem outsAt0_B (c : Dev nD) (t : Fin cfg0.N) (h0 : ¬t.val % 11 = 0) (h1 : ¬t.val % 11 = 10) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- What is held after the last column block. -/
theorem outsAt0_C (c : Dev nD) (t : Fin cfg0.N) (h0 : ¬t.val % 11 = 0) (h1 : t.val % 11 = 10) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The two scratches at any contents, and the generator register. -/
def anyScratch (c : Dev nD) : sProp 𝕄 :=
  iprop(iprop((∃ d, owns (c : Thread nD τ) scM0_0 fullShare d) ∗ (∃ d, owns (c : Thread nD τ) scM0_1 fullShare d)) ∗ (∃ r, prngReg c r))

/-- The scratches before each point: at any contents at the start, then as the point before left them. -/
def PhiS (c : Dev nD) : (n : ℕ) → n ≤ cfg0.N → sProp 𝕄
  | 0, _ => anyScratch c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

/-- At the start the scratches hold anything. -/
theorem PhiS_zero (c : Dev nD) (n : ℕ) (h : n ≤ cfg0.N) (hz : n = 0) : PhiS m c n h = anyScratch c := by
  subst hz; rfl

/-- After a point the scratches hold what it left. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Past the start the scratches hold what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The first call's proof data: the arrays as found, the blocks each point leaves, and the scratches between points. -/
def half (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The arrays are the buffers as the call finds them. -/
theorem A_eq (c : Dev nD) (w : Fin cfg0.W) : (half m c).A w = V m c (Pipeline.arrRef spec0 w) := by
  dsimp only [half]

/-- The scratches before a point, by its number. -/
theorem PhiS_castSucc (c : Dev nD) (t : Fin cfg0.N) :
    (half m c).Φ t.castSucc = PhiS m c t.val (Nat.le_of_lt t.isLt) := by
  dsimp only [half]; exact Pipeline.Dat.Φ_castSucc (PhiS m c) t

/-- What window 0's buffer holds after a point. -/
theorem after0_0 (c : Dev nD) (t : Fin cfg0.N) : (half m c).after 0 t = iblk m c 0 t := by dsimp only [half]
/-- What window 1's buffer holds after a point. -/
theorem after0_1 (c : Dev nD) (t : Fin cfg0.N) : (half m c).after 1 t = iblk m c 1 t := by dsimp only [half]
/-- What window 2's buffer holds after a point. -/
theorem after0_2 (c : Dev nD) (t : Fin cfg0.N) : (half m c).after 2 t = iblk m c 2 t := by dsimp only [half]
/-- What window 3's buffer holds after a point. -/
theorem after0_3 (c : Dev nD) (t : Fin cfg0.N) : (half m c).after 3 t = iblk m c 3 t := by dsimp only [half]
/-- What window 4's buffer holds after a point. -/
theorem after0_4 (c : Dev nD) (t : Fin cfg0.N) : (half m c).after 4 t = iblk m c 4 t := by dsimp only [half]
/-- What window 5's buffer holds after a point. -/
theorem after0_5 (c : Dev nD) (t : Fin cfg0.N) : (half m c).after 5 t = iblk m c 5 t := by dsimp only [half]
/-- What window 6's buffer holds after a point. -/
theorem after0_6 (c : Dev nD) (t : Fin cfg0.N) : (half m c).after 6 t = (outsAt0 m c t.val t.isLt).1 := by dsimp only [half]
/-- What window 7's buffer holds after a point. -/
theorem after0_7 (c : Dev nD) (t : Fin cfg0.N) : (half m c).after 7 t = (outsAt0 m c t.val t.isLt).2.1 := by dsimp only [half]

/-- Window 0's buffer holds its block when the body runs. -/
theorem before0_0 (c : Dev nD) (t : Fin cfg0.N) (d) : (half m c).before 0 t d = iblk m c 0 t :=
  before0_0_of m (half m c) (A_eq m c 0) (after0_0 m c) t d
/-- Window 1's buffer holds its block when the body runs. -/
theorem before0_1 (c : Dev nD) (t : Fin cfg0.N) (d) : (half m c).before 1 t d = iblk m c 1 t :=
  before0_1_of m (half m c) (A_eq m c 1) (after0_1 m c) t d
/-- Window 2's buffer holds its block when the body runs. -/
theorem before0_2 (c : Dev nD) (t : Fin cfg0.N) (d) : (half m c).before 2 t d = iblk m c 2 t :=
  before0_2_of m (half m c) (A_eq m c 2) (after0_2 m c) t d
/-- Window 3's buffer holds its block when the body runs. -/
theorem before0_3 (c : Dev nD) (t : Fin cfg0.N) (d) : (half m c).before 3 t d = iblk m c 3 t :=
  before0_3_of m (half m c) (A_eq m c 3) (after0_3 m c) t d
/-- Window 4's buffer holds its block when the body runs. -/
theorem before0_4 (c : Dev nD) (t : Fin cfg0.N) (d) : (half m c).before 4 t d = iblk m c 4 t :=
  before0_4_of m (half m c) (A_eq m c 4) (after0_4 m c) t d
/-- Window 5's buffer holds its block when the body runs. -/
theorem before0_5 (c : Dev nD) (t : Fin cfg0.N) (d) : (half m c).before 5 t d = iblk m c 5 t :=
  before0_5_of m (half m c) (A_eq m c 5) (after0_5 m c) t d

/-! ## The body obligation, at a generic point -/

/-- What the body starts from at a point. -/
def bodyPre (c : Dev nD) (t : Fin cfg0.N) : sProp 𝕄 :=
  iprop((half m c).Φ t.castSucc ∗ (half m c).owesAt () t.castSucc
    ∗ (∃ d, owns (c : Thread nD τ) (ms0_0 t) fullShare ((half m c).before 0 t d))
    ∗ (∃ d, owns (c : Thread nD τ) (ms0_1 t) fullShare ((half m c).before 1 t d))
    ∗ (∃ d, owns (c : Thread nD τ) (ms0_2 t) fullShare ((half m c).before 2 t d))
    ∗ (∃ d, owns (c : Thread nD τ) (ms0_3 t) fullShare ((half m c).before 3 t d))
    ∗ (∃ d, owns (c : Thread nD τ) (ms0_4 t) fullShare ((half m c).before 4 t d))
    ∗ (∃ d, owns (c : Thread nD τ) (ms0_5 t) fullShare ((half m c).before 5 t d))
    ∗ (∃ d, owns (c : Thread nD τ) (ms0_6 t) fullShare ((half m c).before 6 t d))
    ∗ (∃ d, owns (c : Thread nD τ) (ms0_7 t) fullShare ((half m c).before 7 t d)))

/-- What the body leaves at a point. -/
def bodyPost (c : Dev nD) (t : Fin cfg0.N) : sProp 𝕄 :=
  iprop((half m c).Φ t.succ ∗ (half m c).owesAt () t.succ
    ∗ (half m c).leavesExact 0 t
    ∗ (half m c).leavesExact 1 t
    ∗ (half m c).leavesExact 2 t
    ∗ (half m c).leavesExact 3 t
    ∗ (half m c).leavesExact 4 t
    ∗ (half m c).leavesExact 5 t
    ∗ (half m c).leavesExact 6 t
    ∗ (half m c).leavesExact 7 t)

set_option maxHeartbeats 9600000 in
/-- The body takes every point from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (half m c).owesAt () t.succ = (half m c).owesAt () t.castSucc from rfl]
  rw [show (half m c).Φ t.succ = PhiS m c (t.val + 1) t.isLt from rfl, PhiS_succ]
  have hN : t.val < 352 := lt_of_lt_of_eq t.isLt (show cfg0.N = 352 from N_0)
  by_cases h0 : t.val % 11 = 0
  · by_cases h1 : t.val % 11 = 10
    · exfalso; omega
    · rw [show (half m c).leavesExact 0 t = owns (c : Thread nD τ) (ms0_0 t) fullShare ((half m c).after 0 t) from by
      unfold Dat.leavesExact; rw [liveAt0_0 t], after0_0]
      rw [show (half m c).leavesExact 1 t = owns (c : Thread nD τ) (ms0_1 t) fullShare ((half m c).after 1 t) from by
      unfold Dat.leavesExact; rw [liveAt0_1 t], after0_1]
      rw [show (half m c).leavesExact 2 t = owns (c : Thread nD τ) (ms0_2 t) fullShare ((half m c).after 2 t) from by
      unfold Dat.leavesExact; rw [liveAt0_2 t], after0_2]
      rw [show (half m c).leavesExact 3 t = owns (c : Thread nD τ) (ms0_3 t) fullShare ((half m c).after 3 t) from by
      unfold Dat.leavesExact; rw [liveAt0_3 t], after0_3]
      rw [show (half m c).leavesExact 4 t = owns (c : Thread nD τ) (ms0_4 t) fullShare ((half m c).after 4 t) from by
      unfold Dat.leavesExact; rw [liveAt0_4 t], after0_4]
      rw [show (half m c).leavesExact 5 t = owns (c : Thread nD τ) (ms0_5 t) fullShare ((half m c).after 5 t) from by
      unfold Dat.leavesExact; rw [liveAt0_5 t], after0_5]
      rw [Dat.leavesExact_idle (half m c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (half m c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, anyScratch]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 11 = 10
    · rw [show (half m c).leavesExact 0 t = owns (c : Thread nD τ) (ms0_0 t) fullShare ((half m c).after 0 t) from by
      unfold Dat.leavesExact; rw [liveAt0_0 t], after0_0]
      rw [show (half m c).leavesExact 1 t = owns (c : Thread nD τ) (ms0_1 t) fullShare ((half m c).after 1 t) from by
      unfold Dat.leavesExact; rw [liveAt0_1 t], after0_1]
      rw [show (half m c).leavesExact 2 t = owns (c : Thread nD τ) (ms0_2 t) fullShare ((half m c).after 2 t) from by
      unfold Dat.leavesExact; rw [liveAt0_2 t], after0_2]
      rw [show (half m c).leavesExact 3 t = owns (c : Thread nD τ) (ms0_3 t) fullShare ((half m c).after 3 t) from by
      unfold Dat.leavesExact; rw [liveAt0_3 t], after0_3]
      rw [show (half m c).leavesExact 4 t = owns (c : Thread nD τ) (ms0_4 t) fullShare ((half m c).after 4 t) from by
      unfold Dat.leavesExact; rw [liveAt0_4 t], after0_4]
      rw [show (half m c).leavesExact 5 t = owns (c : Thread nD τ) (ms0_5 t) fullShare ((half m c).after 5 t) from by
      unfold Dat.leavesExact; rw [liveAt0_5 t], after0_5]
      rw [show (half m c).leavesExact 6 t = owns (c : Thread nD τ) (ms0_6 t) fullShare ((half m c).after 6 t) from by
      unfold Dat.leavesExact; rw [liveAt0_6_C t (fun h => h0 ((hcond0_0 t).mp h)) ((hcond0_1 t).mpr h1)], after0_6]
      rw [show (half m c).leavesExact 7 t = owns (c : Thread nD τ) (ms0_7 t) fullShare ((half m c).after 7 t) from by
      unfold Dat.leavesExact; rw [liveAt0_7_C t (fun h => h0 ((hcond0_0 t).mp h)) ((hcond0_1 t).mpr h1)], after0_7]
      by_cases hz : t.val = 0
      · exfalso; have hN : t.val < 352 := lt_of_lt_of_eq t.isLt (show cfg0.N = 352 from N_0); omega
      · rw [PhiS_castSucc m c t, PhiS_pos m c _ _ hz]
        rw [outsAt0_C m c t h0 h1]
        unfold out0_C_6 out0_C_7 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _)
    · rw [show (half m c).leavesExact 0 t = owns (c : Thread nD τ) (ms0_0 t) fullShare ((half m c).after 0 t) from by
      unfold Dat.leavesExact; rw [liveAt0_0 t], after0_0]
      rw [show (half m c).leavesExact 1 t = owns (c : Thread nD τ) (ms0_1 t) fullShare ((half m c).after 1 t) from by
      unfold Dat.leavesExact; rw [liveAt0_1 t], after0_1]
      rw [show (half m c).leavesExact 2 t = owns (c : Thread nD τ) (ms0_2 t) fullShare ((half m c).after 2 t) from by
      unfold Dat.leavesExact; rw [liveAt0_2 t], after0_2]
      rw [show (half m c).leavesExact 3 t = owns (c : Thread nD τ) (ms0_3 t) fullShare ((half m c).after 3 t) from by
      unfold Dat.leavesExact; rw [liveAt0_3 t], after0_3]
      rw [show (half m c).leavesExact 4 t = owns (c : Thread nD τ) (ms0_4 t) fullShare ((half m c).after 4 t) from by
      unfold Dat.leavesExact; rw [liveAt0_4 t], after0_4]
      rw [show (half m c).leavesExact 5 t = owns (c : Thread nD τ) (ms0_5 t) fullShare ((half m c).after 5 t) from by
      unfold Dat.leavesExact; rw [liveAt0_5 t], after0_5]
      rw [Dat.leavesExact_idle (half m c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (half m c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 352 := lt_of_lt_of_eq t.isLt (show cfg0.N = 352 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The body called at a point is the body at its staging buffers. -/
theorem defs₀_row (t : Fin cfg0.N) :
    defs₀ (F := F) .tc cfg0.body (cfg0.bodyArgs t (cfg0.slots t)) = bodyAt0 t := by
  unfold defs₀; rw [Defs.onTc_tc]

/-- The body does what the proof data say. -/
theorem body_obligation (c : Dev nD) : BodyObligation (half (F := F) m c) (defs₀ (F := F)) Variants.none () Set.univ := fun t => by
  rw [bigSep_W0, bigSep_W0, defs₀_row]
  exact triple_restated (sound_body m c t) rfl .rfl fun _ => .rfl

/-- Past the start the scratches hold something. -/
theorem half_forget (c : Dev nD) (t : Fin (cfg0.N + 1)) (ht : t.val ≠ 0) : (half m c).Φ t ⊢ anyScratch c := by
  rw [show (half m c).Φ t = PhiS m c t.val (Nat.le_of_lt_succ t.isLt) from rfl, PhiS_pos m c _ _ ht, anyScratch]
  iintro ⟨⟨HS0, HS1⟩, Hg⟩
  isplitl [HS0 HS1]
  · isplitl [HS0]
    · iexists _; iexact HS0
    iexists _; iexact HS1
  iexact Hg

/-- So they do at the end. -/
theorem half_out (c : Dev nD) : (half m c).Φ (Fin.last cfg0.N) ⊢ anyScratch c :=
  half_forget m c _ (by rw [Fin.val_last]; have : cfg0.N = 352 := N_0; omega)

end Cert.FrontIdeal.Half

end
-- ==== Proof.Front.Proj.lean ====
/-
  The in-projection's pipelined call as a run of its grid: what each of its nine windows holds after every grid
  point, why the body keeps that, and what the run therefore leaves in memory. Point t of the 224 is row block
  t / 14 and column step t % 14; a window whose step has not come, or is past, keeps what it held.
-/
module

public import proofs.«01_k».proof.Proof.Gen.FrontIdeal.Regions
public import proofs.«01_k».proof.Proof.Gen.FrontIdeal.Skeleton
public import proofs.«01_k».proof.Proof.Gen.FrontIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.FrontIdeal.Proj

open Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- What every buffer holds when the second call starts: the first has left its two results in their buffers, and the
    weight has been packed and rounded. -/
abbrev V (c : Dev nD) (b : Ref sig .tc) : Buf (Elt F) ((c : Thread nD τ).loc b) := W c b

/-- Window w's block of its array at point t. -/
def iblk (c : Dev nD) (w : Fin cfg1.W) (t : Fin cfg1.N) :
    ((cfg1.win w).xblock (cfg1.grid.coords t)).Idx → Elt F (cfg1.win w).elt :=
  ((cfg1.win w).blk t).view.read (Elt F) (V W c (Pipeline.arrRef spec1 w))

/-! ## What a point computes -/

/-- A whole block of rows. -/
abbrev rH : Rect S1024x2048 := Rect.unit (s := S1024x2048) ![0, 0] S1024x2048.size inb_S1024x2048_S1024x2048_0_0
/-- A whole block of packed weight columns. -/
abbrev rW : Rect S2048x512 := Rect.unit (s := S2048x512) ![0, 0] S2048x512.size inb_S2048x512_S2048x512_0_0
/-- A whole block of 512 product columns. -/
abbrev rZ : Rect S1024x512 := Rect.unit (s := S1024x512) ![0, 0] S1024x512.size inb_S1024x512_S1024x512_0_0
/-- A whole block of 128 gate columns. -/
abbrev rG : Rect S1024x128 := Rect.unit (s := S1024x128) ![0, 0] S1024x128.size inb_S1024x128_S1024x128_0_0
/-- The rows 0, 4, 8, … of a key-value block. -/
abbrev rK0 : Rect S4096x128 :=
  ⟨(⟨![0, 0], S1024x128.size, ![4, 1], inb_S4096x128_S1024x128_0_0_s_4_1⟩ : LoadRect S4096x128), spos_4_1⟩
/-- The rows 1, 5, 9, … of a key-value block. -/
abbrev rK1 : Rect S4096x128 :=
  ⟨(⟨![1, 0], S1024x128.size, ![4, 1], inb_S4096x128_S1024x128_1_0_s_4_1⟩ : LoadRect S4096x128), spos_4_1⟩
/-- The rows 2, 6, 10, … of a key-value block. -/
abbrev rK2 : Rect S4096x128 :=
  ⟨(⟨![2, 0], S1024x128.size, ![4, 1], inb_S4096x128_S1024x128_2_0_s_4_1⟩ : LoadRect S4096x128), spos_4_1⟩
/-- The rows 3, 7, 11, … of a key-value block. -/
abbrev rK3 : Rect S4096x128 :=
  ⟨(⟨![3, 0], S1024x128.size, ![4, 1], inb_S4096x128_S1024x128_3_0_s_4_1⟩ : LoadRect S4096x128), spos_4_1⟩

/-- The product of a block of rows and a block of weight columns, as a whole block is left with it. -/
def prodOut (x0 : Vec F S1024x2048 .bf16) (x1 : Vec F S2048x512 .bf16) : Vec F S1024x512 .f32 :=
  View.canon [⟨rZ, k1_pay1 (View.ld x0 rH) (View.ld x1 rW)⟩]

/-- The same product rounded to bf16. -/
def roundOut (x0 : Vec F S1024x2048 .bf16) (x1 : Vec F S2048x512 .bf16) : Vec F S1024x512 .bf16 :=
  View.canon [⟨rZ, k1_pay2 (View.ld x0 rH) (View.ld x1 rW)⟩]

/-- The product's first 128 columns. -/
def gateOut (x0 : Vec F S1024x2048 .bf16) (x1 : Vec F S2048x512 .bf16) : Vec F S1024x128 .f32 :=
  View.canon [⟨rG, k1_pay22 (View.ld x0 rH) (View.ld x1 rW)⟩]

/-- The product's four column quarters, laid out as every fourth row each. -/
def kvOut (x0 : Vec F S1024x2048 .bf16) (x1 : Vec F S2048x512 .bf16) : Vec F S4096x128 .f32 :=
  View.canon [⟨rK3, k1_pay8 (View.ld x0 rH) (View.ld x1 rW)⟩, ⟨rK2, k1_pay7 (View.ld x0 rH) (View.ld x1 rW)⟩,
    ⟨rK1, k1_pay6 (View.ld x0 rH) (View.ld x1 rW)⟩, ⟨rK0, k1_pay5 (View.ld x0 rH) (View.ld x1 rW)⟩]

/-- One store of a whole block of 512 columns covers it. -/
theorem cover_Z {e : EltTy} (p : Vec F S1024x512 e) (y : S1024x512.Idx) :
    ∃ pc ∈ ([⟨rZ, p⟩] : List (View.Piece (Elt F) S1024x512 e)), y ∈ pc.1.set :=
  View.cover_of_tiled [⟨rZ, p⟩] S1024x512.size (by rfl) y

/-- One store of a whole block of 128 columns covers it. -/
theorem cover_G (p : Vec F S1024x128 .f32) (y : S1024x128.Idx) :
    ∃ pc ∈ ([⟨rG, p⟩] : List (View.Piece (Elt F) S1024x128 .f32)), y ∈ pc.1.set :=
  View.cover_of_tiled [⟨rG, p⟩] S1024x128.size (by rfl) y

/-- The rows congruent to k modulo 4 are the ones the store starting at row k writes. -/
theorem mem_rows (r : Rect S4096x128) (k : ℕ) (h0 : r.off 0 = k) (h1 : r.off 1 = 0) (hs0 : r.stride 0 = 4)
    (hs1 : r.stride 1 = 1) (hz0 : r.size 0 = 1024) (hz1 : r.size 1 = 128) (y : S4096x128.Idx) (hy : (y 0).val % 4 = k) :
    y ∈ r.set := by
  have b0 : (y 0).val < 4096 := (y 0).isLt
  have b1 : (y 1).val < 128 := (y 1).isLt
  refine (LoadRect.mem_set _).mpr fun a => ?_
  match a with
  | ⟨0, _⟩ => exact ⟨(y 0).val / 4, by show _ < r.size 0; omega, by show (y 0).val = r.off 0 + r.stride 0 * _; rw [h0, hs0]; omega⟩
  | ⟨1, _⟩ => exact ⟨(y 1).val, by show _ < r.size 1; omega, by show (y 1).val = r.off 1 + r.stride 1 * _; rw [h1, hs1]; omega⟩

/-- The four strided stores together cover a key-value block: every row is congruent to 0, 1, 2 or 3 modulo 4. -/
theorem cover_K (p3 p2 p1 p0 : Vec F S1024x128 .f32) (y : S4096x128.Idx) :
    ∃ pc ∈ ([⟨rK3, p3⟩, ⟨rK2, p2⟩, ⟨rK1, p1⟩, ⟨rK0, p0⟩] : List (View.Piece (Elt F) S4096x128 .f32)), y ∈ pc.1.set := by
  have h : (y 0).val % 4 = 0 ∨ (y 0).val % 4 = 1 ∨ (y 0).val % 4 = 2 ∨ (y 0).val % 4 = 3 := by omega
  rcases h with h | h | h | h
  · exact ⟨⟨rK0, p0⟩, by simp, mem_rows rK0 0 rfl rfl rfl rfl rfl rfl y h⟩
  · exact ⟨⟨rK1, p1⟩, by simp, mem_rows rK1 1 rfl rfl rfl rfl rfl rfl y h⟩
  · exact ⟨⟨rK2, p2⟩, by simp, mem_rows rK2 2 rfl rfl rfl rfl rfl rfl y h⟩
  · exact ⟨⟨rK3, p3⟩, by simp, mem_rows rK3 3 rfl rfl rfl rfl rfl rfl y h⟩

/-! ## The schedule -/

/-- The six branches of the body, by the column step. -/
theorem step1 : ∀ t : Fin cfg1.N, (k1_cond1 (grid1.coords t) = 1#1) ↔ t.val % 14 < 2 :=
  (by decide +kernel : ∀ t : Fin grid1.N, (k1_cond1 (grid1.coords t) = 1#1) ↔ t.val % 14 < 2)
/-- When the body's condition 2 holds. -/
theorem step2 : ∀ t : Fin cfg1.N, (k1_cond2 (grid1.coords t) = 1#1) ↔ t.val % 14 = 2 :=
  (by decide +kernel : ∀ t : Fin grid1.N, (k1_cond2 (grid1.coords t) = 1#1) ↔ t.val % 14 = 2)
/-- When the body's condition 3 holds. -/
theorem step3 : ∀ t : Fin cfg1.N, (k1_cond3 (grid1.coords t) = 1#1) ↔ t.val % 14 = 3 :=
  (by decide +kernel : ∀ t : Fin grid1.N, (k1_cond3 (grid1.coords t) = 1#1) ↔ t.val % 14 = 3)
/-- When the body's condition 4 holds. -/
theorem step4 : ∀ t : Fin cfg1.N, (k1_cond4 (grid1.coords t) = 1#1) ↔ t.val % 14 = 4 :=
  (by decide +kernel : ∀ t : Fin grid1.N, (k1_cond4 (grid1.coords t) = 1#1) ↔ t.val % 14 = 4)
/-- When the body's condition 5 holds. -/
theorem step5 : ∀ t : Fin cfg1.N, (k1_cond5 (grid1.coords t) = 1#1) ↔ 5 ≤ t.val % 14 ∧ t.val % 14 < 13 :=
  (by decide +kernel : ∀ t : Fin grid1.N, (k1_cond5 (grid1.coords t) = 1#1) ↔ 5 ≤ t.val % 14 ∧ t.val % 14 < 13)
/-- When the body's condition 6 holds. -/
theorem step6 : ∀ t : Fin cfg1.N, (k1_cond6 (grid1.coords t) = 1#1) ↔ t.val % 14 = 13 :=
  (by decide +kernel : ∀ t : Fin grid1.N, (k1_cond6 (grid1.coords t) = 1#1) ↔ t.val % 14 = 13)

/-- When the body leaves an output window alone, by the column step. -/
theorem idle2 : ∀ t : Fin cfg1.N, cfg1.idle 2 (cfg1.grid.coords t) = decide (5 ≤ t.val % 14) :=
  (by decide +kernel : ∀ t : Fin grid1.N, idle1 2 (grid1.coords t) = decide (5 ≤ t.val % 14))
/-- When window 3 is left unwritten. -/
theorem idle3 : ∀ t : Fin cfg1.N, cfg1.idle 3 (cfg1.grid.coords t) = decide (5 ≤ t.val % 14) :=
  (by decide +kernel : ∀ t : Fin grid1.N, idle1 3 (grid1.coords t) = decide (5 ≤ t.val % 14))
/-- When window 4 is left unwritten. -/
theorem idle4 : ∀ t : Fin cfg1.N, cfg1.idle 4 (cfg1.grid.coords t) = decide (t.val % 14 < 5 ∨ t.val % 14 = 13) :=
  (by decide +kernel : ∀ t : Fin grid1.N, idle1 4 (grid1.coords t) = decide (t.val % 14 < 5 ∨ t.val % 14 = 13))
/-- When window 5 is left unwritten. -/
theorem idle5 : ∀ t : Fin cfg1.N, cfg1.idle 5 (cfg1.grid.coords t) = decide (t.val % 14 ≠ 13) :=
  (by decide +kernel : ∀ t : Fin grid1.N, idle1 5 (grid1.coords t) = decide (t.val % 14 ≠ 13))
/-- When window 6 is left unwritten. -/
theorem idle6 : ∀ t : Fin cfg1.N, cfg1.idle 6 (cfg1.grid.coords t) = decide (t.val % 14 ≠ 2) :=
  (by decide +kernel : ∀ t : Fin grid1.N, idle1 6 (grid1.coords t) = decide (t.val % 14 ≠ 2))
/-- When window 7 is left unwritten. -/
theorem idle7 : ∀ t : Fin cfg1.N, cfg1.idle 7 (cfg1.grid.coords t) = decide (t.val % 14 ≠ 3) :=
  (by decide +kernel : ∀ t : Fin grid1.N, idle1 7 (grid1.coords t) = decide (t.val % 14 ≠ 3))
/-- When window 8 is left unwritten. -/
theorem idle8 : ∀ t : Fin cfg1.N, cfg1.idle 8 (cfg1.grid.coords t) = decide (t.val % 14 ≠ 4) :=
  (by decide +kernel : ∀ t : Fin grid1.N, idle1 8 (grid1.coords t) = decide (t.val % 14 ≠ 4))

/-- When an output window is written back, by the column step. -/
theorem flush2 : ∀ t : Fin cfg1.N, (cfg1.win 2).flush t = decide (t.val % 14 < 4 ∨ t.val % 14 = 13) :=
  (by simp only [Window.flush_eq_flushF]; decide +kernel :
    ∀ t : Fin grid1.N, win1_2.flush t = decide (t.val % 14 < 4 ∨ t.val % 14 = 13))
/-- When window 3 is written back. -/
theorem flush3 : ∀ t : Fin cfg1.N, (cfg1.win 3).flush t = decide (t.val % 14 < 4 ∨ t.val % 14 = 13) :=
  (by simp only [Window.flush_eq_flushF]; decide +kernel :
    ∀ t : Fin grid1.N, win1_3.flush t = decide (t.val % 14 < 4 ∨ t.val % 14 = 13))
/-- When window 4 is written back. -/
theorem flush4 : ∀ t : Fin cfg1.N, (cfg1.win 4).flush t = decide (5 ≤ t.val % 14 ∧ t.val % 14 ≠ 12) :=
  (by simp only [Window.flush_eq_flushF]; decide +kernel :
    ∀ t : Fin grid1.N, win1_4.flush t = decide (5 ≤ t.val % 14 ∧ t.val % 14 ≠ 12))
/-- When window 5 is written back. -/
theorem flush5 : ∀ t : Fin cfg1.N, (cfg1.win 5).flush t = decide (t.val % 14 = 13) :=
  fun t => Bool.eq_iff_iff.mpr ((flush1_5 t).trans (by simp))
/-- When window 6 is written back. -/
theorem flush6 : ∀ t : Fin cfg1.N, (cfg1.win 6).flush t = decide (t.val % 14 = 13) :=
  fun t => Bool.eq_iff_iff.mpr ((flush1_6 t).trans (by simp))
/-- When window 7 is written back. -/
theorem flush7 : ∀ t : Fin cfg1.N, (cfg1.win 7).flush t = decide (t.val % 14 = 13) :=
  fun t => Bool.eq_iff_iff.mpr ((flush1_7 t).trans (by simp))
/-- When window 8 is written back. -/
theorem flush8 : ∀ t : Fin cfg1.N, (cfg1.win 8).flush t = decide (t.val % 14 = 13) :=
  fun t => Bool.eq_iff_iff.mpr ((flush1_8 t).trans (by simp))

/-- Point t's row block at column step j. -/
def pt (t : Fin cfg1.N) (j : ℕ) : Fin cfg1.N :=
  ⟨14 * (t.val / 14) + min j 13, by have h := t.isLt; have hN : cfg1.N = 224 := N_1; omega⟩

/-- At its own column step it is the point. -/
theorem pt_self (t : Fin cfg1.N) (j : ℕ) (h : j = t.val % 14) : pt t j = t :=
  Fin.ext (by show 14 * (t.val / 14) + min j 13 = t.val; omega)

/-- Inside a row block the point before has the same one. -/
theorem pt_pred (t : Fin cfg1.N) (h : t.val % 14 ≠ 0) (j : ℕ) (hp : t.val - 1 < cfg1.N) :
    pt ⟨t.val - 1, hp⟩ j = pt t j :=
  Fin.ext (by show 14 * ((t.val - 1) / 14) + min j 13 = 14 * (t.val / 14) + min j 13; omega)

/-! ## What the windows hold -/

/-- What every window holds after point t: the rows' and the weight's block; the first two outputs the product at
    the latest of the column steps 0 to 4, the third the one at the latest of 5 to 12, the gates the one at 13, and
    the three key-value outputs the ones at 2, 3 and 4. -/
def proj (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => prodOut (iblk W c 0 (pt t (min (t.val % 14) 4))) (iblk W c 1 (pt t (min (t.val % 14) 4)))
    | ⟨3, _⟩ => roundOut (iblk W c 0 (pt t (min (t.val % 14) 4))) (iblk W c 1 (pt t (min (t.val % 14) 4)))
    | ⟨4, _⟩ => prodOut (iblk W c 0 (pt t (max 5 (min (t.val % 14) 12)))) (iblk W c 1 (pt t (max 5 (min (t.val % 14) 12))))
    | ⟨5, _⟩ => gateOut (iblk W c 0 (pt t 13)) (iblk W c 1 (pt t 13))
    | ⟨6, _⟩ => kvOut (iblk W c 0 (pt t 2)) (iblk W c 1 (pt t 2))
    | ⟨7, _⟩ => kvOut (iblk W c 0 (pt t 3)) (iblk W c 1 (pt t 3))
    | ⟨8, _⟩ => kvOut (iblk W c 0 (pt t 4)) (iblk W c 1 (pt t 4))
  Φ _ := Pipeline.ΦA spec1 c
  q _ := fullShare
  owed _ := 0

/-- The windows' arrays are what the call finds. -/
theorem A_eq (c : Dev nD) (w : Fin cfg1.W) : (proj W c).A w = V W c (Pipeline.arrRef spec1 w) := by
  dsimp only [proj]

/-- What each window holds after a point, one by one. -/
theorem after0 (c : Dev nD) (t : Fin cfg1.N) : (proj W c).after 0 t = iblk W c 0 t := by dsimp only [proj]
/-- What window 1's buffer holds after a point. -/
theorem after1 (c : Dev nD) (t : Fin cfg1.N) : (proj W c).after 1 t = iblk W c 1 t := by dsimp only [proj]
/-- What window 2's buffer holds after a point. -/
theorem after2 (c : Dev nD) (t : Fin cfg1.N) (j : ℕ) (h : j = min (t.val % 14) 4) :
    (proj W c).after 2 t = prodOut (iblk W c 0 (pt t j)) (iblk W c 1 (pt t j)) := by subst h; dsimp only [proj]
/-- What window 3's buffer holds after a point. -/
theorem after3 (c : Dev nD) (t : Fin cfg1.N) (j : ℕ) (h : j = min (t.val % 14) 4) :
    (proj W c).after 3 t = roundOut (iblk W c 0 (pt t j)) (iblk W c 1 (pt t j)) := by subst h; dsimp only [proj]
/-- What window 4's buffer holds after a point. -/
theorem after4 (c : Dev nD) (t : Fin cfg1.N) (j : ℕ) (h : j = max 5 (min (t.val % 14) 12)) :
    (proj W c).after 4 t = prodOut (iblk W c 0 (pt t j)) (iblk W c 1 (pt t j)) := by subst h; dsimp only [proj]
/-- What window 5's buffer holds after a point. -/
theorem after5 (c : Dev nD) (t : Fin cfg1.N) :
    (proj W c).after 5 t = gateOut (iblk W c 0 (pt t 13)) (iblk W c 1 (pt t 13)) := by dsimp only [proj]
/-- What window 6's buffer holds after a point. -/
theorem after6 (c : Dev nD) (t : Fin cfg1.N) :
    (proj W c).after 6 t = kvOut (iblk W c 0 (pt t 2)) (iblk W c 1 (pt t 2)) := by dsimp only [proj]
/-- What window 7's buffer holds after a point. -/
theorem after7 (c : Dev nD) (t : Fin cfg1.N) :
    (proj W c).after 7 t = kvOut (iblk W c 0 (pt t 3)) (iblk W c 1 (pt t 3)) := by dsimp only [proj]
/-- What window 8's buffer holds after a point. -/
theorem after8 (c : Dev nD) (t : Fin cfg1.N) :
    (proj W c).after 8 t = kvOut (iblk W c 0 (pt t 4)) (iblk W c 1 (pt t 4)) := by dsimp only [proj]

/-- The body finds the rows' block of the point. -/
theorem before0 (c : Dev nD) (t : Fin cfg1.N) (d) : (proj W c).before 0 t d = iblk W c 0 t :=
  ((proj W c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The body finds the weight's block of the point. -/
theorem before1 (c : Dev nD) (t : Fin cfg1.N) (d) : (proj W c).before 1 t d = iblk W c 1 t :=
  ((proj W c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- A window the body leaves alone is handed back as the pipeline wants it: where it is not written back, as found;
    where it is, k steps past the last that stored into it, it still holds what that one left. -/
theorem keep (c : Dev nD) (w : Fin cfg1.W) (k : ℕ) (hw : (cfg1.win w).isOut = true)
    (hclip : ∀ (i : cfg1.grid.Coords) a, (cfg1.win w).clip i a = none)
    (hs : ∀ t : Fin cfg1.N, decide ((t.val + 1) % 14 ≤ k)
      = ((cfg1.win w).flush t || (cfg1.idle w (cfg1.grid.coords t) && decide (t.val % 14 ≤ k))))
    (hfl : ∀ t : Fin cfg1.N, cfg1.idle w (cfg1.grid.coords t) = true → (cfg1.win w).flush t = true → k < t.val % 14)
    (hcarry : ∀ (t : Fin cfg1.N) (hp : t.val - 1 < cfg1.N), k < t.val % 14 →
      (proj W c).after w t = (proj W c).after w ⟨t.val - 1, hp⟩)
    (t : Fin cfg1.N) (hi : cfg1.idle w (cfg1.grid.coords t) = true) :
    iprop(∃ d, owns (c : Thread nD τ) ((cfg1.win w).stage (cfg1.slots t w)) fullShare ((proj W c).before w t d))
      ⊢ (proj W c).leavesExact w t := by
  have hfresh : ∀ n, n ≤ cfg1.N → cfg1.fresh w n = decide (n % 14 ≤ k) :=
    Cfg.fresh_tab cfg1 w (fun n => decide (n % 14 ≤ k)) (by simp) hs
  cases hf : (cfg1.win w).flush t
  · rw [Dat.leavesExact_idle (proj W c) w t hi hf]
  · have hk := hfl t hi hf
    have hb : ∀ d, (proj W c).before w t d = (proj W c).after w t := fun d => by
      rw [Dat.before_out_traj (proj W c) w hw hclip (fun t _ _ hfr => hcarry t _ (by
        rw [hfresh _ t.isLt.le] at hfr; simpa using hfr)) t.val t rfl d, hfresh _ t.isLt.le,
        if_neg (by simpa using hk)]
      exact (hcarry t _ hk).symm
    unfold Dat.leavesExact
    rw [hi, hf]
    simp only [hb]
    iintro ⟨%d, H⟩
    iexact H

/-! ## The body, by the column step -/

section Body

variable (c : Dev nD) (E : Set ℕ) (i : grid1.Coords)
    (arg2 : Memref sig .tc .vmem S1024x2048 .bf16) (harg2 : arg2.IsWhole)
    (arg3 : Memref sig .tc .vmem S2048x512 .bf16) (harg3 : arg3.IsWhole)
    (arg4 : Memref sig .tc .vmem S1024x512 .f32) (harg4 : arg4.IsWhole)
    (arg5 : Memref sig .tc .vmem S1024x512 .bf16) (harg5 : arg5.IsWhole)
    (arg6 : Memref sig .tc .vmem S1024x512 .f32) (harg6 : arg6.IsWhole)
    (arg7 : Memref sig .tc .vmem S1024x128 .f32) (harg7 : arg7.IsWhole)
    (arg8 : Memref sig .tc .vmem S4096x128 .f32) (harg8 : arg8.IsWhole)
    (arg9 : Memref sig .tc .vmem S4096x128 .f32) (harg9 : arg9.IsWhole)
    (arg10 : Memref sig .tc .vmem S4096x128 .f32) (harg10 : arg10.IsWhole)
    (x0 : Vec F S1024x2048 .bf16) (x1 : Vec F S2048x512 .bf16)

set_option maxHeartbeats 2000000 in
/-- In the first two column steps the product goes to the first output, and rounded to the second. -/
theorem body_a (K : PUnit → sProp 𝕄) (h1 : k1_cond1 i = 1#1) (h2 : ¬ k1_cond2 i = 1#1) (h3 : ¬ k1_cond3 i = 1#1) (h4 : ¬ k1_cond4 i = 1#1) (h5 : ¬ k1_cond5 i = 1#1) (h6 : ¬ k1_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, ⟨%d1, %g1, -, G1⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  iexists _; isplitr
  swap; · iexact G1
  ipureintro
  exact View.read_writes_eq_canon _ _ _ (cover_Z _)

set_option maxHeartbeats 2000000 in
/-- In column step 2 it goes there too, and in quarters to the first key-value output. -/
theorem body_k2 (K : PUnit → sProp 𝕄) (h1 : ¬ k1_cond1 i = 1#1) (h2 : k1_cond2 i = 1#1) (h3 : ¬ k1_cond3 i = 1#1) (h4 : ¬ k1_cond4 i = 1#1) (h5 : ¬ k1_cond5 i = 1#1) (h6 : ¬ k1_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg8 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg8 fullShare (kvOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In column step 3 it goes there too, and in quarters to the second key-value output. -/
theorem body_k3 (K : PUnit → sProp 𝕄) (h1 : ¬ k1_cond1 i = 1#1) (h2 : ¬ k1_cond2 i = 1#1) (h3 : k1_cond3 i = 1#1) (h4 : ¬ k1_cond4 i = 1#1) (h5 : ¬ k1_cond5 i = 1#1) (h6 : ¬ k1_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg9 fullShare (kvOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In column step 4 it goes there too, and in quarters to the third key-value output. -/
theorem body_k4 (K : PUnit → sProp 𝕄) (h1 : ¬ k1_cond1 i = 1#1) (h2 : ¬ k1_cond2 i = 1#1) (h3 : ¬ k1_cond3 i = 1#1) (h4 : k1_cond4 i = 1#1) (h5 : ¬ k1_cond5 i = 1#1) (h6 : ¬ k1_cond6 i = 1#1) :
    iprop(owns (c : Thread nD τ) arg2 fullShare x0
        ∗ owns (c : Thread nD τ) arg3 fullShare x1
        ∗ (∃ d, owns (c : Thread nD τ) arg4 fullShare d)
        ∗ (∃ d, owns (c : Thread nD τ) arg5 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg4 fullShare (prodOut x0 x1)
            ∗ owns (c : Thread nD τ) arg5 fullShare (roundOut x0 x1)
            ∗ owns (c : Thread nD τ) arg10 fullShare (kvOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, ⟨%d1, %g1, -, G1⟩, ⟨%d2, %g2, -, G2⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [G0]
  · iexists _; isplitr
    swap; · iexact G0
    ipureintro
    exact View.read_writes_eq_canon _ _ _ (cover_Z _)
  isplitl [G1]
  · iexists _; isplitr
    swap; · iexact G1
    ipureintro
    exact View.read_writes_eq_canon _ _ _ (cover_Z _)
  iexists _; isplitr
  swap; · iexact G2
  ipureintro
  exact View.read_writes_eq_canon _ _ _ (cover_K _ _ _ _)

set_option maxHeartbeats 2000000 in
/-- In the column steps 5 to 12 the product goes to the third output. -/
theorem body_c (K : PUnit → sProp 𝕄) (h1 : ¬ k1_cond1 i = 1#1) (h2 : ¬ k1_cond2 i = 1#1) (h3 : ¬ k1_cond3 i = 1#1) (h4 : ¬ k1_cond4 i = 1#1) (h5 : k1_cond5 i = 1#1) (h6 : ¬ k1_cond6 i = 1#1) :
    iprop(owns (c : Thread nD τ) arg2 fullShare x0
        ∗ owns (c : Thread nD τ) arg3 fullShare x1
        ∗ (∃ d, owns (c : Thread nD τ) arg6 fullShare d)
        ∗ (iprop(owns (c : Thread nD τ) arg2 fullShare x0
            ∗ owns (c : Thread nD τ) arg3 fullShare x1
            ∗ owns (c : Thread nD τ) arg6 fullShare (prodOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  iexists _; isplitr
  swap; · iexact G0
  ipureintro
  exact View.read_writes_eq_canon _ _ _ (cover_Z _)

set_option maxHeartbeats 2000000 in
/-- In the last column step its first 128 columns go to the gates' output. -/
theorem body_d (K : PUnit → sProp 𝕄) (h1 : ¬ k1_cond1 i = 1#1) (h2 : ¬ k1_cond2 i = 1#1) (h3 : ¬ k1_cond3 i = 1#1) (h4 : ¬ k1_cond4 i = 1#1) (h5 : ¬ k1_cond5 i = 1#1) (h6 : k1_cond6 i = 1#1) :
    iprop(owns (c : Thread nD τ) arg2 fullShare x0
        ∗ owns (c : Thread nD τ) arg3 fullShare x1
        ∗ (∃ d, owns (c : Thread nD τ) arg7 fullShare d)
        ∗ (iprop(owns (c : Thread nD τ) arg2 fullShare x0
            ∗ owns (c : Thread nD τ) arg3 fullShare x1
            ∗ owns (c : Thread nD τ) arg7 fullShare (gateOut x0 x1)) -∗ K ⟨⟩))
      ⊢ wp frame (wpE (defs₀ (F := F)) Variants.none c none) E
          (cc1_in_projection i arg2 harg2 arg3 harg3 arg4 harg4 arg5 harg5 arg6 harg6 arg7 harg7 arg8 harg8 arg9 harg9 arg10 harg10) K := by
  simp only [cc1_in_projection_eq_skeleton]; unfold cc1_in_projection_skel
  unfold owns
  iintro ⟨⟨%f0, %hf0, H0⟩, ⟨%f1, %hf1, H1⟩, ⟨%d0, %g0, -, G0⟩, Hk⟩
  subst hf0 hf1
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  iexists _; isplitr
  swap; · iexact G0
  ipureintro
  exact View.read_writes_eq_canon _ _ _ (cover_G _)

end Body

/-! ## The windows the body leaves alone -/

/-- Reading the two decided tables of a window: written back while left alone only past step k. -/
theorem tables {w : Fin cfg1.W} {p q : ℕ → Prop} [DecidablePred p] [DecidablePred q] (k : ℕ)
    (hi : ∀ t : Fin cfg1.N, cfg1.idle w (cfg1.grid.coords t) = decide (p (t.val % 14)))
    (hf : ∀ t : Fin cfg1.N, (cfg1.win w).flush t = decide (q (t.val % 14)))
    (hpq : ∀ j < 14, p j → q j → k < j) (t : Fin cfg1.N) :
    cfg1.idle w (cfg1.grid.coords t) = true → (cfg1.win w).flush t = true → k < t.val % 14 := by
  rw [hi t, hf t, decide_eq_true_eq, decide_eq_true_eq]
  exact hpq _ (Nat.mod_lt _ (by omega))

/-- Reading them again: what the window holds is nothing stored exactly up to step k. -/
theorem junk_until {w : Fin cfg1.W} {p q : ℕ → Prop} [DecidablePred p] [DecidablePred q] (k : ℕ)
    (hi : ∀ t : Fin cfg1.N, cfg1.idle w (cfg1.grid.coords t) = decide (p (t.val % 14)))
    (hf : ∀ t : Fin cfg1.N, (cfg1.win w).flush t = decide (q (t.val % 14)))
    (hpq : ∀ j < 14, decide ((j + 1) % 14 ≤ k) = (decide (q j) || (decide (p j) && decide (j ≤ k)))) (t : Fin cfg1.N) :
    decide ((t.val + 1) % 14 ≤ k)
      = ((cfg1.win w).flush t || (cfg1.idle w (cfg1.grid.coords t) && decide (t.val % 14 ≤ k))) := by
  rw [hi t, hf t, ← hpq _ (Nat.mod_lt _ (by omega))]
  congr 2
  omega

/-- The first output's window, where the body leaves it alone. -/
theorem keep2 (c : Dev nD) (t : Fin cfg1.N) (hi : cfg1.idle 2 (cfg1.grid.coords t) = true) :
    iprop(∃ d, owns (c : Thread nD τ) (st1_2 t) fullShare ((proj W c).before 2 t d)) ⊢ (proj W c).leavesExact 2 t :=
  keep W c 2 4 rfl (fun _ _ => rfl)
    (junk_until (p := fun j => 5 ≤ j) (q := fun j => j < 4 ∨ j = 13) 4 idle2 flush2 (by decide))
    (tables (p := fun j => 5 ≤ j) (q := fun j => j < 4 ∨ j = 13) 4 idle2 flush2 (by decide))
    (fun t hp h => by
      rw [after2 W c t 4 (by omega), after2 W c ⟨t.val - 1, hp⟩ 4 (by show 4 = min ((t.val - 1) % 14) 4; omega), pt_pred t (by omega)]) t hi

/-- The second output's window, where the body leaves it alone. -/
theorem keep3 (c : Dev nD) (t : Fin cfg1.N) (hi : cfg1.idle 3 (cfg1.grid.coords t) = true) :
    iprop(∃ d, owns (c : Thread nD τ) (st1_3 t) fullShare ((proj W c).before 3 t d)) ⊢ (proj W c).leavesExact 3 t :=
  keep W c 3 4 rfl (fun _ _ => rfl)
    (junk_until (p := fun j => 5 ≤ j) (q := fun j => j < 4 ∨ j = 13) 4 idle3 flush3 (by decide))
    (tables (p := fun j => 5 ≤ j) (q := fun j => j < 4 ∨ j = 13) 4 idle3 flush3 (by decide))
    (fun t hp h => by
      rw [after3 W c t 4 (by omega), after3 W c ⟨t.val - 1, hp⟩ 4 (by show 4 = min ((t.val - 1) % 14) 4; omega), pt_pred t (by omega)]) t hi

/-- The third output's window, where the body leaves it alone. -/
theorem keep4 (c : Dev nD) (t : Fin cfg1.N) (hi : cfg1.idle 4 (cfg1.grid.coords t) = true) :
    iprop(∃ d, owns (c : Thread nD τ) (st1_4 t) fullShare ((proj W c).before 4 t d)) ⊢ (proj W c).leavesExact 4 t :=
  keep W c 4 12 rfl (fun _ _ => rfl)
    (junk_until (p := fun j => j < 5 ∨ j = 13) (q := fun j => 5 ≤ j ∧ j ≠ 12) 12 idle4 flush4 (by decide))
    (tables (p := fun j => j < 5 ∨ j = 13) (q := fun j => 5 ≤ j ∧ j ≠ 12) 12 idle4 flush4 (by decide))
    (fun t hp h => by
      rw [after4 W c t 12 (by omega), after4 W c ⟨t.val - 1, hp⟩ 12 (by show 12 = max 5 (min ((t.val - 1) % 14) 12); omega), pt_pred t (by omega)]) t hi

/-- The gates' window, where the body leaves it alone. -/
theorem keep5 (c : Dev nD) (t : Fin cfg1.N) (hi : cfg1.idle 5 (cfg1.grid.coords t) = true) :
    iprop(∃ d, owns (c : Thread nD τ) (st1_5 t) fullShare ((proj W c).before 5 t d)) ⊢ (proj W c).leavesExact 5 t :=
  keep W c 5 13 rfl (fun _ _ => rfl)
    (junk_until (p := fun j => j ≠ 13) (q := fun j => j = 13) 13 idle5 flush5 (by decide))
    (tables (p := fun j => j ≠ 13) (q := fun j => j = 13) 13 idle5 flush5 (by decide))
    (fun t hp h => by
      rw [after5, after5, pt_pred t (by omega)]) t hi

/-- The first key-value window, where the body leaves it alone. -/
theorem keep6 (c : Dev nD) (t : Fin cfg1.N) (hi : cfg1.idle 6 (cfg1.grid.coords t) = true) :
    iprop(∃ d, owns (c : Thread nD τ) (st1_6 t) fullShare ((proj W c).before 6 t d)) ⊢ (proj W c).leavesExact 6 t :=
  keep W c 6 2 rfl (fun _ _ => rfl)
    (junk_until (p := fun j => j ≠ 2) (q := fun j => j = 13) 2 idle6 flush6 (by decide))
    (tables (p := fun j => j ≠ 2) (q := fun j => j = 13) 2 idle6 flush6 (by decide))
    (fun t hp h => by
      rw [after6, after6, pt_pred t (by omega)]) t hi

/-- The second key-value window, where the body leaves it alone. -/
theorem keep7 (c : Dev nD) (t : Fin cfg1.N) (hi : cfg1.idle 7 (cfg1.grid.coords t) = true) :
    iprop(∃ d, owns (c : Thread nD τ) (st1_7 t) fullShare ((proj W c).before 7 t d)) ⊢ (proj W c).leavesExact 7 t :=
  keep W c 7 3 rfl (fun _ _ => rfl)
    (junk_until (p := fun j => j ≠ 3) (q := fun j => j = 13) 3 idle7 flush7 (by decide))
    (tables (p := fun j => j ≠ 3) (q := fun j => j = 13) 3 idle7 flush7 (by decide))
    (fun t hp h => by
      rw [after7, after7, pt_pred t (by omega)]) t hi

/-- The third key-value window, where the body leaves it alone. -/
theorem keep8 (c : Dev nD) (t : Fin cfg1.N) (hi : cfg1.idle 8 (cfg1.grid.coords t) = true) :
    iprop(∃ d, owns (c : Thread nD τ) (st1_8 t) fullShare ((proj W c).before 8 t d)) ⊢ (proj W c).leavesExact 8 t :=
  keep W c 8 4 rfl (fun _ _ => rfl)
    (junk_until (p := fun j => j ≠ 4) (q := fun j => j = 13) 4 idle8 flush8 (by decide))
    (tables (p := fun j => j ≠ 4) (q := fun j => j = 13) 4 idle8 flush8 (by decide))
    (fun t hp h => by
      rw [after8, after8, pt_pred t (by omega)]) t hi

/-- A window the body stores into is handed back at what the point leaves. -/
theorem leaves_live (c : Dev nD) (w : Fin cfg1.W) (t : Fin cfg1.N) (hi : cfg1.idle w (cfg1.grid.coords t) = false) :
    (proj W c).leavesExact w t
      = owns (c : Thread nD τ) ((cfg1.win w).stage (cfg1.slots t w)) fullShare ((proj W c).after w t) := by
  unfold Dat.leavesExact; rw [hi]

/-! ## The body at a point -/

/-- What the body is called with at point t. -/
def bodyPre (c : Dev nD) (t : Fin cfg1.N) : sProp 𝕄 :=
  iprop((proj W c).Φ t.castSucc ∗ (proj W c).owesAt () t.castSucc
    ∗ (∃ d, owns (c : Thread nD τ) (st1_0 t) fullShare ((proj W c).before 0 t d))
    ∗ (∃ d, owns (c : Thread nD τ) (st1_1 t) fullShare ((proj W c).before 1 t d))
    ∗ (∃ d, owns (c : Thread nD τ) (st1_2 t) fullShare ((proj W c).before 2 t d))
    ∗ (∃ d, owns (c : Thread nD τ) (st1_3 t) fullShare ((proj W c).before 3 t d))
    ∗ (∃ d, owns (c : Thread nD τ) (st1_4 t) fullShare ((proj W c).before 4 t d))
    ∗ (∃ d, owns (c : Thread nD τ) (st1_5 t) fullShare ((proj W c).before 5 t d))
    ∗ (∃ d, owns (c : Thread nD τ) (st1_6 t) fullShare ((proj W c).before 6 t d))
    ∗ (∃ d, owns (c : Thread nD τ) (st1_7 t) fullShare ((proj W c).before 7 t d))
    ∗ (∃ d, owns (c : Thread nD τ) (st1_8 t) fullShare ((proj W c).before 8 t d)))

/-- What it hands back. -/
def bodyPost (c : Dev nD) (t : Fin cfg1.N) : sProp 𝕄 :=
  iprop((proj W c).Φ t.succ ∗ (proj W c).owesAt () t.succ
    ∗ (proj W c).leavesExact 0 t
    ∗ (proj W c).leavesExact 1 t
    ∗ (proj W c).leavesExact 2 t
    ∗ (proj W c).leavesExact 3 t
    ∗ (proj W c).leavesExact 4 t
    ∗ (proj W c).leavesExact 5 t
    ∗ (proj W c).leavesExact 6 t
    ∗ (proj W c).leavesExact 7 t
    ∗ (proj W c).leavesExact 8 t)

set_option maxHeartbeats 3200000 in
/-- The body at any point: the column step says which branch runs; the windows it stores into get what the point
    leaves, the others are handed back as they are. -/
theorem body_point (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1]
  rw [show (proj W c).Φ t.succ = (proj W c).Φ t.castSucc from rfl,
    show (proj W c).owesAt () t.succ = (proj W c).owesAt () t.castSucc from rfl,
    leaves_live W c 0 t rfl, leaves_live W c 1 t rfl, after0, after1]
  have hj : t.val % 14 < 2 ∨ t.val % 14 = 2 ∨ t.val % 14 = 3 ∨ t.val % 14 = 4 ∨ (5 ≤ t.val % 14 ∧ t.val % 14 < 13)
      ∨ t.val % 14 = 13 := by omega
  rcases hj with h | h | h | h | h | h
  · rw [leaves_live W c 2 t (by rw [idle2]; simpa using by omega), after2 W c t (t.val % 14) (by omega), pt_self t _ rfl]
    rw [leaves_live W c 3 t (by rw [idle3]; simpa using by omega), after3 W c t (t.val % 14) (by omega), pt_self t _ rfl]
    iintro ⟨HΦ, Ho, ⟨%d0, H0⟩, ⟨%d1, H1⟩, ⟨%d2, H2⟩, ⟨%d3, H3⟩, H4, H5, H6, H7, H8⟩
    iapply (body_a c Set.univ (grid1.coords t) _ _ _ _ _ _ _ _ _ _ _ _ _ _ _ _ _ _ (iblk W c 0 t) (iblk W c 1 t) _ ((step1 t).mpr h) (fun h' => by have := (step2 t).mp h'; omega) (fun h' => by have := (step3 t).mp h'; omega) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 W c t (by rw [idle4]; simpa using by omega)); iexact H4
    isplitl [H5]; · iapply (keep5 W c t (by rw [idle5]; simpa using by omega)); iexact H5
    isplitl [H6]; · iapply (keep6 W c t (by rw [idle6]; simpa using by omega)); iexact H6
    isplitl [H7]; · iapply (keep7 W c t (by rw [idle7]; simpa using by omega)); iexact H7
    iapply (keep8 W c t (by rw [idle8]; simpa using by omega)); iexact H8
  · rw [leaves_live W c 2 t (by rw [idle2]; simpa using by omega), after2 W c t (t.val % 14) (by omega), pt_self t _ rfl]
    rw [leaves_live W c 3 t (by rw [idle3]; simpa using by omega), after3 W c t (t.val % 14) (by omega), pt_self t _ rfl]
    rw [leaves_live W c 6 t (by rw [idle6]; simpa using by omega), after6, pt_self t _ h.symm]
    iintro ⟨HΦ, Ho, ⟨%d0, H0⟩, ⟨%d1, H1⟩, ⟨%d2, H2⟩, ⟨%d3, H3⟩, H4, H5, ⟨%d6, H6⟩, H7, H8⟩
    iapply (body_k2 c Set.univ (grid1.coords t) _ _ _ _ _ _ _ _ _ _ _ _ _ _ _ _ _ _ (iblk W c 0 t) (iblk W c 1 t) _ (fun h' => by have := (step1 t).mp h'; omega) ((step2 t).mpr h) (fun h' => by have := (step3 t).mp h'; omega) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H6]; · iexists _; iexact H6
    iintro ⟨H0, H1, H2, H3, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 W c t (by rw [idle4]; simpa using by omega)); iexact H4
    isplitl [H5]; · iapply (keep5 W c t (by rw [idle5]; simpa using by omega)); iexact H5
    isplitl [H6]; · iexact H6
    isplitl [H7]; · iapply (keep7 W c t (by rw [idle7]; simpa using by omega)); iexact H7
    iapply (keep8 W c t (by rw [idle8]; simpa using by omega)); iexact H8
  · rw [leaves_live W c 2 t (by rw [idle2]; simpa using by omega), after2 W c t (t.val % 14) (by omega), pt_self t _ rfl]
    rw [leaves_live W c 3 t (by rw [idle3]; simpa using by omega), after3 W c t (t.val % 14) (by omega), pt_self t _ rfl]
    rw [leaves_live W c 7 t (by rw [idle7]; simpa using by omega), after7, pt_self t _ h.symm]
    iintro ⟨HΦ, Ho, ⟨%d0, H0⟩, ⟨%d1, H1⟩, ⟨%d2, H2⟩, ⟨%d3, H3⟩, H4, H5, H6, ⟨%d7, H7⟩, H8⟩
    iapply (body_k3 c Set.univ (grid1.coords t) _ _ _ _ _ _ _ _ _ _ _ _ _ _ _ _ _ _ (iblk W c 0 t) (iblk W c 1 t) _ (fun h' => by have := (step1 t).mp h'; omega) (fun h' => by have := (step2 t).mp h'; omega) ((step3 t).mpr h) (fun h' => by have := (step4 t).mp h'; omega) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H7]; · iexists _; iexact H7
    iintro ⟨H0, H1, H2, H3, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 W c t (by rw [idle4]; simpa using by omega)); iexact H4
    isplitl [H5]; · iapply (keep5 W c t (by rw [idle5]; simpa using by omega)); iexact H5
    isplitl [H6]; · iapply (keep6 W c t (by rw [idle6]; simpa using by omega)); iexact H6
    isplitl [H7]; · iexact H7
    iapply (keep8 W c t (by rw [idle8]; simpa using by omega)); iexact H8
  · rw [leaves_live W c 2 t (by rw [idle2]; simpa using by omega), after2 W c t (t.val % 14) (by omega), pt_self t _ rfl]
    rw [leaves_live W c 3 t (by rw [idle3]; simpa using by omega), after3 W c t (t.val % 14) (by omega), pt_self t _ rfl]
    rw [leaves_live W c 8 t (by rw [idle8]; simpa using by omega), after8, pt_self t _ h.symm]
    iintro ⟨HΦ, Ho, ⟨%d0, H0⟩, ⟨%d1, H1⟩, ⟨%d2, H2⟩, ⟨%d3, H3⟩, H4, H5, H6, H7, ⟨%d8, H8⟩⟩
    iapply (body_k4 c Set.univ (grid1.coords t) _ _ _ _ _ _ _ _ _ _ _ _ _ _ _ _ _ _ (iblk W c 0 t) (iblk W c 1 t) _ (fun h' => by have := (step1 t).mp h'; omega) (fun h' => by have := (step2 t).mp h'; omega) (fun h' => by have := (step3 t).mp h'; omega) ((step4 t).mpr h) (fun h' => by have := (step5 t).mp h'; omega) (fun h' => by have := (step6 t).mp h'; omega))
    isplitl [H0]; · iexact H0
    isplitl [H1]; · iexact H1
    isplitl [H2]; · iexists _; iexact H2
    isplitl [H3]; · iexists _; iexact H3
    isplitl [H8]; · iexists _; iexact H8
    iintro ⟨H0, H1, H2, H3, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (keep4 W c t (by rw [idle4]; simpa using by omega)); iexact H4
    isplitl [H5]; · iapply (keep5 W c t (by rw [idle5]; simpa using by omega)); iexact H5
    isplitl [H6]; · iapply (keep6 W c t (by rw [idle6]; simpa using by omega)); iexact H6
    isplitl [H7]; · iapply (keep7 W c t (by rw [idle7]; simpa using by omega)); iexact H7
    iexact H8
  · rw [leaves_live W c 4 t (by rw [idle4]; simpa using by omega), after4 W c t (t.val % 14) (by omega), pt_self t _ rfl]
    iintro ⟨HΦ, Ho, ⟨%d0, H0⟩, ⟨%d1, H1⟩, H2, H3, ⟨%d4, H4⟩, H5, H6, H7, H8⟩
    iapply (body_c c Set.univ (grid1.coords t) _ _ _ _ _ _ _ _ _ _ _ _ _ _ _ _ _ _ (iblk W c 0 t) (iblk W c 1 t) _ (fun h' => by have := (step1 t).mp h'; omega) (fun h' => by have := (step2 t).mp h'; omega) (fun h' => by have := (step3 t).mp h'; omega) (fun h' => by have := (step4 t).mp h'; omega) ((step5 t).mpr h) (fun h' => by have := (step6 t).mp h'; omega))
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iapply (keep2 W c t (by rw [idle2]; simpa using by omega)); iexact H2
    isplitl [H3]; · iapply (keep3 W c t (by rw [idle3]; simpa using by omega)); iexact H3
    isplitl [H4]; · iexact H4
    isplitl [H5]; · iapply (keep5 W c t (by rw [idle5]; simpa using by omega)); iexact H5
    isplitl [H6]; · iapply (keep6 W c t (by rw [idle6]; simpa using by omega)); iexact H6
    isplitl [H7]; · iapply (keep7 W c t (by rw [idle7]; simpa using by omega)); iexact H7
    iapply (keep8 W c t (by rw [idle8]; simpa using by omega)); iexact H8
  · rw [leaves_live W c 5 t (by rw [idle5]; simpa using by omega), after5, pt_self t _ h.symm]
    iintro ⟨HΦ, Ho, ⟨%d0, H0⟩, ⟨%d1, H1⟩, H2, H3, H4, ⟨%d5, H5⟩, H6, H7, H8⟩
    iapply (body_d c Set.univ (grid1.coords t) _ _ _ _ _ _ _ _ _ _ _ _ _ _ _ _ _ _ (iblk W c 0 t) (iblk W c 1 t) _ (fun h' => by have := (step1 t).mp h'; omega) (fun h' => by have := (step2 t).mp h'; omega) (fun h' => by have := (step3 t).mp h'; omega) (fun h' => by have := (step4 t).mp h'; omega) (fun h' => by have := (step5 t).mp h'; omega) ((step6 t).mpr h))
    isplitl [H0]; · iexact H0
    isplitl [H1]; · iexact H1
    isplitl [H5]; · iexists _; iexact H5
    iintro ⟨H0, H1, H5⟩
    isplitl [HΦ]; · iexact HΦ
    isplitl [Ho]; · iexact Ho
    isplitl [H0]; · iexact H0
    isplitl [H1]; · iexact H1
    isplitl [H2]; · iapply (keep2 W c t (by rw [idle2]; simpa using by omega)); iexact H2
    isplitl [H3]; · iapply (keep3 W c t (by rw [idle3]; simpa using by omega)); iexact H3
    isplitl [H4]; · iapply (keep4 W c t (by rw [idle4]; simpa using by omega)); iexact H4
    isplitl [H5]; · iexact H5
    isplitl [H6]; · iapply (keep6 W c t (by rw [idle6]; simpa using by omega)); iexact H6
    isplitl [H7]; · iapply (keep7 W c t (by rw [idle7]; simpa using by omega)); iexact H7
    iapply (keep8 W c t (by rw [idle8]; simpa using by omega)); iexact H8

/-- The body the pipeline calls at point t. -/
theorem body_row (t : Fin cfg1.N) : defs₀ (F := F) .tc cfg1.body (cfg1.bodyArgs t (cfg1.slots t)) = bodyAt1 t := by
  unfold defs₀; rw [Defs.onTc_tc]

/-- The body does at every point what the windows' contents say. -/
theorem body_obligation (c : Dev nD) :
    BodyObligation (proj (F := F) W c) (defs₀ (F := F)) Variants.none () Set.univ := fun t => by
  rw [bigSep_W1, bigSep_W1, body_row]
  exact triple_restated (body_point W c t) rfl .rfl fun _ => .rfl

end Cert.FrontIdeal.Proj

end
-- ==== Proof.Front.Join.lean ====
/- The two calls joined: what the first leaves is what the second starts from. -/
module

public import proofs.«01_k».proof.Proof.Front.Half
public import proofs.«01_k».proof.Proof.Front.Proj
public import Idealize.ShloMosaic.Lib.Pipeline.RegionArraysS

@[expose] public section

set_option maxRecDepth 16384

noncomputable section

namespace Cert.FrontIdeal.Join

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg afterRegion)

variable {F : FTy → Type} [FloatOps F]

local notation "𝕄" => MT nD τ sig Unit (Elt F) ℕ (UR sig nD τ) ℕ

variable (m : (ℓ : Loc nD τ sig) → Buf (Elt F) ℓ)

/-- A buffer of the core's at some contents. -/
def kept (c : Dev nD) (r : Ref sig .tc) : sProp 𝕄 :=
  iprop(∃ f : Buf (Elt F) ((c : Thread nD τ).loc r), ((c : Thread nD τ).loc r) ↦{fullShare} f)

/-- The second call's staging buffers, which the first call carries unopened. -/
def others (c : Dev nD) : sProp 𝕄 :=
  iprop(kept c cc1_stg0_0 ∗ kept c cc1_stg0_1 ∗ kept c cc1_stg1_0 ∗ kept c cc1_stg1_1 ∗ kept c cc1_stg2_0 ∗ kept c cc1_stg2_1
    ∗ kept c cc1_stg3_0 ∗ kept c cc1_stg3_1 ∗ kept c cc1_stg4_0 ∗ kept c cc1_stg4_1 ∗ kept c cc1_stg5_0 ∗ kept c cc1_stg5_1
    ∗ kept c cc1_stg6_0 ∗ kept c cc1_stg6_1 ∗ kept c cc1_stg7_0 ∗ kept c cc1_stg7_1 ∗ kept c cc1_stg8_0 ∗ kept c cc1_stg8_1)

/-- The first call's scoped rest is its two scratches and the second call's staging buffers. -/
theorem scoped_split (c : Dev nD) : (Pipeline.scopedRest spec0 c : sProp 𝕄) =
    iprop(kept c cc0_scratch0 ∗ kept c cc0_scratch1 ∗ others c) := scopedRest0_eq c

/-- The two scratches at anything, listed as buffers. -/
theorem scratch_eq (c : Dev nD) : (Half.anyScratch (F := F) c) =
    iprop(iprop(kept c cc0_scratch0 ∗ kept c cc0_scratch1) ∗ (∃ r, prngReg c r)) := by
  unfold Half.anyScratch kept
  simp only [Half.scM0_0, Half.scM0_1, owns_whole]
  rfl

/-- Proof data of the first call with the second call's staging buffers carried along. -/
def carry {c : Dev nD} (dat : Dat τ (Elt F) Unit ℕ (UR sig nD τ) ℕ cfg0 c) : Dat τ (Elt F) Unit ℕ (UR sig nD τ) ℕ cfg0 c :=
  { dat with Φ := fun t => iprop(dat.Φ t ∗ others c) }

/-- The first call's proof data, the second call's staging buffers carried along. -/
def first (c : Dev nD) : Dat τ (Elt F) Unit ℕ (UR sig nD τ) ℕ cfg0 c := carry (Half.half m c)

/-- A body run with more carried along beside its invariant. -/
theorem carried {Φ Φ' A A' B B' R : sProp 𝕄} {c : Dev nD} {p : Prog (TpuEff nD τ sig (Elt F) Λ₀ .tc) PUnit}
    (h : iprop(Φ ∗ A ∗ B) ⊢ wp frame (wpE (defs₀ (F := F)) Variants.none (c : Thread nD τ) none) Set.univ p fun _ => iprop(Φ' ∗ A' ∗ B')) :
    iprop(iprop(Φ ∗ R) ∗ A ∗ B) ⊢ wp frame (wpE (defs₀ (F := F)) Variants.none (c : Thread nD τ) none) Set.univ p fun _ => iprop(iprop(Φ' ∗ R) ∗ A' ∗ B') := by
  have e : iprop(iprop(Φ ∗ R) ∗ A ∗ B) ⊢ iprop(iprop(Φ ∗ A ∗ B) ∗ R) := by
    iintro ⟨⟨H1, H2⟩, H3, H4⟩
    isplitr [H2]
    · isplitl [H1]; · iexact H1
      isplitl [H3]; · iexact H3
      iexact H4
    · iexact H2
  have e' : iprop(iprop(Φ' ∗ A' ∗ B') ∗ R) ⊢ iprop(iprop(Φ' ∗ R) ∗ A' ∗ B') := by
    iintro ⟨⟨H1, H3, H4⟩, H2⟩
    isplitl [H1 H2]
    · isplitl [H1]; · iexact H1
      iexact H2
    isplitl [H3]; · iexact H3
    iexact H4
  exact e.trans ((BIClass.sep_mono h (.rfl)).trans ((wp_frame_r _ _ _).trans (wp_mono _ _ _ fun _ => e')))

/-- Carrying the other buffers along changes nothing of what a window's buffer holds. -/
theorem carry_found {c : Dev nD} (dat : Dat τ (Elt F) Unit ℕ (UR sig nD τ) ℕ cfg0 c) (w : Fin cfg0.W) (n : ℕ) :
    ∀ (hn : n < cfg0.N) (d : (cfg0.win w).block.Idx → Elt F (cfg0.win w).elt),
      (carry dat).found w ⟨n, hn⟩ d = dat.found w ⟨n, hn⟩ d := by
  induction n with
  | zero =>
    intro hn d
    rw [Dat.found.eq_1, Dat.found.eq_1 dat]
    refine if_congr Iff.rfl rfl ?_
    rw [if_pos rfl, if_pos rfl]
  | succ n ih =>
    intro hn d
    rw [Dat.found.eq_1, Dat.found.eq_1 dat]
    refine if_congr Iff.rfl rfl ?_
    rw [if_neg (Nat.succ_ne_zero n), if_neg (Nat.succ_ne_zero n)]
    refine if_congr Iff.rfl rfl ?_
    show (match cfg0.idle w (cfg0.grid.coords ⟨n, Nat.lt_of_succ_lt hn⟩) with
      | true => (carry dat).found w ⟨n, Nat.lt_of_succ_lt hn⟩ d
      | false => dat.kept w ⟨n, Nat.lt_of_succ_lt hn⟩ d) = (match cfg0.idle w (cfg0.grid.coords ⟨n, Nat.lt_of_succ_lt hn⟩) with
      | true => dat.found w ⟨n, Nat.lt_of_succ_lt hn⟩ d
      | false => dat.kept w ⟨n, Nat.lt_of_succ_lt hn⟩ d)
    rw [ih]

/-- Nor of what it holds when the body runs. -/
theorem carry_before {c : Dev nD} (dat : Dat τ (Elt F) Unit ℕ (UR sig nD τ) ℕ cfg0 c) :
    (carry dat).before = dat.before := by
  funext w t d
  rw [← Dat.found_eq_before, ← Dat.found_eq_before]
  exact carry_found dat w t.val t.isLt d

/-- Nor of what an array holds. -/
theorem carry_arrAt {c : Dev nD} (dat : Dat τ (Elt F) Unit ℕ (UR sig nD τ) ℕ cfg0 c) (w : Fin cfg0.W) (n : ℕ) :
    (carry dat).arrAt w n = dat.arrAt w n := by
  induction n with
  | zero => rfl
  | succ n ih =>
    unfold Dat.arrAt
    rw [ih]
    rfl

/-- Carrying the other buffers along changes nothing of what the body does. -/
theorem carry_body {c : Dev nD} (dat : Dat τ (Elt F) Unit ℕ (UR sig nD τ) ℕ cfg0 c)
    (h : BodyObligation dat (defs₀ (F := F)) Variants.none () Set.univ) :
    BodyObligation (carry dat) (defs₀ (F := F)) Variants.none () Set.univ := fun t => by
  rw [carry_before]
  exact carried (h t)

/-- The first call's body does what its data say with the other buffers carried along. -/
theorem first_body (c : Dev nD) : BodyObligation (first (F := F) m c) (defs₀ (F := F)) Variants.none () Set.univ :=
  carry_body _ (Half.body_obligation m c)

/-- The first call starts from its scoped rest and the generator register. -/
theorem first_in (c : Dev nD) : iprop(Pipeline.scopedRest spec0 c ∗ (∃ r, prngReg c r)) ⊢ (first (F := F) m c).Φ 0 := by
  show _ ⊢ iprop((Half.half m c).Φ 0 ∗ others c)
  rw [show (Half.half m c).Φ 0 = Half.anyScratch c from rfl, scoped_split, scratch_eq]
  iintro ⟨⟨H0, H1, HO⟩, Hg⟩
  isplitr [HO]
  · isplitl [H0 H1]
    · isplitl [H0]; · iexact H0
      iexact H1
    iexact Hg
  iexact HO

/-- It gives them back. -/
theorem first_out (c : Dev nD) : (first (F := F) m c).Φ (Fin.last cfg0.N) ⊢ iprop(Pipeline.scopedRest spec0 c ∗ (∃ r, prngReg c r)) := by
  show iprop((Half.half m c).Φ (Fin.last cfg0.N) ∗ others c) ⊢ _
  refine (BIClass.sep_mono (Half.half_out m c) .rfl).trans ?_
  rw [scoped_split, scratch_eq]
  iintro ⟨⟨⟨H0, H1⟩, Hg⟩, HO⟩
  isplitr [Hg]
  · isplitl [H0]; · iexact H0
    isplitl [H1]; · iexact H1
    iexact HO
  iexact Hg

/-- What the first call leaves in the buffers. -/
def outs₁ : Outs (F := F) := fun _ r c => afterRegion (first m c) (V7 m c) r

/-- What the second call starts from. -/
abbrev mid (c : Dev nD) : Valuation τ sig (Elt F) := V11 m (outs₁ m) c

/-- What each call leaves in the buffers. -/
def outs : Outs (F := F)
  | 8, r, c => afterRegion (first m c) (V7 m c) r
  | _, r, c => afterRegion (Proj.proj (mid m) c) (mid m c) r

/-- The two calls' proof data. -/
def pdats : (p : Fin 2) → (c : Dev nD) → Dat τ (Elt F) Unit ℕ (UR sig nD τ) ℕ (cfgs p) c
  | ⟨0, _⟩, c => first m c
  | ⟨1, _⟩, c => Proj.proj (mid m) c

/-- Every core may wait on its own cells. -/
abbrev L : GSem nD τ sig → Finset Unit := fun g => if g.1.2 = .tc then {()} else ∅
/-- All at the bottom level. -/
abbrev lv : GSem nD τ sig → Unit → ℕ := fun _ _ => 0

/-- What rides beside the buffers: the core owing nothing, and the generator register. -/
abbrev E (_ : Fin 3) (c : Dev nD) : sProp 𝕄 :=
  iprop((∃ W, owes (c : Thread nD τ) (0 : CellTallies nD τ sig Unit) W) ∗ (∃ r, prngReg c r) ∗ (emp : sProp 𝕄))

/-- Contents that differ from others at most at one buffer are those with that buffer's put in. -/
theorem updated {A V : Valuation τ sig (Elt F)} (r : DevRef τ sig) (b : DevRef τ sig) (h : b ≠ r → A b = V b) :
    A b = Function.update V r (A r) b := by
  by_cases e : b = r
  · subst e; rw [Function.update_self]
  · rw [Function.update_of_ne e]; exact h e

/-- The first call changes only its two outputs. -/
theorem after_first (c : Dev nD) : afterRegion (first m c) (V7 m c) = V8 m (outs m) c := by
  funext b
  refine updated main_v8_1 b fun h1 => updated main_v8_0 b fun h0 => ?_
  by_cases hb : ∃ r : Ref sig .tc, b = Proc.devRef .tc r
  · obtain ⟨r, rfl⟩ := hb
    refine Pipeline.afterRegion_keeps (first m c) (V7 m c) launch0.win.arr_inj (fun w => rfl) r fun w hw => ?_
    subst hw
    revert h0 h1
    revert w
    decide
  · exact dif_neg fun ⟨w, e⟩ => hb ⟨_, e⟩

/-- The second call changes only its seven outputs. -/
theorem after_second (c : Dev nD) : afterRegion (Proj.proj (mid m) c) (mid m c) = V12 m (outs m) c := by
  funext b
  refine updated main_v15_6 b fun h6 => updated main_v15_5 b fun h5 => updated main_v15_4 b fun h4 => updated main_v15_3 b fun h3 =>
    updated main_v15_2 b fun h2 => updated main_v15_1 b fun h1 => updated main_v15_0 b fun h0 => ?_
  by_cases hb : ∃ r : Ref sig .tc, b = Proc.devRef .tc r
  · obtain ⟨r, rfl⟩ := hb
    refine Pipeline.afterRegion_keeps (Proj.proj (mid m) c) (mid m c) launch1.win.arr_inj (fun w => rfl) r fun w hw => ?_
    subst hw
    exact match w, h0, h1, h2, h3, h4, h5, h6 with
    | ⟨0, _⟩, _, _, _, _, _, _, _ => rfl
    | ⟨1, _⟩, _, _, _, _, _, _, _ => rfl
    | ⟨2, _⟩, h, _, _, _, _, _, _ => absurd rfl h
    | ⟨3, _⟩, _, h, _, _, _, _, _ => absurd rfl h
    | ⟨4, _⟩, _, _, h, _, _, _, _ => absurd rfl h
    | ⟨5, _⟩, _, _, _, h, _, _, _ => absurd rfl h
    | ⟨6, _⟩, _, _, _, _, h, _, _ => absurd rfl h
    | ⟨7, _⟩, _, _, _, _, _, h, _ => absurd rfl h
    | ⟨8, _⟩, _, _, _, _, _, _, h => absurd rfl h
  · exact dif_neg fun ⟨w, e⟩ => hb ⟨_, e⟩

/-- The staging waits sit at the bottom level, and nothing is owed above it. -/
theorem cut (p : Fin 2) : Pipeline.LevelCut (pcfgs (F := F)) adm () L lv p (fun _ => 0) (fun _ => 0) where
  hι c w s := by simp [L]
  hιb c w s := le_rfl
  hD c g i h := absurd h (by simp)

/-- The first call's region. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (first_body m c).loose) (fun _ _ => rfl) (fun _ => rfl) (fun c w => (first m c).share_full (fun _ => rfl) w)
    (fun c => first_in m c) (fun c => first_out m c) (fun _ => 0) (cut 0) (fun _ => iprop(emp)) (fun c => V7 m c) (fun c w => rfl)

/-- The second call's region. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Proj.body_obligation (mid m) c).loose) (fun _ _ => rfl) (fun _ => rfl) (fun c w => (Proj.proj (mid m) c).share_full (fun _ => rfl) w)
    (fun c => BI.Entails.refl _) (fun c => BI.Entails.refl _) (fun _ => 0) (cut 1) (fun _ => iprop(emp)) (fun c => mid m c) (fun c w => rfl)

/-- The buffers' contents at the end. -/
abbrev fin (c : Dev nD) : Valuation τ sig (Elt F) := V13 m (outs m) c

/-- What a final state holds: the eight results as the program leaves them, and the arguments as launched. -/
abbrev Post (c : Dev nD) (s : MemSt nD τ sig (Elt F)) : Prop :=
  (s.mem ((c : Thread nD τ).loc main_v8_0) = fin m c main_v8_0 ∧ s.mem ((c : Thread nD τ).loc main_v15_0) = fin m c main_v15_0
    ∧ s.mem ((c : Thread nD τ).loc main_v15_1) = fin m c main_v15_1 ∧ s.mem ((c : Thread nD τ).loc main_v15_2) = fin m c main_v15_2
    ∧ s.mem ((c : Thread nD τ).loc main_v15_3) = fin m c main_v15_3 ∧ s.mem ((c : Thread nD τ).loc main_v16) = fin m c main_v16
    ∧ s.mem ((c : Thread nD τ).loc main_v17) = fin m c main_v17 ∧ s.mem ((c : Thread nD τ).loc main_v19) = fin m c main_v19)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

/-- A buffer of the program's, among those read at the end. -/
theorem mem_held (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The first call's arrays are among the program's buffers. -/
theorem sub0 : Pipeline.arrRefs (τ := τ) (pcfgs (F := F) 0).spec ⊆ Pipeline.ucRefs τ sig :=
  Pipeline.arrRefs_sub_ucRefs spec0 (by decide)

/-- So are the second's. -/
theorem sub1 : Pipeline.arrRefs (τ := τ) (pcfgs (F := F) 1).spec ⊆ Pipeline.ucRefs τ sig :=
  Pipeline.arrRefs_sub_ucRefs spec1 (by decide)

/-- The first call is entered from the buffers after the first host operations. -/
theorem pre0 (c : Dev nD) : iprop(StableHlo.held (c : Thread nD τ) (Pipeline.ucRefs τ sig) (V7 m c) ∗ E 0 c) ⊢ (reg0 m).pre c := by
  unfold reg0
  exact RegionSeg.ofHeldIn_pre (D := fun _ => 0) (S := Pipeline.ucRefs τ sig) (X := fun c => iprop(∃ r, prngReg c r)) (Y := fun c => iprop(∃ r, prngReg c r)) (R := fun _ => iprop(emp)) (W := fun c => V7 m c) sub0 c

/-- It is left with its two outputs. -/
theorem post0 (c : Dev nD) : (reg0 m).post c ⊢ iprop(StableHlo.held (c : Thread nD τ) (Pipeline.ucRefs τ sig) (V8 m (outs m) c) ∗ E 1 c) := by
  have h : (reg0 m).post c ⊢ iprop(StableHlo.held (c : Thread nD τ) (Pipeline.ucRefs τ sig) (afterRegion (pdats m 0 c) (V7 m c)) ∗ E 1 c) := by
    unfold reg0
    exact RegionSeg.ofHeldIn_post (D := fun _ => 0) (S := Pipeline.ucRefs τ sig) (X := fun c => iprop(∃ r, prngReg c r)) (Y := fun c => iprop(∃ r, prngReg c r)) (R := fun _ => iprop(emp)) (W := fun c => V7 m c) sub0 c
  exact after_first m c ▸ h

/-- The second call is entered from the buffers after the second host operations. -/
theorem pre1 (c : Dev nD) : iprop(StableHlo.held (c : Thread nD τ) (Pipeline.ucRefs τ sig) (mid m c) ∗ E 1 c) ⊢ (reg1 m).pre c := by
  unfold reg1
  exact RegionSeg.ofHeldIn_pre (D := fun _ => 0) (S := Pipeline.ucRefs τ sig) (X := fun c => iprop(∃ r, prngReg c r)) (Y := fun c => iprop(∃ r, prngReg c r)) (R := fun _ => iprop(emp)) (W := fun c => mid m c) sub1 c

/-- It is left with its seven outputs. -/
theorem post1 (c : Dev nD) : (reg1 m).post c ⊢ iprop(StableHlo.held (c : Thread nD τ) (Pipeline.ucRefs τ sig) (V12 m (outs m) c) ∗ E 2 c) := by
  have h : (reg1 m).post c ⊢ iprop(StableHlo.held (c : Thread nD τ) (Pipeline.ucRefs τ sig) (afterRegion (pdats m 1 c) (mid m c)) ∗ E 2 c) := by
    unfold reg1
    exact RegionSeg.ofHeldIn_post (D := fun _ => 0) (S := Pipeline.ucRefs τ sig) (X := fun c => iprop(∃ r, prngReg c r)) (Y := fun c => iprop(∃ r, prngReg c r)) (R := fun _ => iprop(emp)) (W := fun c => mid m c) sub1 c
  exact after_second m c ▸ h

/-- What the second call starts from is the buffers after the second host operations. -/
theorem mid_eq (c : Dev nD) : V11 m (outs m) c = mid m c := by
  have e : V8 m (outs m) c = V8 m (outs₁ m) c := rfl
  show StableHlo.after hostOps1_2 (StableHlo.after hostOps1_1 (StableHlo.after hostOps1 (V8 m (outs m) c))) = _
  rw [e]

/-- The second call is entered from those. -/
theorem pre1' (c : Dev nD) : iprop(StableHlo.held (c : Thread nD τ) (Pipeline.ucRefs τ sig) (V11 m (outs m) c) ∗ E 1 c) ⊢ (reg1 m).pre c := by
  rw [mid_eq]
  exact pre1 m c

set_option backward.isDefEq.respectTransparency.types false in
/-- From any memory with zero counters the two calls run to the end, leave the arguments alone and the counters at zero,
    and every result at what the program leaves in it. -/
theorem run (ρ : Dev nD → PrngReg) :
    θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()), StableHlo.seq hostOps1, StableHlo.seq hostOps1_1,
          StableHlo.seq hostOps1_2, Prog.lift (.customCall (Pipeline.entry 1) ()), StableHlo.seq hostOps2] from rfl]
      dsimp (config := { failIfUnchanged := false }) only
      exact .rfl)
    (fun c => by simp only [segs, Seg.pipes_host, Seg.pipes_region, Seg.pipes_nil]; decide) 0
    (fun g h => if_neg h) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, pre0 m c, post0 m c, .rfl, .rfl, pre1' m c, post1 m c, (BIClass.sep_mono .rfl (by
      iintro ⟨H, -⟩; iexact H))⟩)
    (hinit := ?_) (QY := fun c s => Post m c s)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨⟨h _ (mem_held main_v8_0 (by decide)), h _ (mem_held main_v15_0 (by decide)), h _ (mem_held main_v15_1 (by decide)),
          h _ (mem_held main_v15_2 (by decide)), h _ (mem_held main_v15_3 (by decide)), h _ (mem_held main_v16 (by decide)),
          h _ (mem_held main_v17 (by decide)), h _ (mem_held main_v19 (by decide))⟩,
        (h _ (mem_held main_arg0 (by decide))).trans (V13_main_arg0 m (outs m) c),
        (h _ (mem_held main_arg1 (by decide))).trans (V13_main_arg1 m (outs m) c),
        (h _ (mem_held main_arg2 (by decide))).trans (V13_main_arg2 m (outs m) c),
        (h _ (mem_held main_arg3 (by decide))).trans (V13_main_arg3 m (outs m) c),
        (h _ (mem_held main_arg4 (by decide))).trans (V13_main_arg4 m (outs m) c),
        (h _ (mem_held main_arg5 (by decide))).trans (V13_main_arg5 m (outs m) c),
        (h _ (mem_held main_arg6 (by decide))).trans (V13_main_arg6 m (outs m) c)⟩
    · iexact HSI

end Cert.FrontIdeal.Join

end
-- ==== Proof.Front.HalfVal.lean ====
/- The half step as the first call: its two outputs equal the reference's. -/
module

public import proofs.«01_k».proof.Proof.Front.Half
public import proofs.«01_k».proof.Proof.Ffn.Rows

@[expose] public section

set_option maxRecDepth 16384

noncomputable section

open Idealize.ShloMosaic Idealize.ShloMosaic.TcCoe Idealize.SL.Sem

namespace Cert.FrontIdeal.HalfVal

open Cert.FrontIdeal Cert.FrontIdeal.Gen Cert.FrontIdeal.Half
open Cert.FfnRefIdeal.Read
open Cert.FfnIdeal.Val (Walk Staged out_rows norm_rows rowOf unitOf col rowD padCols_at padRows_at)
open Idealize.ShloMosaic.Pipeline (Dat)

/-- Where each window's block stands at a grid point. -/
theorem idx : ∀ t : Fin cfg0.N, win0_0.index t = ![t.val / 11, 0] ∧ win0_1.index t = ![0, 0] ∧
    win0_2.index t = ![0, t.val % 11] ∧ win0_3.index t = ![0, t.val % 11] ∧ win0_4.index t = ![t.val % 11, 0] ∧
    win0_5.index t = ![0, 0] ∧ win0_6.index t = ![t.val / 11, 0] ∧ win0_7.index t = ![t.val / 11, 0] :=
  (by decide +kernel : ∀ t : Fin grid0.N, _)

/-- The grid has 352 points. -/
theorem lt_N (t : Fin cfg0.N) : t.val < 352 := lt_of_lt_of_eq t.isLt N_0

variable (m : (ℓ : Loc nD τ sig) → Buf (Elt Ideal) ℓ) (c : Dev nD)

/-- The arguments as the reference takes them. -/
abbrev X : Vec Ideal S16384x2048 .f32 := m ((c : Thread nD τ).loc main_arg0)
/-- The gain of the first norm. -/
abbrev Gn : Vec Ideal S2048 .f32 := m ((c : Thread nD τ).loc main_arg1)
/-- The gate weight. -/
abbrev Wg : Vec Ideal S2048x5504 .f32 := m ((c : Thread nD τ).loc main_arg2)
/-- The up weight. -/
abbrev Wu : Vec Ideal S2048x5504 .f32 := m ((c : Thread nD τ).loc main_arg3)
/-- The down weight. -/
abbrev Wd : Vec Ideal S5504x2048 .f32 := m ((c : Thread nD τ).loc main_arg4)
/-- The gain of the second norm. -/
abbrev Pg : Vec Ideal S2048 .f32 := m ((c : Thread nD τ).loc main_arg5)

/-- The gain laid out as one row. -/
theorem v6_at (j : S1x2048.Idx) (k : Fin 2048) (h : (j 1).val = k.val) :
    (V m c main_v6 : Vec Ideal S1x2048 .f32) j = Gn m c (ValueIdx.ix1 k) := by
  obtain rfl : j 1 = k := Fin.ext h
  simp only [V, V7, V6, V5, V4, V3, V2, V1, ← StableHlo.after_append, hostOps0, hostOps0_1, hostOps0_2, hostOps0_3, hostOps0_4, hostOps0_5,
    hostOps0_6, List.cons_append, List.nil_append]
  entry_read
  pointwise
  rfl

/-- The gain laid out as one row. -/
theorem v7_at (j : S1x2048.Idx) (k : Fin 2048) (h : (j 1).val = k.val) :
    (V m c main_v7 : Vec Ideal S1x2048 .f32) j = Pg m c (ValueIdx.ix1 k) := by
  obtain rfl : j 1 = k := Fin.ext h
  simp only [V, V7, V6, V5, V4, V3, V2, V1, ← StableHlo.after_append, hostOps0, hostOps0_1, hostOps0_2, hostOps0_3, hostOps0_4, hostOps0_5,
    hostOps0_6, List.cons_append, List.nil_append]
  entry_read
  pointwise
  rfl

/-- The padded weight the kernel reads, at an entry. -/
theorem v1_at (j : S2048x5632.Idx) (k : Fin 2048) (h : (j 0).val = k.val) :
    (V m c main_v1 : Vec Ideal S2048x5632 .bf16) j =
    if h : (j 1).val < 5504 then Wg m c (ValueIdx.ix2 k ⟨(j 1).val, h⟩) else 0 := by
  simp only [V, V7, V6, V5, V4, V3, V2, V1, ← StableHlo.after_append, hostOps0, hostOps0_1, hostOps0_2, hostOps0_3, hostOps0_4, hostOps0_5,
    hostOps0_6, List.cons_append, List.nil_append]
  entry_read
  exact padCols_at _ j k h

/-- The padded weight the kernel reads, at an entry. -/
theorem v3_at (j : S2048x5632.Idx) (k : Fin 2048) (h : (j 0).val = k.val) :
    (V m c main_v3 : Vec Ideal S2048x5632 .bf16) j =
    if h : (j 1).val < 5504 then Wu m c (ValueIdx.ix2 k ⟨(j 1).val, h⟩) else 0 := by
  simp only [V, V7, V6, V5, V4, V3, V2, V1, ← StableHlo.after_append, hostOps0, hostOps0_1, hostOps0_2, hostOps0_3, hostOps0_4, hostOps0_5,
    hostOps0_6, List.cons_append, List.nil_append]
  entry_read
  exact padCols_at _ j k h

/-- The padded weight the kernel reads, at an entry. -/
theorem v5_at (j : S5632x2048.Idx) (k : Fin 2048) (h : (j 1).val = k.val) :
    (V m c main_v5 : Vec Ideal S5632x2048 .bf16) j =
    if h : (j 0).val < 5504 then Wd m c (ValueIdx.ix2 ⟨(j 0).val, h⟩ k) else 0 := by
  simp only [V, V7, V6, V5, V4, V3, V2, V1, ← StableHlo.after_append, hostOps0, hostOps0_1, hostOps0_2, hostOps0_3, hostOps0_4, hostOps0_5,
    hostOps0_6, List.cons_append, List.nil_append]
  entry_read
  exact padRows_at _ j k h

/-- The blocks the half step stages hold these rows, columns and gains of the arguments. -/
theorem staged : Staged (X m c) (Gn m c) (Wg m c) (Wu m c) (Wd m c) (Pg m c) lt_N
    (fun t => iblk m c 0 t) (fun t => iblk m c 1 t) (fun t => iblk m c 2 t) (fun t => iblk m c 3 t)
    (fun t => iblk m c 4 t) (fun t => iblk m c 5 t) where
  rows t a k := by blk_ext [iblk, V, idx t, rowOf]
  gain t k := by
    refine v6_at m c ((win0_1.blk t).view.emb (ValueIdx.ix2 0 k)) k ?_
    blk_simp [idx t]
  gates t k s := by
    refine (v1_at m c ((win0_2.blk t).view.emb (ValueIdx.ix2 k s)) k ?_).trans ?_
    · blk_simp [idx t]
    · have e : ((win0_2.blk t).view.emb (ValueIdx.ix2 k s) 1).val = (unitOf t.val s).val := by
        blk_simp [idx t, unitOf]; rfl
      simp only [col, e]
  ups t k s := by
    refine (v3_at m c ((win0_3.blk t).view.emb (ValueIdx.ix2 k s)) k ?_).trans ?_
    · blk_simp [idx t]
    · have e : ((win0_3.blk t).view.emb (ValueIdx.ix2 k s) 1).val = (unitOf t.val s).val := by
        blk_simp [idx t, unitOf]; rfl
      simp only [col, e]
  downs t s k := by
    refine (v5_at m c ((win0_4.blk t).view.emb (ValueIdx.ix2 s k)) k ?_).trans ?_
    · blk_simp [idx t]
    · have e : ((win0_4.blk t).view.emb (ValueIdx.ix2 s k) 0).val = (unitOf t.val s).val := by
        blk_simp [idx t, unitOf]; rfl
      simp only [rowD, e]
  post t k := by
    refine v7_at m c ((win0_5.blk t).view.emb (ValueIdx.ix2 0 k)) k ?_
    blk_simp [idx t]

/-- The half step's scratches walk over the hidden units' blocks. -/
theorem walk : Walk (fun t => iblk m c 0 t) (fun t => iblk m c 1 t) (fun t => iblk m c 2 t) (fun t => iblk m c 3 t)
    (fun t => iblk m c 4 t) (fun n h => (outsAt0 m c n h).2.2.1) (fun n h => (outsAt0 m c n h).2.2.2) where
  norm t h := by
    have h1 : ¬ t.val % 11 = 10 := by omega
    show (outsAt0 m c t.val t.isLt).2.2.1 = _
    rw [outsAt0_A m c t h h1]
    frame_out
    rfl
  start t h := by
    have h1 : ¬ t.val % 11 = 10 := by omega
    show (outsAt0 m c t.val t.isLt).2.2.2 = _
    rw [outsAt0_A m c t h h1]
    frame_out
    rfl
  keep t h := by
    show (outsAt0 m c t.val t.isLt).2.2.1 = _
    by_cases h1 : t.val % 11 = 10
    · rw [outsAt0_C m c t h h1]; rfl
    · rw [outsAt0_B m c t h h1]; rfl
  add t h := by
    show (outsAt0 m c t.val t.isLt).2.2.2 = _
    by_cases h1 : t.val % 11 = 10
    · rw [outsAt0_C m c t h h1]; frame_out
      simp only [read_unread_whole]
      rfl
    · rw [outsAt0_B m c t h h1]; frame_out
      simp only [read_unread_whole]
      rfl

/-- The first output array is the reference's first result. -/
theorem arr6 : (half m c).arrAt 6 cfg0.N =
    val_main_v20 (F := Ideal) (X m c) (Gn m c) (Wg m c) (Wu m c) (Wd m c) := by
  refine (half m c).arrAt_eq_of_covers 6 _ (by decide +kernel) fun t hf y => ?_
  have ht : t.val % 11 = 10 := (flush0_6 t).mp hf
  have h0 : ¬ t.val % 11 = 0 := by omega
  blk_simp
  rw [after0_6]
  have e : (outsAt0 m c t.val t.isLt).1 = k0_pay4 (F := Ideal) (iblk m c 0 t) (outsAt0 m c t.val t.isLt).2.2.2 := by
    rw [outsAt0_C m c t h0 ht]
    frame_out
  rw [e]
  refine (out_rows (staged m c) (walk m c) t ht y).trans (congrArg _ (Eq.symm ?_))
  blk_ext [idx t, rowOf]

/-- The second output array is the reference's second result. -/
theorem arr7 : (half m c).arrAt 7 cfg0.N =
    val_main_v34 (F := Ideal) (X m c) (Gn m c) (Wg m c) (Wu m c) (Wd m c) (Pg m c) := by
  refine (half m c).arrAt_eq_of_covers 7 _ (by decide +kernel) fun t hf y => ?_
  have ht : t.val % 11 = 10 := (flush0_7 t).mp hf
  have h0 : ¬ t.val % 11 = 0 := by omega
  blk_simp
  rw [after0_7]
  have e : (outsAt0 m c t.val t.isLt).2.1 =
      k0_pay5 (F := Ideal) (iblk m c 0 t) (outsAt0 m c t.val t.isLt).2.2.2 (iblk m c 5 t) := by
    rw [outsAt0_C m c t h0 ht]
    frame_out
  rw [e]
  refine (norm_rows (staged m c) (walk m c) t ht y).trans (congrArg _ (Eq.symm ?_))
  blk_ext [idx t, rowOf]

end Cert.FrontIdeal.HalfVal

end
-- ==== Proof.Front.ProjVal.lean ====
/- The in-projection as the second call: its seven outputs, of the rows and the weight it starts from. -/
module

public import proofs.«01_k».proof.Proof.Front.Proj
public import proofs.«01_k».proof.Proof.InProj.Value

@[expose] public section

set_option maxRecDepth 16384

noncomputable section

open Idealize.ShloMosaic Idealize.ShloMosaic.TcCoe Idealize.SL.Sem

namespace Cert.FrontIdeal.ProjVal

open Cert.FrontIdeal Cert.FrontIdeal.Gen Cert.FrontIdeal.Proj
open Cert.InProjRefIdeal.Read
open Cert.InProjIdeal.Val (eta dot pk kvDot quarter quarter_row sitofp_zero kv_at)
open Idealize.ShloMosaic.Pipeline (Dat)

variable (W : Dev nD → Valuation τ sig (Elt Ideal)) (c : Dev nD)

/-- The rows the second call reads. -/
abbrev H : Vec Ideal S16384x2048 .bf16 := W c (Proc.devRef .tc main_v8_1)

variable (Wi : Vec Ideal S2048x6680 .f32)

/-- The product block at an entry. -/
theorem prod_at (x0 : Vec Ideal S1024x2048 .bf16) (x1 : Vec Ideal S2048x512 .bf16) (j : S1024x512.Idx) :
    prodOut (F := Ideal) x0 x1 j = dot x0 x1 (j 0) (j 1) := by
  unfold prodOut
  frame_out
  pointwise [k1_pay1, dot]
  rfl

/-- The rounded block at an entry: over the extended reals rounding does nothing. -/
theorem round_at (x0 : Vec Ideal S1024x2048 .bf16) (x1 : Vec Ideal S2048x512 .bf16) (j : S1024x512.Idx) :
    roundOut (F := Ideal) x0 x1 j = dot x0 x1 (j 0) (j 1) := by
  unfold roundOut
  frame_out
  pointwise [k1_pay2, k1_pay1, dot]
  rfl

/-- The gate block at an entry. -/
theorem gate_at (x0 : Vec Ideal S1024x2048 .bf16) (x1 : Vec Ideal S2048x512 .bf16) (j : S1024x128.Idx) :
    gateOut (F := Ideal) x0 x1 j = dot x0 x1 (j 0) ⟨(j 1).val, by have : (j 1).val < 128 := (j 1).isLt; omega⟩ := by
  unfold gateOut
  frame_out
  pointwise [k1_pay22, dot]
  rfl

/-- The product of two whole blocks at an entry. -/
theorem whole_at (x0 : Vec Ideal S1024x2048 .bf16) (x1 : Vec Ideal S2048x512 .bf16) (a : Fin 1024) (b : Fin 512) :
    k1_pay3 (F := Ideal) (View.ld x0 rH) (View.ld x1 rW) (ValueIdx.ix2 a b) = dot x0 x1 a b := by
  pointwise [k1_pay3, dot]
  rfl

/-- The key-value block at an entry. -/
theorem kv_blk_at (x0 : Vec Ideal S1024x2048 .bf16) (x1 : Vec Ideal S2048x512 .bf16) (y : S4096x128.Idx) :
    kvOut (F := Ideal) x0 x1 y = kvDot x0 x1 y := by
  refine View.canon_apply_of_pieces (Val := Elt Ideal) (kvDot x0 x1) _ (fun p hp x => ?_) y (cover_K _ _ _ _ y)
  simp only [List.mem_cons, List.mem_nil_iff, or_false] at hp
  rcases hp with rfl | rfl | rfl | rfl
  · refine Eq.trans ?_ (quarter_row x0 x1 3 (by omega) x _ rfl rfl)
    refine Eq.trans ?_ (whole_at x0 x1 _ _)
    pointwise [k1_pay8]
    rfl
  · refine Eq.trans ?_ (quarter_row x0 x1 2 (by omega) x _ rfl rfl)
    refine Eq.trans ?_ (whole_at x0 x1 _ _)
    pointwise [k1_pay7]
    rfl
  · refine Eq.trans ?_ (quarter_row x0 x1 1 (by omega) x _ rfl rfl)
    refine Eq.trans ?_ (whole_at x0 x1 _ _)
    pointwise [k1_pay6]
    rfl
  · refine Eq.trans ?_ (quarter_row x0 x1 0 (by omega) x _ rfl rfl)
    refine Eq.trans ?_ (whole_at x0 x1 _ _)
    pointwise [k1_pay5]
    rfl

/-! ## The blocks a point reads -/

/-- Where each window's block stands at a grid point. -/
theorem idx : ∀ t : Fin cfg1.N, win1_0.index t = ![t.val / 14, 0] ∧ win1_1.index t = ![0, t.val % 14] ∧
    win1_2.index t = ![t.val / 14, min (t.val % 14) 4] ∧ win1_3.index t = ![t.val / 14, min (t.val % 14) 4] ∧
    win1_4.index t = ![t.val / 14, max 5 (min (t.val % 14) 12) - 5] ∧ win1_5.index t = ![t.val / 14, 0] ∧
    win1_6.index t = ![t.val / 14, 0] ∧ win1_7.index t = ![t.val / 14, 0] ∧ win1_8.index t = ![t.val / 14, 0] :=
  (by decide +kernel : ∀ t : Fin grid1.N, _)

/-- The grid has 224 points. -/
theorem lt_N (t : Fin cfg1.N) : t.val < 224 := lt_of_lt_of_eq t.isLt N_1

/-- A row of a block of rows, as a row of the array. -/
def row (t : Fin cfg1.N) (a : Fin 1024) : Fin 16384 := ⟨t.val / 14 * 1024 + a.val, by have := lt_N t; omega⟩

/-- A column of a block of packed columns, as a packed column. -/
def col (t : Fin cfg1.N) (b : Fin 512) : Fin 7168 := ⟨t.val % 14 * 512 + b.val, by omega⟩

/-- The block of rows a point reads, at an entry. -/
theorem blk0 (t : Fin cfg1.N) (a : Fin 1024) (k : Fin 2048) :
    iblk W c 0 t (ValueIdx.ix2 a k) = H W c (ValueIdx.ix2 (row t a) k) := by
  refine congrArg (W c (Proc.devRef .tc main_v8_1) : Vec Ideal S16384x2048 .bf16) ?_
  blk_ext [idx t, row]

/-- The block of weight columns a point reads, at an entry. -/
theorem blk1 (hW : ∀ j : S2048x7168.Idx, (W c (Proc.devRef .tc main_v14) : Vec Ideal S2048x7168 .bf16) j = pk Wi (j 0) (j 1)) (t : Fin cfg1.N) (k : Fin 2048) (b : Fin 512) :
    iblk W c 1 t (ValueIdx.ix2 k b) = pk Wi k (col t b) := by
  refine (congrArg (V W c main_v14 : Vec Ideal S2048x7168 .bf16)
    (?_ : (win1_1.blk t).view.emb (ValueIdx.ix2 k b) = ValueIdx.ix2 k (col t b))).trans (hW _)
  blk_ext [idx t, col]

/-! ## The reference -/

/-- The whole product the reference slices. -/
abbrev ref (p : Fin 16384) (e : Fin 6680) : EReal := val_main_v1 (F := Ideal) (H W c) Wi (ValueIdx.ix2 p e)

/-- The whole product at an entry. -/
theorem ref_at (p : Fin 16384) (e : Fin 6680) :
    ref W c Wi p e = ∑ k : Fin 2048, H W c (ValueIdx.ix2 p k) * Wi (ValueIdx.ix2 k e) := by
  unfold ref
  pointwise [val_main_v1, val_main_v0]
  rfl

/-- What a grid point computes: the reference's product at the column the packed one stands for, zero past the gates. -/
theorem dot_blk (hW : ∀ j : S2048x7168.Idx, (W c (Proc.devRef .tc main_v14) : Vec Ideal S2048x7168 .bf16) j = pk Wi (j 0) (j 1)) (t : Fin cfg1.N) (a : Fin 1024) (b : Fin 512) :
    dot (iblk W c 0 t) (iblk W c 1 t) a b =
      if h : (col t b).val < 2560 then ref W c Wi (row t a) ⟨(col t b).val, by omega⟩
      else if h' : (col t b).val - 2560 < 4096 then ref W c Wi (row t a) ⟨2584 + ((col t b).val - 2560), by omega⟩
      else if h'' : (col t b).val - 2560 - 4096 < 24 then ref W c Wi (row t a) ⟨2560 + ((col t b).val - 2560 - 4096), by omega⟩
      else 0 := by
  refine (Finset.sum_congr rfl fun k _ => congr (congrArg _ (blk0 W c t a k)) (blk1 W c Wi hW t k b)).trans ?_
  unfold pk
  split_ifs with h h' h''
  · exact (ref_at W c Wi _ _).symm
  · exact (ref_at W c Wi _ _).symm
  · exact (ref_at W c Wi _ _).symm
  · exact Finset.sum_eq_zero fun k _ => mul_zero _

/-- The first results' columns are the whole product's first. -/
theorem v2_at (i : S16384x2560.Idx) : val_main_v2 (F := Ideal) (H W c) Wi i =
    ref W c Wi (i 0) ⟨(i 1).val, by have : (i 1).val < 2560 := (i 1).isLt; omega⟩ := by
  unfold ref
  generalize hy : val_main_v1 (F := Ideal) (H W c) Wi = y
  unfold val_main_v2
  rw [hy]
  pointwise
  rfl

/-- Rounded, over the extended reals, they are the same. -/
theorem v5r_at (i : S16384x2560.Idx) : val_main_v5 (F := Ideal) (H W c) Wi i =
    ref W c Wi (i 0) ⟨(i 1).val, by have : (i 1).val < 2560 := (i 1).isLt; omega⟩ := by
  refine Eq.trans ?_ (v2_at W c Wi i)
  unfold val_main_v5
  generalize val_main_v2 (F := Ideal) (H W c) Wi = y
  pointwise

/-- The third result's columns are the whole product's past the gates. -/
theorem v6_at (i : S16384x4096.Idx) : val_main_v6 (F := Ideal) (H W c) Wi i =
    ref W c Wi (i 0) ⟨2584 + (i 1).val, by have : (i 1).val < 4096 := (i 1).isLt; omega⟩ := by
  unfold ref
  generalize hy : val_main_v1 (F := Ideal) (H W c) Wi = y
  unfold val_main_v6
  rw [hy]
  pointwise
  rfl

/-- The gates are the whole product's 24 gate columns, and zeros. -/
theorem v4_at (i : S16384x128.Idx) : val_main_v4 (F := Ideal) (H W c) Wi i =
    if h : (i 1).val < 24 then ref W c Wi (i 0) ⟨2560 + (i 1).val, by omega⟩ else 0 := by
  unfold ref
  generalize hy : val_main_v1 (F := Ideal) (H W c) Wi = y
  unfold val_main_v4 val_main_v3
  rw [hy]
  pointwise [val_main_call0_v0, val_main_c]
  rw [sitofp_zero]
  rfl

/-- A key-value result's entry of the whole product: n columns in, a quarter of 512 columns a row. -/
def kvRef (n : ℕ) (hn : n ≤ 2048) (i : S65536x128.Idx) : EReal :=
  ref W c Wi ⟨(i 0).val / 4, (quarter i).1⟩ ⟨n + ((i 0).val % 4 * 128 + (i 1).val), by have := (quarter i).2; omega⟩

/-- The reference's first keys and values, at an entry. -/
theorem v8_at (i : S65536x128.Idx) : val_main_v8 (F := Ideal) (H W c) Wi i = kvRef W c Wi 1024 (by omega) i := by
  unfold kvRef ref
  generalize hy : val_main_v1 (F := Ideal) (H W c) Wi = y
  unfold val_main_v8 val_main_v7
  rw [hy]
  refine (kv_at _ i).trans ?_
  pointwise
  rfl

/-- The reference's second keys and values, at an entry. -/
theorem v10_at (i : S65536x128.Idx) : val_main_v10 (F := Ideal) (H W c) Wi i = kvRef W c Wi 1536 (by omega) i := by
  unfold kvRef ref
  generalize hy : val_main_v1 (F := Ideal) (H W c) Wi = y
  unfold val_main_v10 val_main_v9
  rw [hy]
  refine (kv_at _ i).trans ?_
  pointwise
  rfl

/-- The reference's third keys and values, at an entry. -/
theorem v12_at (i : S65536x128.Idx) : val_main_v12 (F := Ideal) (H W c) Wi i = kvRef W c Wi 2048 (by omega) i := by
  unfold kvRef ref
  generalize hy : val_main_v1 (F := Ideal) (H W c) Wi = y
  unfold val_main_v12 val_main_v11
  rw [hy]
  refine (kv_at _ i).trans ?_
  pointwise
  rfl

/-! ## The outputs -/

/-- The row block of the point whose contents a window holds. -/
theorem row_pt (t : Fin cfg1.N) (j : ℕ) (a : Fin 1024) : row (pt t j) a = row t a :=
  Fin.ext (by show (14 * (t.val / 14) + min j 13) / 14 * 1024 + a.val = t.val / 14 * 1024 + a.val; omega)

/-- Its column block. -/
theorem col_pt (t : Fin cfg1.N) (j : ℕ) (hj : j ≤ 13) (b : Fin 512) : (col (pt t j) b).val = j * 512 + b.val := by
  show (14 * (t.val / 14) + min j 13) % 14 * 512 + b.val = j * 512 + b.val
  omega

/-- The product block of a point of the first five column steps is the reference's first columns. -/
theorem dot_lo (hW : ∀ j : S2048x7168.Idx, (W c (Proc.devRef .tc main_v14) : Vec Ideal S2048x7168 .bf16) j = pk Wi (j 0) (j 1)) (t : Fin cfg1.N) (j : ℕ) (hj : j ≤ 4) (a : Fin 1024) (b : Fin 512) :
    dot (iblk W c 0 (pt t j)) (iblk W c 1 (pt t j)) a b = ref W c Wi (row t a) ⟨j * 512 + b.val, by omega⟩ := by
  have hc := col_pt t j (by omega) b
  refine (dot_blk W c Wi hW (pt t j) a b).trans ((dif_pos (by omega)).trans ?_)
  exact congr (congrArg _ (row_pt t j a)) (Fin.ext hc)

/-- The product block of a point of the next eight is the reference's columns past the gates. -/
theorem dot_mid (hW : ∀ j : S2048x7168.Idx, (W c (Proc.devRef .tc main_v14) : Vec Ideal S2048x7168 .bf16) j = pk Wi (j 0) (j 1)) (t : Fin cfg1.N) (j : ℕ) (h : 5 ≤ j) (hj : j ≤ 12) (a : Fin 1024) (b : Fin 512) :
    dot (iblk W c 0 (pt t j)) (iblk W c 1 (pt t j)) a b =
      ref W c Wi (row t a) ⟨2584 + ((j - 5) * 512 + b.val), by omega⟩ := by
  have hc := col_pt t j (by omega) b
  refine (dot_blk W c Wi hW (pt t j) a b).trans ((dif_neg (by omega)).trans ((dif_pos (by omega)).trans ?_))
  exact congr (congrArg _ (row_pt t j a)) (Fin.ext (by
    show 2584 + ((col (pt t j) b).val - 2560) = 2584 + ((j - 5) * 512 + b.val)
    omega))

/-- The product block of a row block's last point is the gates, and zeros. -/
theorem dot_gate (hW : ∀ j : S2048x7168.Idx, (W c (Proc.devRef .tc main_v14) : Vec Ideal S2048x7168 .bf16) j = pk Wi (j 0) (j 1)) (t : Fin cfg1.N) (a : Fin 1024) (b : Fin 512) :
    dot (iblk W c 0 (pt t 13)) (iblk W c 1 (pt t 13)) a b =
      if h : b.val < 24 then ref W c Wi (row t a) ⟨2560 + b.val, by omega⟩ else 0 := by
  have hc := col_pt t 13 le_rfl b
  refine (dot_blk W c Wi hW (pt t 13) a b).trans ((dif_neg (by omega)).trans ((dif_neg (by omega)).trans ?_))
  by_cases h : b.val < 24
  · rw [dif_pos h]
    refine (dif_pos (by omega)).trans ?_
    exact congr (congrArg _ (row_pt t 13 a)) (Fin.ext (by
      show 2560 + ((col (pt t 13) b).val - 2560 - 4096) = 2560 + b.val
      omega))
  · rw [dif_neg h]
    exact dif_neg (by omega)

/-- The first output is the reference's first columns. -/
theorem arr2 (hW : ∀ j : S2048x7168.Idx, (W c (Proc.devRef .tc main_v14) : Vec Ideal S2048x7168 .bf16) j = pk Wi (j 0) (j 1)) : (proj W c).arrAt 2 cfg1.N = val_main_v2 (F := Ideal) (H W c) Wi := by
  refine (proj W c).arrAt_eq_of_covers 2 _ (by decide +kernel) fun t hf y => ?_
  blk_simp
  rw [after2 W c t _ rfl]
  refine (prod_at _ _ _).trans ((dot_lo W c Wi hW t _ (by omega) _ _).trans (Eq.trans ?_ (v2_at W c Wi _).symm))
  refine congr (congrArg _ (Fin.ext ?_)) (Fin.ext ?_)
  · blk_ext [idx t, row]
  · blk_ext [idx t, row]

/-- The second output is the same rounded. -/
theorem arr3 (hW : ∀ j : S2048x7168.Idx, (W c (Proc.devRef .tc main_v14) : Vec Ideal S2048x7168 .bf16) j = pk Wi (j 0) (j 1)) : (proj W c).arrAt 3 cfg1.N = val_main_v5 (F := Ideal) (H W c) Wi := by
  refine (proj W c).arrAt_eq_of_covers 3 _ (by decide +kernel) fun t hf y => ?_
  blk_simp
  rw [after3 W c t _ rfl]
  refine (round_at _ _ _).trans ((dot_lo W c Wi hW t _ (by omega) _ _).trans (Eq.trans ?_ (v5r_at W c Wi _).symm))
  refine congr (congrArg _ (Fin.ext ?_)) (Fin.ext ?_)
  · blk_ext [idx t, row]
  · blk_ext [idx t, row]

/-- The third output is the reference's columns past the gates. -/
theorem arr4 (hW : ∀ j : S2048x7168.Idx, (W c (Proc.devRef .tc main_v14) : Vec Ideal S2048x7168 .bf16) j = pk Wi (j 0) (j 1)) : (proj W c).arrAt 4 cfg1.N = val_main_v6 (F := Ideal) (H W c) Wi := by
  refine (proj W c).arrAt_eq_of_covers 4 _ (by decide +kernel) fun t hf y => ?_
  blk_simp
  rw [after4 W c t _ rfl]
  refine (prod_at _ _ _).trans ((dot_mid W c Wi hW t _ (by omega) (by omega) _ _).trans (Eq.trans ?_ (v6_at W c Wi _).symm))
  refine congr (congrArg _ (Fin.ext ?_)) (Fin.ext ?_)
  · blk_ext [idx t, row]
  · blk_ext [idx t, row]

/-- The gate output is the reference's gates and zeros. -/
theorem arr5 (hW : ∀ j : S2048x7168.Idx, (W c (Proc.devRef .tc main_v14) : Vec Ideal S2048x7168 .bf16) j = pk Wi (j 0) (j 1)) : (proj W c).arrAt 5 cfg1.N = val_main_v4 (F := Ideal) (H W c) Wi := by
  refine (proj W c).arrAt_eq_of_covers 5 _ (by decide +kernel) fun t hf y => ?_
  blk_simp
  rw [after5 W c t]
  refine (gate_at _ _ _).trans ((dot_gate W c Wi hW t _ _).trans (Eq.trans ?_ (v4_at W c Wi _).symm))
  have e : (win1_5.blk t).view.emb y = ValueIdx.ix2 (row t (y 0)) (y 1) := by blk_ext [idx t, row]
  rw [e]

/-- A key-value output is 512 of the reference's columns, each row laid out as four. -/
theorem kv_blk (hW : ∀ j : S2048x7168.Idx, (W c (Proc.devRef .tc main_v14) : Vec Ideal S2048x7168 .bf16) j = pk Wi (j 0) (j 1)) (t : Fin cfg1.N) (j : ℕ) (hj : j ≤ 4) (y : S4096x128.Idx) (i : S65536x128.Idx)
    (h0 : (i 0).val = t.val / 14 * 4096 + (y 0).val) (h1 : (i 1).val = (y 1).val) :
    kvOut (F := Ideal) (iblk W c 0 (pt t j)) (iblk W c 1 (pt t j)) y = kvRef W c Wi (j * 512) (by omega) i := by
  refine (kv_blk_at _ _ _).trans ((dot_lo W c Wi hW t j hj _ _).trans ?_)
  refine congr (congrArg _ (Fin.ext ?_)) (Fin.ext ?_)
  · show t.val / 14 * 1024 + (y 0).val / 4 = (i 0).val / 4
    omega
  · show j * 512 + ((y 0).val % 4 * 128 + (y 1).val) = j * 512 + ((i 0).val % 4 * 128 + (i 1).val)
    omega

/-- The first key-value output is the reference's. -/
theorem arr6 (hW : ∀ j : S2048x7168.Idx, (W c (Proc.devRef .tc main_v14) : Vec Ideal S2048x7168 .bf16) j = pk Wi (j 0) (j 1)) : (proj W c).arrAt 6 cfg1.N = val_main_v8 (F := Ideal) (H W c) Wi := by
  refine (proj W c).arrAt_eq_of_covers 6 _ (by decide +kernel) fun t hf y => ?_
  blk_simp
  rw [after6 W c t]
  refine (kv_blk W c Wi hW t 2 (by omega) _ ((win1_6.blk t).view.emb y) ?_ ?_).trans (v8_at W c Wi _).symm
  all_goals blk_ext [idx t]

/-- The second key-value output is the reference's. -/
theorem arr7 (hW : ∀ j : S2048x7168.Idx, (W c (Proc.devRef .tc main_v14) : Vec Ideal S2048x7168 .bf16) j = pk Wi (j 0) (j 1)) : (proj W c).arrAt 7 cfg1.N = val_main_v10 (F := Ideal) (H W c) Wi := by
  refine (proj W c).arrAt_eq_of_covers 7 _ (by decide +kernel) fun t hf y => ?_
  blk_simp
  rw [after7 W c t]
  refine (kv_blk W c Wi hW t 3 (by omega) _ ((win1_7.blk t).view.emb y) ?_ ?_).trans (v10_at W c Wi _).symm
  all_goals blk_ext [idx t]

/-- The third key-value output is the reference's. -/
theorem arr8 (hW : ∀ j : S2048x7168.Idx, (W c (Proc.devRef .tc main_v14) : Vec Ideal S2048x7168 .bf16) j = pk Wi (j 0) (j 1)) : (proj W c).arrAt 8 cfg1.N = val_main_v12 (F := Ideal) (H W c) Wi := by
  refine (proj W c).arrAt_eq_of_covers 8 _ (by decide +kernel) fun t hf y => ?_
  blk_simp
  rw [after8 W c t]
  refine (kv_blk W c Wi hW t 4 (by omega) _ ((win1_8.blk t).view.emb y) ?_ ?_).trans (v12_at W c Wi _).symm
  all_goals blk_ext [idx t]

end Cert.FrontIdeal.ProjVal

end
-- ==== Proof.Front.Compose.lean ====
/- The two calls' results, of the arguments alone. -/
module

public import proofs.«01_k».proof.Proof.Front.Join
public import proofs.«01_k».proof.Proof.Front.HalfVal
public import proofs.«01_k».proof.Proof.Front.ProjVal
public import proofs.«01_k».proof.Proof.Gen.FrontRefIdeal.Read

@[expose] public section

set_option maxRecDepth 16384

noncomputable section

open Idealize.ShloMosaic Idealize.ShloMosaic.TcCoe Idealize.SL.Sem

namespace Cert.FrontIdeal.Compose

open Cert.FrontIdeal Cert.FrontIdeal.Gen Cert.FrontIdeal.Join
open Cert.InProjIdeal.Val (eta pk cat_at pad_at)
open Cert.FrontIdeal.HalfVal (X Gn Wg Wu Wd Pg)

/-! ## The packed weight between the calls -/

/-- The weight packed as the kernel packs it: the first columns, the ones past the gates, and the gates padded with zeros. -/
def packed (Wi : Vec Ideal S2048x6680 .f32) : Vec Ideal S2048x7168 .bf16 :=
  truncf .bf16 (concatenate S2048x7168 1 [⟨S2048x2560, extractStridedSlice S2048x2560 ![0, 0] Wi slices_S2048x6680_S2048x2560_0_0⟩,
    ⟨S2048x4096, extractStridedSlice S2048x4096 ![0, 2584] Wi slices_S2048x6680_S2048x4096_0_2584⟩,
    ⟨S2048x512, pad S2048x512 ![0, 0] ![0, 488] ![0, 0] (extractStridedSlice S2048x24 ![0, 2560] Wi slices_S2048x6680_S2048x24_0_2560)
      (sitofp (F := Ideal) .f32 (constantI S_ 32 0#32)) pads_S2048x24_S2048x512_000_04880 h_S_⟩]
    concatenates_S2048x2560_S2048x4096_S2048x512_S2048x7168_d1) bitsLt_bf16_f32

/-- The packed weight as the packing between the two calls builds it, from any contents. -/
theorem pack_eq (U : Valuation τ sig (Elt Ideal)) :
    (StableHlo.after (hostOps1 ++ hostOps1_1 ++ hostOps1_2) U (Proc.devRef .tc main_v14) : Vec Ideal S2048x7168 .bf16) =
    packed (U (Proc.devRef .tc main_arg6)) := by
  unfold packed
  generalize hR : truncf (F := Ideal) _ _ _ = R
  dsimp only [hostOps1, hostOps1_1, hostOps1_2]
  entry_read
  exact hR

/-- The packed weight, at an entry. -/
theorem pack_at (U : Valuation τ sig (Elt Ideal)) (Wi : Vec Ideal S2048x6680 .f32) (hU : (U (Proc.devRef .tc main_arg6) : Vec Ideal S2048x6680 .f32) = Wi)
    (j : S2048x7168.Idx) :
    (StableHlo.after hostOps1_2 (StableHlo.after hostOps1_1 (StableHlo.after hostOps1 U)) (Proc.devRef .tc main_v14) : Vec Ideal S2048x7168 .bf16) j =
      pk Wi (j 0) (j 1) := by
  refine (congrFun ((congrFun (by rw [StableHlo.after_append, StableHlo.after_append]) _).trans ((pack_eq U).trans (congrArg packed hU))) j).trans ?_
  rw [← eta j]
  refine (cat_at _ _ _ (j 0) (j 1)).trans ?_
  unfold pk
  split_ifs with h h' h''
  · pointwise
    rfl
  · pointwise
    rfl
  · refine (pad_at _ (j 0) _).trans ((dif_pos h'').trans ?_)
    pointwise
    rfl
  · exact (pad_at _ (j 0) _).trans (dif_neg h'')

variable (m : (ℓ : Loc nD τ sig) → Buf (Elt Ideal) ℓ) (c : Dev nD)

/-- The in-projection's weight as the reference takes it. -/
abbrev Wi : Vec Ideal S2048x6680 .f32 := m ((c : Thread nD τ).loc main_arg6)

/-- The first call leaves the in-projection's weight alone. -/
theorem weight_kept (o : Outs (F := Ideal)) : V8 m o c main_arg6 = m ((c : Thread nD τ).loc main_arg6) :=
  (V8_of m o c main_arg6 (by decide)).trans <| (V7_of m c main_arg6 (by decide)).trans <| (V6_of m c main_arg6 (by decide)).trans <|
    (V5_of m c main_arg6 (by decide)).trans <| (V4_of m c main_arg6 (by decide)).trans <| (V3_of m c main_arg6 (by decide)).trans <|
    (V2_of m c main_arg6 (by decide)).trans <| (V1_of m c main_arg6 (by decide)).trans rfl

/-- The packed weight the second call starts from. -/
theorem mid_weight (j : S2048x7168.Idx) :
    (mid m c (Proc.devRef .tc main_v14) : Vec Ideal S2048x7168 .bf16) j = pk (Wi m c) (j 0) (j 1) :=
  pack_at (V8 m (outs₁ m) c) (Wi m c) (weight_kept m c _) j

/-! ## What the calls leave -/

/-- The packing leaves the first call's outputs alone. -/
theorem packed_keeps (o : Outs (F := Ideal)) (r : Ref sig .tc) (h : r ∉ hostOps1_W) (h1 : r ∉ hostOps1_1_W) (h2 : r ∉ hostOps1_2_W) :
    V11 m o c r = V8 m o c r :=
  (V11_of m o c r h2).trans ((V10_of m o c r h1).trans (V9_of m o c r h))

/-- The contents after the first call, at the two outputs. -/
theorem first_arr (w : Fin cfg0.W) :
    V8 m (outs m) c (Proc.devRef .tc (Pipeline.arrRef cfg0.spec w)) = (Half.half m c).arrAt w cfg0.N :=
  (congrFun (after_first m c).symm _).trans
    ((Pipeline.afterRegion_arr (first m c) (V7 m c) launch0.win.arr_inj w).trans (carry_arrAt _ w _))

/-- The contents after the second call, at its windows' arrays. -/
theorem second_arr (w : Fin cfg1.W) :
    V12 m (outs m) c (Proc.devRef .tc (Pipeline.arrRef cfg1.spec w)) = (Proj.proj (mid m) c).arrAt w cfg1.N :=
  (congrFun (after_second m c).symm _).trans
    (Pipeline.afterRegion_arr (Proj.proj (mid m) c) (mid m c) launch1.win.arr_inj w)

/-- The rows the second call reads are the reference's rows. -/
theorem mid_rows : ProjVal.H (mid m) c =
    Cert.FfnRefIdeal.Read.val_main_v34 (F := Ideal) (X m c) (Gn m c) (Wg m c) (Wu m c) (Wd m c) (Pg m c) :=
  (congrFun (mid_eq m c).symm _).trans
    ((packed_keeps m c (outs m) main_v8_1 (by decide) (by decide) (by decide)).trans
      ((first_arr m c 7).trans (HalfVal.arr7 m c)))

/-! ## The reference's terms -/

section Ref
variable (x0 : Vec Ideal S16384x2048 .f32) (x1 : Vec Ideal S2048 .f32) (x2 x3 : Vec Ideal S2048x5504 .f32) (x4 : Vec Ideal S5504x2048 .f32)
  (x5 : Vec Ideal S2048 .f32) (x6 : Vec Ideal S2048x6680 .f32)

/-- The reference's first half is the feed-forward reference's. -/
theorem ref20 : Cert.FrontRefIdeal.Read.val_main_v20 (F := Ideal) x0 x1 x2 x3 x4 = Cert.FfnRefIdeal.Read.val_main_v20 (F := Ideal) x0 x1 x2 x3 x4 := by
  with_unfolding_all rfl

/-- So are its normalised rows. -/
theorem ref34 : Cert.FrontRefIdeal.Read.val_main_v34 (F := Ideal) x0 x1 x2 x3 x4 x5 = Cert.FfnRefIdeal.Read.val_main_v34 (F := Ideal) x0 x1 x2 x3 x4 x5 := by
  with_unfolding_all rfl

/-- Its product is the in-projection reference's, of those rows. -/
theorem ref36 : Cert.FrontRefIdeal.Read.val_main_v36 (F := Ideal) x0 x1 x2 x3 x4 x5 x6 =
    Cert.InProjRefIdeal.Read.val_main_v1 (F := Ideal) (Cert.FrontRefIdeal.Read.val_main_v34 (F := Ideal) x0 x1 x2 x3 x4 x5) x6 := rfl

end Ref

/-! ## The results -/

/-- The first call's result is the reference's. -/
theorem res_rows : fin m c main_v8_0 =
    Cert.FrontRefIdeal.Read.val_main_v20 (F := Ideal) (X m c) (Gn m c) (Wg m c) (Wu m c) (Wd m c) :=
  (V13_of m (outs m) c main_v8_0 (by decide)).trans <| (V12_of m (outs m) c main_v8_0 (by decide)).trans
    ((packed_keeps m c (outs m) main_v8_0 (by decide) (by decide) (by decide)).trans
      ((first_arr m c 6).trans ((HalfVal.arr6 m c).trans (ref20 _ _ _ _ _).symm)))

/-- The rows the second call reads, in the reference's words. -/
theorem rows_ref : ProjVal.H (mid m) c =
    Cert.FrontRefIdeal.Read.val_main_v34 (F := Ideal) (X m c) (Gn m c) (Wg m c) (Wu m c) (Wd m c) (Pg m c) :=
  (mid_rows m c).trans (ref34 _ _ _ _ _ _).symm

/-- The second call's first output is the reference's. -/
theorem out0 : V12 m (outs m) c main_v15_0 =
    Cert.FrontRefIdeal.Read.val_main_v37 (F := Ideal) (X m c) (Gn m c) (Wg m c) (Wu m c) (Wd m c) (Pg m c) (Wi m c) :=
  (second_arr m c 2).trans ((ProjVal.arr2 (mid m) c (Wi m c) (mid_weight m c)).trans
    ((congrArg (fun h => Cert.InProjRefIdeal.Read.val_main_v2 (F := Ideal) h (Wi m c)) (rows_ref m c)).trans rfl))

/-- Its second, the rounded one. -/
theorem out1 : V12 m (outs m) c main_v15_1 =
    Cert.FrontRefIdeal.Read.val_main_v40 (F := Ideal) (X m c) (Gn m c) (Wg m c) (Wu m c) (Wd m c) (Pg m c) (Wi m c) :=
  (second_arr m c 3).trans ((ProjVal.arr3 (mid m) c (Wi m c) (mid_weight m c)).trans
    ((congrArg (fun h => Cert.InProjRefIdeal.Read.val_main_v5 (F := Ideal) h (Wi m c)) (rows_ref m c)).trans rfl))

/-- Its third, past the gates. -/
theorem out2 : V12 m (outs m) c main_v15_2 =
    Cert.FrontRefIdeal.Read.val_main_v41 (F := Ideal) (X m c) (Gn m c) (Wg m c) (Wu m c) (Wd m c) (Pg m c) (Wi m c) :=
  (second_arr m c 4).trans ((ProjVal.arr4 (mid m) c (Wi m c) (mid_weight m c)).trans
    ((congrArg (fun h => Cert.InProjRefIdeal.Read.val_main_v6 (F := Ideal) h (Wi m c)) (rows_ref m c)).trans rfl))

/-- Its fourth, the gates. -/
theorem out3 : V12 m (outs m) c main_v15_3 =
    Cert.FrontRefIdeal.Read.val_main_v39 (F := Ideal) (X m c) (Gn m c) (Wg m c) (Wu m c) (Wd m c) (Pg m c) (Wi m c) :=
  (second_arr m c 5).trans ((ProjVal.arr5 (mid m) c (Wi m c) (mid_weight m c)).trans
    ((congrArg (fun h => Cert.InProjRefIdeal.Read.val_main_v4 (F := Ideal) h (Wi m c)) (rows_ref m c)).trans rfl))

/-- Its fifth, the first keys and values. -/
theorem out4 : V12 m (outs m) c main_v15_4 =
    Cert.FrontRefIdeal.Read.val_main_v43 (F := Ideal) (X m c) (Gn m c) (Wg m c) (Wu m c) (Wd m c) (Pg m c) (Wi m c) :=
  (second_arr m c 6).trans ((ProjVal.arr6 (mid m) c (Wi m c) (mid_weight m c)).trans
    ((congrArg (fun h => Cert.InProjRefIdeal.Read.val_main_v8 (F := Ideal) h (Wi m c)) (rows_ref m c)).trans rfl))

/-- Its sixth, the second keys and values. -/
theorem out5 : V12 m (outs m) c main_v15_5 =
    Cert.FrontRefIdeal.Read.val_main_v45 (F := Ideal) (X m c) (Gn m c) (Wg m c) (Wu m c) (Wd m c) (Pg m c) (Wi m c) :=
  (second_arr m c 7).trans ((ProjVal.arr7 (mid m) c (Wi m c) (mid_weight m c)).trans
    ((congrArg (fun h => Cert.InProjRefIdeal.Read.val_main_v10 (F := Ideal) h (Wi m c)) (rows_ref m c)).trans rfl))

/-- Its seventh, the third keys and values. -/
theorem out6 : V12 m (outs m) c main_v15_6 =
    Cert.FrontRefIdeal.Read.val_main_v47 (F := Ideal) (X m c) (Gn m c) (Wg m c) (Wu m c) (Wd m c) (Pg m c) (Wi m c) :=
  (second_arr m c 8).trans ((ProjVal.arr8 (mid m) c (Wi m c) (mid_weight m c)).trans
    ((congrArg (fun h => Cert.InProjRefIdeal.Read.val_main_v12 (F := Ideal) h (Wi m c)) (rows_ref m c)).trans rfl))

/-! ## The reshapes after the second call -/

/-- The reshape at the end, of the first keys and values. -/
theorem tail16 (U : Valuation τ sig (Elt Ideal)) : (StableHlo.after hostOps2 U (Proc.devRef .tc main_v16) : Vec Ideal S1x2x8192x2x2x128 .f32) =
    shapeCast S1x2x8192x2x2x128 (U (Proc.devRef .tc main_v15_4) : Vec Ideal S65536x128 .f32) shapeCasts_S65536x128_S1x2x8192x2x2x128 := by
  dsimp only [hostOps2]
  entry_read
  rfl

/-- The reshape at the end, of the second keys and values. -/
theorem tail17 (U : Valuation τ sig (Elt Ideal)) : (StableHlo.after hostOps2 U (Proc.devRef .tc main_v17) : Vec Ideal S1x2x8192x2x2x128 .f32) =
    shapeCast S1x2x8192x2x2x128 (U (Proc.devRef .tc main_v15_5) : Vec Ideal S65536x128 .f32) shapeCasts_S65536x128_S1x2x8192x2x2x128 := by
  dsimp only [hostOps2]
  entry_read
  rfl

/-- The reshape at the end, of the third keys and values, and the slice of the last positions. -/
theorem tail19 (U : Valuation τ sig (Elt Ideal)) : (StableHlo.after hostOps2 U (Proc.devRef .tc main_v19) : Vec Ideal S1x2x512x2x2x128 .f32) =
    extractStridedSlice S1x2x512x2x2x128 ![0, 0, 7680, 0, 0, 0]
      (shapeCast S1x2x8192x2x2x128 (U (Proc.devRef .tc main_v15_6) : Vec Ideal S65536x128 .f32) shapeCasts_S65536x128_S1x2x8192x2x2x128)
      slices_S1x2x8192x2x2x128_S1x2x512x2x2x128_0_0_7680_0_0_0 := by
  dsimp only [hostOps2]
  entry_read
  rfl

/-- The projected rows at the end are the reference's. -/
theorem res0 : fin m c main_v15_0 =
    Cert.FrontRefIdeal.Read.val_main_v37 (F := Ideal) (X m c) (Gn m c) (Wg m c) (Wu m c) (Wd m c) (Pg m c) (Wi m c) :=
  (V13_of m (outs m) c main_v15_0 (by decide)).trans (out0 m c)

/-- So are the rounded ones. -/
theorem res1 : fin m c main_v15_1 =
    Cert.FrontRefIdeal.Read.val_main_v40 (F := Ideal) (X m c) (Gn m c) (Wg m c) (Wu m c) (Wd m c) (Pg m c) (Wi m c) :=
  (V13_of m (outs m) c main_v15_1 (by decide)).trans (out1 m c)

/-- So are the columns past the gates. -/
theorem res2 : fin m c main_v15_2 =
    Cert.FrontRefIdeal.Read.val_main_v41 (F := Ideal) (X m c) (Gn m c) (Wg m c) (Wu m c) (Wd m c) (Pg m c) (Wi m c) :=
  (V13_of m (outs m) c main_v15_2 (by decide)).trans (out2 m c)

/-- So are the gates. -/
theorem res3 : fin m c main_v15_3 =
    Cert.FrontRefIdeal.Read.val_main_v39 (F := Ideal) (X m c) (Gn m c) (Wg m c) (Wu m c) (Wd m c) (Pg m c) (Wi m c) :=
  (V13_of m (outs m) c main_v15_3 (by decide)).trans (out3 m c)

/-- The compression branch's keys and values at the end are the reference's. -/
theorem res4 : fin m c main_v16 =
    Cert.FrontRefIdeal.Read.val_main_v48 (F := Ideal) (X m c) (Gn m c) (Wg m c) (Wu m c) (Wd m c) (Pg m c) (Wi m c) :=
  (tail16 (V12 m (outs m) c)).trans (by rw [out4]; rfl)

/-- So are the selection branch's. -/
theorem res5 : fin m c main_v17 =
    Cert.FrontRefIdeal.Read.val_main_v49 (F := Ideal) (X m c) (Gn m c) (Wg m c) (Wu m c) (Wd m c) (Pg m c) (Wi m c) :=
  (tail17 (V12 m (outs m) c)).trans (by rw [out5]; rfl)

/-- So are the last positions of the window branch's. -/
theorem res6 : fin m c main_v19 =
    Cert.FrontRefIdeal.Read.val_main_v51 (F := Ideal) (X m c) (Gn m c) (Wg m c) (Wu m c) (Wd m c) (Pg m c) (Wi m c) :=
  (tail19 (V12 m (outs m) c)).trans (by rw [out6]; rfl)

end Cert.FrontIdeal.Compose

end
-- ==== Proof.Front.Claim.lean ====
/- The claims of the two calls in one. -/
module

public import proofs.«01_k».proof.Defs
public import proofs.«01_k».proof.Proof.Gen.Front
public import proofs.«01_k».proof.Proof.Front.Compose
public import proofs.«01_k».proof.Proof.Gen.FrontRefIdeal.Run

@[expose] public section

set_option maxRecDepth 16384

noncomputable section

open Idealize.ShloMosaic Idealize.SL.Sem

namespace Cert.Front

set_option maxHeartbeats 4000000 in
/-- The kernel and its idealization have the same two bodies, at the compiled values, -/
theorem body_same : @Front.defs₀ Bits _ Front.Gen.facts = @FrontIdeal.defs₀ Bits _ FrontIdeal.Gen.facts :=
  congrArg Defs.onTc (funext fun l => funext fun a => match l, a with
    | ⟨0, _⟩, (_, _) => by with_unfolding_all rfl
    | ⟨1, _⟩, (_, _) => by with_unfolding_all rfl)

/-- the same functions, -/
theorem defs_same : @Front.defs Bits _ Front.Gen.facts = @FrontIdeal.defs Bits _ FrontIdeal.Gen.facts :=
  congrArg (Pipeline.defs (FrontIdeal.pcfgs (F := Bits))) body_same

set_option maxHeartbeats 4000000 in
/-- and the same program. -/
theorem main_same : @Front.main Bits _ Front.Gen.facts = @FrontIdeal.main Bits _ FrontIdeal.Gen.facts := by
  with_unfolding_all rfl

end Cert.Front

namespace Cert.Proof

/-- The two calls run to the end, leave their arguments alone and their counters at zero. -/
theorem front_frame : Cert.quiescent_Front (hFront := Cert.Front.Gen.facts) := fun m ρ _ => by
  rw [Cert.Front.defs_same, Cert.Front.main_same]
  exact (θ_run _ _ _).mono (fun r h => ⟨fun c => (h.1 c).2, h.2⟩) (Cert.FrontIdeal.Join.run (F := Bits) m ρ)

/-- So does their idealization. -/
theorem frontIdeal_frame : Cert.quiescent_FrontIdeal (hFrontIdeal := Cert.FrontIdeal.Gen.facts) :=
  fun m ρ _ => (θ_run Cert.FrontIdeal.defs _ _).mono (fun r h => ⟨fun c => (h.1 c).2, h.2⟩) (Cert.FrontIdeal.Join.run m ρ)

/-- So does the reference. -/
theorem frontRef_frame : Cert.quiescent_FrontRefIdeal (hFrontRefIdeal := Cert.FrontRefIdeal.Gen.facts) :=
  fun m ρ _ => (θ_run Cert.FrontRefIdeal.defs _ _).mono
    (fun r h => ⟨fun c => (h c).2.2.2.2.2.2.2.2, Idealize.ShloMosaic.sem_eq_zero_of_no_sems (by decide) r.2⟩)
    (Cert.FrontRefIdeal.Value.run (F := Ideal) m ρ)

open Cert.FrontIdeal Cert.FrontIdeal.Join Cert.FrontIdeal.Compose Cert.FrontRefIdeal.Read in
/-- Over the extended reals the two calls and the reference end with the same eight results. -/
theorem front_algebraic : Cert.algebraic_FrontIdeal_FrontRefIdeal (hFrontIdeal := Cert.FrontIdeal.Gen.facts)
    (hFrontRefIdeal := Cert.FrontRefIdeal.Gen.facts) := by
  intro m ρ m' ρ' _ hagree
  refine ⟨fun c => fin m c (Proc.devRef .tc main_v8_0), fun c => fin m c (Proc.devRef .tc main_v15_0), fun c => fin m c (Proc.devRef .tc main_v15_1), fun c => fin m c (Proc.devRef .tc main_v15_2),
    fun c => fin m c (Proc.devRef .tc main_v15_3), fun c => fin m c (Proc.devRef .tc main_v16), fun c => fin m c (Proc.devRef .tc main_v17), fun c => fin m c (Proc.devRef .tc main_v19),
    (θ_run Cert.FrontIdeal.defs _ _).mono (fun r h c => ?_) (Cert.FrontIdeal.Join.run m ρ),
    (θ_run Cert.FrontRefIdeal.defs _ _).mono (fun r h c => ?_) (Cert.FrontRefIdeal.Value.run (F := Ideal) m' ρ')⟩
  · obtain ⟨⟨e, e0, e1, e2, e3, e4, e5, e6⟩, kept⟩ := h.1 c
    exact ⟨e, e0, e1, e2, e3, e4, e5, e6, kept⟩
  · obtain ⟨r20, r37, r40, r41, r39, r48, r49, r51, kept⟩ := h c
    obtain ⟨h0, h1, h2, h3, h4, h5, h6⟩ := hagree c
    rw [val_main_v37_eq, h0, h1, h2, h3, h4, h5, h6] at r37
    rw [val_main_v40_eq, h0, h1, h2, h3, h4, h5, h6] at r40
    rw [val_main_v41_eq, h0, h1, h2, h3, h4, h5, h6] at r41
    rw [val_main_v39_eq, h0, h1, h2, h3, h4, h5, h6] at r39
    rw [val_main_v48_eq, h0, h1, h2, h3, h4, h5, h6] at r48
    rw [val_main_v49_eq, h0, h1, h2, h3, h4, h5, h6] at r49
    rw [val_main_v51_eq, h0, h1, h2, h3, h4, h5, h6] at r51
    rw [val_main_v20_eq, h0, h1, h2, h3, h4] at r20
    exact ⟨r20.trans (res_rows m c).symm, r37.trans (res0 m c).symm, r40.trans (res1 m c).symm, r41.trans (res2 m c).symm,
      r39.trans (res3 m c).symm, r48.trans (res4 m c).symm, r49.trans (res5 m c).symm, r51.trans (res6 m c).symm, kept⟩

end Cert.Proof

end
-- ==== Proof.lean ====
/- Everything the certificate claims. -/
module

public import proofs.«01_k».proof.Defs
public import proofs.«01_k».proof.Proof.Ffn.Claim
public import proofs.«01_k».proof.Proof.Hgrn.Claim
public import proofs.«01_k».proof.Proof.OutProj.Claim
public import proofs.«01_k».proof.Proof.InProj.Claim
public import proofs.«01_k».proof.Proof.Cmp.Claim
public import proofs.«01_k».proof.Proof.FfnEnd.Claim
public import proofs.«01_k».proof.Proof.Nsa.Claim
public import proofs.«01_k».proof.Proof.Bias.Claim
public import proofs.«01_k».proof.Proof.Front.Claim

@[expose] public section

noncomputable section

namespace Cert.Proof

open Idealize.ShloMosaic Idealize.SL.Sem

/-- The whole claim. -/
theorem claim : Cert.Claim :=
  ⟨Cert.Hgrn.Gen.facts, Cert.HgrnIdeal.Gen.facts, Cert.HgrnRefIdeal.Gen.facts,
    Cert.Ffn.Gen.facts, Cert.FfnIdeal.Gen.facts, Cert.FfnRefIdeal.Gen.facts,
    Cert.OutProj.Gen.facts, Cert.OutProjIdeal.Gen.facts, Cert.OutProjRefIdeal.Gen.facts,
    Cert.InProj.Gen.facts, Cert.InProjIdeal.Gen.facts, Cert.InProjRefIdeal.Gen.facts,
    Cert.Cmp.Gen.facts, Cert.CmpIdeal.Gen.facts, Cert.CmpRefIdeal.Gen.facts,
    Cert.FfnEnd.Gen.facts, Cert.FfnEndIdeal.Gen.facts, Cert.FfnEndRefIdeal.Gen.facts,
    Cert.Nsa.Gen.facts, Cert.NsaIdeal.Gen.facts,
    Cert.Bias.Gen.facts, Cert.BiasIdeal.Gen.facts, Cert.BiasRefIdeal.Gen.facts,
    Cert.Front.Gen.facts, Cert.FrontIdeal.Gen.facts, Cert.FrontRefIdeal.Gen.facts,
    hgrn_frame, hgrnIdeal_frame, hgrnRef_frame, ffn_frame, ffnIdeal_frame, ffnRef_frame,
    outProj_frame, outProjIdeal_frame, outProjRef_frame, inProj_frame, inProjIdeal_frame, inProjRef_frame,
    cmp_frame, cmpIdeal_frame, cmpRef_frame, ffnEnd_frame, ffnEndIdeal_frame, ffnEndRef_frame, nsa_frame, nsaIdeal_frame,
    bias_frame, biasIdeal_frame, biasRef_frame, front_frame, frontIdeal_frame, frontRef_frame,
    hgrn_preserves, hgrn_algebraic, trivial, ffn_algebraic, trivial, outProj_algebraic,
    trivial, inProj_algebraic, trivial, cmp_algebraic, trivial, ffnEnd_algebraic, trivial, trivial, bias_algebraic,
    trivial, front_algebraic⟩

end Cert.Proof

end
